-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))).2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))).1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))).2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite2 [hPre_finite2 : Cert.Pre_finite2.Facts] (m : (ℓ : Loc Cert.PostIdeal.nD Cert.PostIdeal.τ Cert.PostIdeal.sig) → Buf (Elt Ideal) ℓ) : Prop :=
  ∀ c : Dev Cert.PostIdeal.nD,
    (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).1 = (fun _ => 1#1)
    ∧ (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.1 = (fun _ => 1#1)
    ∧ (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.2.1 = (fun _ => 1#1)
    ∧ (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.2.2.1 = (fun _ => 1#1)
    ∧ (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.2.2.2.1 = (fun _ => 1#1)
    ∧ (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.2.2.2.2.1 = (fun _ => 1#1)
    ∧ (Cert.Pre_finite2.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite2 [hPre_finite2 : Cert.Pre_finite2.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).1 = (fun _ => 1#1)
    ∧ (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.1 = (fun _ => 1#1)
    ∧ (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.2.1 = (fun _ => 1#1)
    ∧ (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.2.2.1 = (fun _ => 1#1)
    ∧ (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.2.2.2.1 = (fun _ => 1#1)
    ∧ (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.2.2.2.2.1 = (fun _ => 1#1)
    ∧ (Cert.Pre_finite2.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.2.2.2.2.2 = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite3 [hPre_finite3 : Cert.Pre_finite3.Facts] (m : (ℓ : Loc Cert.LastIdeal.nD Cert.LastIdeal.τ Cert.LastIdeal.sig) → Buf (Elt Ideal) ℓ) : Prop :=
  ∀ c : Dev Cert.LastIdeal.nD,
    (Cert.Pre_finite3.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))).1 = (fun _ => 1#1)
    ∧ (Cert.Pre_finite3.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))).2.1 = (fun _ => 1#1)
    ∧ (Cert.Pre_finite3.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))).2.2.1 = (fun _ => 1#1)
    ∧ (Cert.Pre_finite3.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))).2.2.2.1 = (fun _ => 1#1)
    ∧ (Cert.Pre_finite3.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))).2.2.2.2.1 = (fun _ => 1#1)
    ∧ (Cert.Pre_finite3.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))).2.2.2.2.2 = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite3 [hPre_finite3 : Cert.Pre_finite3.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite3.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))).1 = (fun _ => 1#1)
    ∧ (Cert.Pre_finite3.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))).2.1 = (fun _ => 1#1)
    ∧ (Cert.Pre_finite3.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))).2.2.1 = (fun _ => 1#1)
    ∧ (Cert.Pre_finite3.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))).2.2.2.1 = (fun _ => 1#1)
    ∧ (Cert.Pre_finite3.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))).2.2.2.2.1 = (fun _ => 1#1)
    ∧ (Cert.Pre_finite3.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))).2.2.2.2.2 = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddIdeal_finite3 [hPre_finite3 : Cert.Pre_finite3.Facts] (m : (ℓ : Loc Cert.OddIdeal.nD Cert.OddIdeal.τ Cert.OddIdeal.sig) → Buf (Elt Ideal) ℓ) : Prop :=
  ∀ c : Dev Cert.OddIdeal.nD,
    (Cert.Pre_finite3.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10))).1 = (fun _ => 1#1)
    ∧ (Cert.Pre_finite3.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10))).2.1 = (fun _ => 1#1)
    ∧ (Cert.Pre_finite3.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10))).2.2.1 = (fun _ => 1#1)
    ∧ (Cert.Pre_finite3.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10))).2.2.2.1 = (fun _ => 1#1)
    ∧ (Cert.Pre_finite3.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10))).2.2.2.2.1 = (fun _ => 1#1)
    ∧ (Cert.Pre_finite3.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10))).2.2.2.2.2 = (fun _ => 1#1)

def Pre_OddRefIdeal (m : (ℓ : Loc Cert.OddRefIdeal.nD Cert.OddRefIdeal.τ Cert.OddRefIdeal.sig) → Buf (Elt Ideal) ℓ) : Prop :=
  True

def Pre_OddRefIdeal_finite3 [hPre_finite3 : Cert.Pre_finite3.Facts] (m : (ℓ : Loc Cert.OddRefIdeal.nD Cert.OddRefIdeal.τ Cert.OddRefIdeal.sig) → Buf (Elt Ideal) ℓ) : Prop :=
  ∀ c : Dev Cert.OddRefIdeal.nD,
    (Cert.Pre_finite3.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10))).1 = (fun _ => 1#1)
    ∧ (Cert.Pre_finite3.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10))).2.1 = (fun _ => 1#1)
    ∧ (Cert.Pre_finite3.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10))).2.2.1 = (fun _ => 1#1)
    ∧ (Cert.Pre_finite3.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10))).2.2.2.1 = (fun _ => 1#1)
    ∧ (Cert.Pre_finite3.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10))).2.2.2.2.1 = (fun _ => 1#1)
    ∧ (Cert.Pre_finite3.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10))).2.2.2.2.2 = (fun _ => 1#1)

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_MemIn (m : (ℓ : Loc Cert.MemIn.nD Cert.MemIn.τ Cert.MemIn.sig) → Buf (Elt Bits) ℓ) : Prop :=
  True

def Pre_MemInIdeal (m : (ℓ : Loc Cert.MemInIdeal.nD Cert.MemInIdeal.τ Cert.MemInIdeal.sig) → Buf (Elt Ideal) ℓ) : Prop :=
  True

def Pre_MemInRefIdeal (m : (ℓ : Loc Cert.MemInRefIdeal.nD Cert.MemInRefIdeal.τ Cert.MemInRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostIdeal_pre_finite2 [hPostIdeal : Cert.PostIdeal.Facts] [hPre_finite2 : Cert.Pre_finite2.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite2 m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_PostRefIdeal_pre_finite2 [hPostRefIdeal : Cert.PostRefIdeal.Facts] [hPre_finite2 : Cert.Pre_finite2.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite2 m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastIdeal_pre_finite3 [hLastIdeal : Cert.LastIdeal.Facts] [hPre_finite3 : Cert.Pre_finite3.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite3 m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10))
      ∧ r.2.sem = fun _ => 0)

def quiescent_LastRefIdeal_pre_finite3 [hLastRefIdeal : Cert.LastRefIdeal.Facts] [hPre_finite3 : Cert.Pre_finite3.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite3 m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9)
      ∧ r.2.mem ((c.tc : Thread Cert.Odd.nD Cert.Odd.τ).loc Cert.Odd.main_arg10) = m ((c.tc : Thread Cert.Odd.nD Cert.Odd.τ).loc Cert.Odd.main_arg10))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10))
      ∧ r.2.sem = fun _ => 0)

def quiescent_OddIdeal_pre_finite3 [hOddIdeal : Cert.OddIdeal.Facts] [hPre_finite3 : Cert.Pre_finite3.Facts] : Prop :=
  ∀ (m : (ℓ : Loc Cert.OddIdeal.nD Cert.OddIdeal.τ Cert.OddIdeal.sig) → Buf (Elt Ideal) ℓ) (g : Dev Cert.OddIdeal.nD → PrngReg), Pre_OddIdeal_finite3 m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9)
      ∧ r.2.mem ((c.tc : Thread Cert.OddRefIdeal.nD Cert.OddRefIdeal.τ).loc Cert.OddRefIdeal.main_arg10) = m ((c.tc : Thread Cert.OddRefIdeal.nD Cert.OddRefIdeal.τ).loc Cert.OddRefIdeal.main_arg10))
      ∧ r.2.sem = fun _ => 0)

def quiescent_OddRefIdeal_pre_finite3 [hOddRefIdeal : Cert.OddRefIdeal.Facts] [hPre_finite3 : Cert.Pre_finite3.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal_finite3 m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9)
      ∧ r.2.mem ((c.tc : Thread Cert.OddRefIdeal.nD Cert.OddRefIdeal.τ).loc Cert.OddRefIdeal.main_arg10) = m ((c.tc : Thread Cert.OddRefIdeal.nD Cert.OddRefIdeal.τ).loc Cert.OddRefIdeal.main_arg10))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_MemIn [hMemIn : Cert.MemIn.Facts] : Prop :=
  ∀ (m : (ℓ : Loc Cert.MemIn.nD Cert.MemIn.τ Cert.MemIn.sig) → Buf (Elt Bits) ℓ) (g : Dev Cert.MemIn.nD → PrngReg), Pre_MemIn m →
    θ_run (Cert.MemIn.defs (F := Bits)) (onTc (τ := Cert.MemIn.τ) (Cert.MemIn.main (F := Bits))) ⟨m, fun _ => 0, g⟩ (fun r => (∀ c : Dev Cert.MemIn.nD,
      r.2.mem ((c.tc : Thread Cert.MemIn.nD Cert.MemIn.τ).loc Cert.MemIn.main_arg0) = m ((c.tc : Thread Cert.MemIn.nD Cert.MemIn.τ).loc Cert.MemIn.main_arg0)
      ∧ r.2.mem ((c.tc : Thread Cert.MemIn.nD Cert.MemIn.τ).loc Cert.MemIn.main_arg1) = m ((c.tc : Thread Cert.MemIn.nD Cert.MemIn.τ).loc Cert.MemIn.main_arg1)
      ∧ r.2.mem ((c.tc : Thread Cert.MemIn.nD Cert.MemIn.τ).loc Cert.MemIn.main_arg2) = m ((c.tc : Thread Cert.MemIn.nD Cert.MemIn.τ).loc Cert.MemIn.main_arg2))
      ∧ r.2.sem = fun _ => 0)

def quiescent_MemInIdeal [hMemInIdeal : Cert.MemInIdeal.Facts] : Prop :=
  ∀ (m : (ℓ : Loc Cert.MemInIdeal.nD Cert.MemInIdeal.τ Cert.MemInIdeal.sig) → Buf (Elt Ideal) ℓ) (g : Dev Cert.MemInIdeal.nD → PrngReg), Pre_MemInIdeal m →
    θ_run (Cert.MemInIdeal.defs (F := Ideal)) (onTc (τ := Cert.MemInIdeal.τ) (Cert.MemInIdeal.main (F := Ideal))) ⟨m, fun _ => 0, g⟩ (fun r => (∀ c : Dev Cert.MemInIdeal.nD,
      r.2.mem ((c.tc : Thread Cert.MemInIdeal.nD Cert.MemInIdeal.τ).loc Cert.MemInIdeal.main_arg0) = m ((c.tc : Thread Cert.MemInIdeal.nD Cert.MemInIdeal.τ).loc Cert.MemInIdeal.main_arg0)
      ∧ r.2.mem ((c.tc : Thread Cert.MemInIdeal.nD Cert.MemInIdeal.τ).loc Cert.MemInIdeal.main_arg1) = m ((c.tc : Thread Cert.MemInIdeal.nD Cert.MemInIdeal.τ).loc Cert.MemInIdeal.main_arg1)
      ∧ r.2.mem ((c.tc : Thread Cert.MemInIdeal.nD Cert.MemInIdeal.τ).loc Cert.MemInIdeal.main_arg2) = m ((c.tc : Thread Cert.MemInIdeal.nD Cert.MemInIdeal.τ).loc Cert.MemInIdeal.main_arg2))
      ∧ r.2.sem = fun _ => 0)

def quiescent_MemInRefIdeal [hMemInRefIdeal : Cert.MemInRefIdeal.Facts] : Prop :=
  ∀ (m : (ℓ : Loc Cert.MemInRefIdeal.nD Cert.MemInRefIdeal.τ Cert.MemInRefIdeal.sig) → Buf (Elt Ideal) ℓ) (g : Dev Cert.MemInRefIdeal.nD → PrngReg), Pre_MemInRefIdeal m →
    θ_run (Cert.MemInRefIdeal.defs (F := Ideal)) (onTc (τ := Cert.MemInRefIdeal.τ) (Cert.MemInRefIdeal.main (F := Ideal))) ⟨m, fun _ => 0, g⟩ (fun r => (∀ c : Dev Cert.MemInRefIdeal.nD,
      r.2.mem ((c.tc : Thread Cert.MemInRefIdeal.nD Cert.MemInRefIdeal.τ).loc Cert.MemInRefIdeal.main_arg0) = m ((c.tc : Thread Cert.MemInRefIdeal.nD Cert.MemInRefIdeal.τ).loc Cert.MemInRefIdeal.main_arg0)
      ∧ r.2.mem ((c.tc : Thread Cert.MemInRefIdeal.nD Cert.MemInRefIdeal.τ).loc Cert.MemInRefIdeal.main_arg1) = m ((c.tc : Thread Cert.MemInRefIdeal.nD Cert.MemInRefIdeal.τ).loc Cert.MemInRefIdeal.main_arg1)
      ∧ r.2.mem ((c.tc : Thread Cert.MemInRefIdeal.nD Cert.MemInRefIdeal.τ).loc Cert.MemInRefIdeal.main_arg2) = m ((c.tc : Thread Cert.MemInRefIdeal.nD Cert.MemInRefIdeal.τ).loc Cert.MemInRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v14)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v14) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v39) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Post_PostIdeal : Prop :=
  IdealRules.named_const.Statement Cert.PostIdeal.κ "scale" .f32 0x3DB504F3#32 (((Real.sqrt 128)⁻¹ : ℝ) : EReal)

def algebraic_PostIdeal_PostRefIdeal_pre_finite2 [hPostIdeal : Cert.PostIdeal.Facts] [hPostRefIdeal : Cert.PostRefIdeal.Facts] [hPre_finite2 : Cert.Pre_finite2.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite2 m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v59) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Last_LastIdeal : Prop :=
  IdealRules.named_const.Statement Cert.LastIdeal.κ "scale" .f32 0x3DB504F3#32 (((Real.sqrt 128)⁻¹ : ℝ) : EReal)

def algebraic_LastIdeal_LastRefIdeal_pre_finite3 [hLastIdeal : Cert.LastIdeal.Facts] [hLastRefIdeal : Cert.LastRefIdeal.Facts] [hPre_finite3 : Cert.Pre_finite3.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite3 m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)) →
    ∃ (v0 : (c : Dev Cert.LastIdeal.nD) → Buf (Elt Ideal) ((c.tc : Thread Cert.LastIdeal.nD Cert.LastIdeal.τ).loc Cert.LastIdeal.main_v10)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v10) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v71) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10))

def preserves_Odd_OddIdeal : Prop :=
  IdealRules.named_const.Statement Cert.OddIdeal.κ "scale" .f32 0x3DB504F3#32 (((Real.sqrt 128)⁻¹ : ℝ) : EReal)

def algebraic_OddIdeal_OddRefIdeal_pre_finite3 [hOddIdeal : Cert.OddIdeal.Facts] [hOddRefIdeal : Cert.OddRefIdeal.Facts] [hPre_finite3 : Cert.Pre_finite3.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal_finite3 m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)
      ∧ m' ((c.tc : Thread Cert.OddRefIdeal.nD Cert.OddRefIdeal.τ).loc Cert.OddRefIdeal.main_arg9) = m ((c.tc : Thread Cert.OddIdeal.nD Cert.OddIdeal.τ).loc Cert.OddIdeal.main_arg9)
      ∧ m' ((c.tc : Thread Cert.OddRefIdeal.nD Cert.OddRefIdeal.τ).loc Cert.OddRefIdeal.main_arg10) = m ((c.tc : Thread Cert.OddIdeal.nD Cert.OddIdeal.τ).loc Cert.OddIdeal.main_arg10)) →
    ∃ (v0 : (c : Dev Cert.OddIdeal.nD) → Buf (Elt Ideal) ((c.tc : Thread Cert.OddIdeal.nD Cert.OddIdeal.τ).loc Cert.OddIdeal.main_v10)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v10) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
          ∧ r.2.mem ((c.tc : Thread Cert.OddIdeal.nD Cert.OddIdeal.τ).loc Cert.OddIdeal.main_arg10) = m ((c.tc : Thread Cert.OddIdeal.nD Cert.OddIdeal.τ).loc Cert.OddIdeal.main_arg10))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v58) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8)
          ∧ r.2.mem ((c.tc : Thread Cert.OddRefIdeal.nD Cert.OddRefIdeal.τ).loc Cert.OddRefIdeal.main_arg9) = m' ((c.tc : Thread Cert.OddRefIdeal.nD Cert.OddRefIdeal.τ).loc Cert.OddRefIdeal.main_arg9)
          ∧ r.2.mem ((c.tc : Thread Cert.OddRefIdeal.nD Cert.OddRefIdeal.τ).loc Cert.OddRefIdeal.main_arg10) = m' ((c.tc : Thread Cert.OddRefIdeal.nD Cert.OddRefIdeal.τ).loc Cert.OddRefIdeal.main_arg10))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)) →
    ∃ (v0 : (c : Dev Cert.SsmInIdeal.nD) → Buf (Elt Ideal) ((c.tc : Thread Cert.SsmInIdeal.nD Cert.SsmInIdeal.τ).loc Cert.SsmInIdeal.main_v6_0)) (v1 : (c : Dev Cert.SsmInIdeal.nD) → Buf (Elt Ideal) ((c.tc : Thread Cert.SsmInIdeal.nD Cert.SsmInIdeal.τ).loc Cert.SsmInIdeal.main_v6_1)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v6_0) = v0 c
          ∧ r.2.mem ((c.tc : Thread Cert.SsmInIdeal.nD Cert.SsmInIdeal.τ).loc Cert.SsmInIdeal.main_v6_1) = v1 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v15) = v0 c
          ∧ r.2.mem ((c.tc : Thread Cert.SsmInRefIdeal.nD Cert.SsmInRefIdeal.τ).loc Cert.SsmInRefIdeal.main_v17) = v1 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v14_0)) (v1 : (c : Dev Cert.EvenInIdeal.nD) → Buf (Elt Ideal) ((c.tc : Thread Cert.EvenInIdeal.nD Cert.EvenInIdeal.τ).loc Cert.EvenInIdeal.main_v14_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v14_0) = v0 c
          ∧ r.2.mem ((c.tc : Thread Cert.EvenInIdeal.nD Cert.EvenInIdeal.τ).loc Cert.EvenInIdeal.main_v14_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v20) = v0 c
          ∧ r.2.mem ((c.tc : Thread Cert.EvenInRefIdeal.nD Cert.EvenInRefIdeal.τ).loc Cert.EvenInRefIdeal.main_v22) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_MemIn_MemInIdeal : Prop :=
  True

def algebraic_MemInIdeal_MemInRefIdeal [hMemInIdeal : Cert.MemInIdeal.Facts] [hMemInRefIdeal : Cert.MemInRefIdeal.Facts] : Prop :=
  ∀ (m : (ℓ : Loc Cert.MemInIdeal.nD Cert.MemInIdeal.τ Cert.MemInIdeal.sig) → Buf (Elt Ideal) ℓ) (g : Dev Cert.MemInIdeal.nD → PrngReg)
    (m' : (ℓ : Loc Cert.MemInRefIdeal.nD Cert.MemInRefIdeal.τ Cert.MemInRefIdeal.sig) → Buf (Elt Ideal) ℓ) (g' : Dev Cert.MemInRefIdeal.nD → PrngReg), Pre_MemInIdeal m →
    (∀ c : Dev Cert.MemInIdeal.nD,
      m' ((c.tc : Thread Cert.MemInRefIdeal.nD Cert.MemInRefIdeal.τ).loc Cert.MemInRefIdeal.main_arg0) = m ((c.tc : Thread Cert.MemInIdeal.nD Cert.MemInIdeal.τ).loc Cert.MemInIdeal.main_arg0)
      ∧ m' ((c.tc : Thread Cert.MemInRefIdeal.nD Cert.MemInRefIdeal.τ).loc Cert.MemInRefIdeal.main_arg1) = m ((c.tc : Thread Cert.MemInIdeal.nD Cert.MemInIdeal.τ).loc Cert.MemInIdeal.main_arg1)
      ∧ m' ((c.tc : Thread Cert.MemInRefIdeal.nD Cert.MemInRefIdeal.τ).loc Cert.MemInRefIdeal.main_arg2) = m ((c.tc : Thread Cert.MemInIdeal.nD Cert.MemInIdeal.τ).loc Cert.MemInIdeal.main_arg2)) →
    ∃ (v0 : (c : Dev Cert.MemInIdeal.nD) → Buf (Elt Ideal) ((c.tc : Thread Cert.MemInIdeal.nD Cert.MemInIdeal.τ).loc Cert.MemInIdeal.main_v2)),
      θ_run (Cert.MemInIdeal.defs (F := Ideal)) (onTc (τ := Cert.MemInIdeal.τ) (Cert.MemInIdeal.main (F := Ideal))) ⟨m, fun _ => 0, g⟩ (fun r => ∀ c : Dev Cert.MemInIdeal.nD,
          r.2.mem ((c.tc : Thread Cert.MemInIdeal.nD Cert.MemInIdeal.τ).loc Cert.MemInIdeal.main_v2) = v0 c
          ∧ r.2.mem ((c.tc : Thread Cert.MemInIdeal.nD Cert.MemInIdeal.τ).loc Cert.MemInIdeal.main_arg0) = m ((c.tc : Thread Cert.MemInIdeal.nD Cert.MemInIdeal.τ).loc Cert.MemInIdeal.main_arg0)
          ∧ r.2.mem ((c.tc : Thread Cert.MemInIdeal.nD Cert.MemInIdeal.τ).loc Cert.MemInIdeal.main_arg1) = m ((c.tc : Thread Cert.MemInIdeal.nD Cert.MemInIdeal.τ).loc Cert.MemInIdeal.main_arg1)
          ∧ r.2.mem ((c.tc : Thread Cert.MemInIdeal.nD Cert.MemInIdeal.τ).loc Cert.MemInIdeal.main_arg2) = m ((c.tc : Thread Cert.MemInIdeal.nD Cert.MemInIdeal.τ).loc Cert.MemInIdeal.main_arg2))
      ∧ θ_run (Cert.MemInRefIdeal.defs (F := Ideal)) (onTc (τ := Cert.MemInRefIdeal.τ) (Cert.MemInRefIdeal.main (F := Ideal))) ⟨m', fun _ => 0, g'⟩ (fun r => ∀ c : Dev Cert.MemInRefIdeal.nD,
          r.2.mem ((c.tc : Thread Cert.MemInRefIdeal.nD Cert.MemInRefIdeal.τ).loc Cert.MemInRefIdeal.main_v14) = v0 c
          ∧ r.2.mem ((c.tc : Thread Cert.MemInRefIdeal.nD Cert.MemInRefIdeal.τ).loc Cert.MemInRefIdeal.main_arg0) = m' ((c.tc : Thread Cert.MemInRefIdeal.nD Cert.MemInRefIdeal.τ).loc Cert.MemInRefIdeal.main_arg0)
          ∧ r.2.mem ((c.tc : Thread Cert.MemInRefIdeal.nD Cert.MemInRefIdeal.τ).loc Cert.MemInRefIdeal.main_arg1) = m' ((c.tc : Thread Cert.MemInRefIdeal.nD Cert.MemInRefIdeal.τ).loc Cert.MemInRefIdeal.main_arg1)
          ∧ r.2.mem ((c.tc : Thread Cert.MemInRefIdeal.nD Cert.MemInRefIdeal.τ).loc Cert.MemInRefIdeal.main_arg2) = m' ((c.tc : Thread Cert.MemInRefIdeal.nD Cert.MemInRefIdeal.τ).loc Cert.MemInRefIdeal.main_arg2))

def preserves_Gates_GatesIdeal : Prop :=
  IdealRules.named_const.Statement Cert.GatesIdeal.κ "log2e" .f32 0x3FB8AA3B#32 (((Real.log 2)⁻¹ : ℝ) : EReal)

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v11) = v0 c
          ∧ r.2.mem ((c.tc : Thread Cert.GatesRefIdeal.nD Cert.GatesRefIdeal.τ).loc Cert.GatesRefIdeal.main_v13) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def Claim : Prop :=
  ∃ (hFox : Cert.Fox.Facts) (hFoxIdeal : Cert.FoxIdeal.Facts) (hFoxRefIdeal : Cert.FoxRefIdeal.Facts) (hPost : Cert.Post.Facts) (hPostIdeal : Cert.PostIdeal.Facts) (hPostRefIdeal : Cert.PostRefIdeal.Facts) (hLast : Cert.Last.Facts) (hLastIdeal : Cert.LastIdeal.Facts) (hLastRefIdeal : Cert.LastRefIdeal.Facts) (hOdd : Cert.Odd.Facts) (hOddIdeal : Cert.OddIdeal.Facts) (hOddRefIdeal : Cert.OddRefIdeal.Facts) (hSsmIn : Cert.SsmIn.Facts) (hSsmInIdeal : Cert.SsmInIdeal.Facts) (hSsmInRefIdeal : Cert.SsmInRefIdeal.Facts) (hEvenIn : Cert.EvenIn.Facts) (hEvenInIdeal : Cert.EvenInIdeal.Facts) (hEvenInRefIdeal : Cert.EvenInRefIdeal.Facts) (hMemIn : Cert.MemIn.Facts) (hMemInIdeal : Cert.MemInIdeal.Facts) (hMemInRefIdeal : Cert.MemInRefIdeal.Facts) (hGates : Cert.Gates.Facts) (hGatesIdeal : Cert.GatesIdeal.Facts) (hGatesRefIdeal : Cert.GatesRefIdeal.Facts) (hPre_finite : Cert.Pre_finite.Facts) (hPre_finite2 : Cert.Pre_finite2.Facts) (hPre_finite3 : Cert.Pre_finite3.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Post (hPost := hPost)
    ∧ quiescent_PostIdeal (hPostIdeal := hPostIdeal)
    ∧ quiescent_PostIdeal_pre_finite2 (hPostIdeal := hPostIdeal) (hPre_finite2 := hPre_finite2)
    ∧ quiescent_PostRefIdeal (hPostRefIdeal := hPostRefIdeal)
    ∧ quiescent_PostRefIdeal_pre_finite2 (hPostRefIdeal := hPostRefIdeal) (hPre_finite2 := hPre_finite2)
    ∧ quiescent_Last (hLast := hLast)
    ∧ quiescent_LastIdeal (hLastIdeal := hLastIdeal)
    ∧ quiescent_LastIdeal_pre_finite3 (hLastIdeal := hLastIdeal) (hPre_finite3 := hPre_finite3)
    ∧ quiescent_LastRefIdeal (hLastRefIdeal := hLastRefIdeal)
    ∧ quiescent_LastRefIdeal_pre_finite3 (hLastRefIdeal := hLastRefIdeal) (hPre_finite3 := hPre_finite3)
    ∧ quiescent_Odd (hOdd := hOdd)
    ∧ quiescent_OddIdeal (hOddIdeal := hOddIdeal)
    ∧ quiescent_OddIdeal_pre_finite3 (hOddIdeal := hOddIdeal) (hPre_finite3 := hPre_finite3)
    ∧ quiescent_OddRefIdeal (hOddRefIdeal := hOddRefIdeal)
    ∧ quiescent_OddRefIdeal_pre_finite3 (hOddRefIdeal := hOddRefIdeal) (hPre_finite3 := hPre_finite3)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_MemIn (hMemIn := hMemIn)
    ∧ quiescent_MemInIdeal (hMemInIdeal := hMemInIdeal)
    ∧ quiescent_MemInRefIdeal (hMemInRefIdeal := hMemInRefIdeal)
    ∧ quiescent_Gates (hGates := hGates)
    ∧ quiescent_GatesIdeal (hGatesIdeal := hGatesIdeal)
    ∧ quiescent_GatesRefIdeal (hGatesRefIdeal := hGatesRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Post_PostIdeal
    ∧ algebraic_PostIdeal_PostRefIdeal_pre_finite2 (hPostIdeal := hPostIdeal) (hPostRefIdeal := hPostRefIdeal) (hPre_finite2 := hPre_finite2)
    ∧ preserves_Last_LastIdeal
    ∧ algebraic_LastIdeal_LastRefIdeal_pre_finite3 (hLastIdeal := hLastIdeal) (hLastRefIdeal := hLastRefIdeal) (hPre_finite3 := hPre_finite3)
    ∧ preserves_Odd_OddIdeal
    ∧ algebraic_OddIdeal_OddRefIdeal_pre_finite3 (hOddIdeal := hOddIdeal) (hOddRefIdeal := hOddRefIdeal) (hPre_finite3 := hPre_finite3)
    ∧ preserves_SsmIn_SsmInIdeal
    ∧ algebraic_SsmInIdeal_SsmInRefIdeal (hSsmInIdeal := hSsmInIdeal) (hSsmInRefIdeal := hSsmInRefIdeal)
    ∧ preserves_EvenIn_EvenInIdeal
    ∧ algebraic_EvenInIdeal_EvenInRefIdeal (hEvenInIdeal := hEvenInIdeal) (hEvenInRefIdeal := hEvenInRefIdeal)
    ∧ preserves_MemIn_MemInIdeal
    ∧ algebraic_MemInIdeal_MemInRefIdeal (hMemInIdeal := hMemInIdeal) (hMemInRefIdeal := hMemInRefIdeal)
    ∧ preserves_Gates_GatesIdeal
    ∧ algebraic_GatesIdeal_GatesRefIdeal (hGatesIdeal := hGatesIdeal) (hGatesRefIdeal := hGatesRefIdeal)
-- ==== Pre_finite.lean ====
abbrev S65536x3072 : Shape := ⟨2, ![65536, 3072]⟩
abbrev S65536x8 : Shape := ⟨2, ![65536, 8]⟩
abbrev S_ : Shape := ⟨0, ![]⟩

class Facts : Prop where
  bcast_S_S65536x3072 : S_.BroadcastsInDim S65536x3072 (![] : Fin 0 → Fin S65536x3072.rank)
  bcast_S_S65536x8 : S_.BroadcastsInDim S65536x8 (![] : Fin 0 → Fin S65536x8.rank)

variable [Facts]

def fn {F : FTy → Type} [FloatOps F] (main_arg0 : FVec F S65536x3072 .f32) (main_arg1 : FVec F S65536x8 .f32) : IVec S65536x3072 1 × IVec S65536x8 1 :=
  let main_v0 : FVec F S65536x3072 .f32 := Host.absf main_arg0
  let main_cst : FVec F S_ .f32 := constant S_ .f32 0x7F800000#32
  let main_v1 : FVec F S65536x3072 .f32 := broadcastInDim S65536x3072 ![] bcast_S_S65536x3072 main_cst
  let main_v2 : IVec S65536x3072 1 := cmpf .olt main_v0 main_v1
  let main_v3 : FVec F S65536x8 .f32 := Host.absf main_arg1
  let main_cst_0 : FVec F S_ .f32 := constant S_ .f32 0x7F800000#32
  let main_v4 : FVec F S65536x8 .f32 := broadcastInDim S65536x8 ![] bcast_S_S65536x8 main_cst_0
  let main_v5 : IVec S65536x8 1 := cmpf .olt main_v3 main_v4
  (main_v2, main_v5)
-- ==== Pre_finite2.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩

class Facts : Prop where
  bcast_S_S65536x1024 : S_.BroadcastsInDim S65536x1024 (![] : Fin 0 → Fin S65536x1024.rank)
  bcast_S_S65536x512 : S_.BroadcastsInDim S65536x512 (![] : Fin 0 → Fin S65536x512.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x512 : S_.BroadcastsInDim S1024x512 (![] : Fin 0 → Fin S1024x512.rank)
  bcast_S_S8192x1024 : S_.BroadcastsInDim S8192x1024 (![] : Fin 0 → Fin S8192x1024.rank)

variable [Facts]

def fn_part1 {F : FTy → Type} [FloatOps F] (main_arg6 : FVec F S8192x1024 .f32) (main_v2 : IVec S65536x1024 1) (main_v5 : IVec S65536x512 1) (main_v8 : IVec S65536x512 1) (main_v11 : IVec S1024x1024 1) (main_v14 : IVec S1024 1) (main_v17 : IVec S1024x512 1) : IVec S65536x1024 1 × IVec S65536x512 1 × IVec S65536x512 1 × IVec S1024x1024 1 × IVec S1024 1 × IVec S1024x512 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S65536x1024 .f32) (main_arg1 : FVec F S65536x512 .f32) (main_arg2 : FVec F S65536x512 .f32) (main_arg3 : FVec F S1024x1024 .f32) (main_arg4 : FVec F S1024 .f32) (main_arg5 : FVec F S1024x512 .f32) (main_arg6 : FVec F S8192x1024 .f32) (main_arg7 : FVec F S512x1024 .f32) (main_arg8 : FVec F S1024 .f32) (main_arg9 : FVec F S1024x4096 .f32) (main_arg10 : FVec F S4096x1024 .f32) (main_arg11 : FVec F S1024 .f32) : IVec S65536x1024 1 × IVec S65536x512 1 × IVec S65536x512 1 × IVec S1024x1024 1 × IVec S1024 1 × IVec S1024x512 1 × IVec S8192x1024 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S65536x512 .f32 := Host.absf main_arg1
  let main_cst_0 : FVec F S_ .f32 := constant S_ .f32 0x7F800000#32
  let main_v4 : FVec F S65536x512 .f32 := broadcastInDim S65536x512 ![] bcast_S_S65536x512 main_cst_0
  let main_v5 : IVec S65536x512 1 := cmpf .olt main_v3 main_v4
  let main_v6 : FVec F S65536x512 .f32 := Host.absf main_arg2
  let main_cst_1 : FVec F S_ .f32 := constant S_ .f32 0x7F800000#32
  let main_v7 : FVec F S65536x512 .f32 := broadcastInDim S65536x512 ![] bcast_S_S65536x512 main_cst_1
  let main_v8 : IVec S65536x512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x512 .f32 := Host.absf main_arg5
  let main_cst_4 : FVec F S_ .f32 := constant S_ .f32 0x7F800000#32
  let main_v16 : FVec F S1024x512 .f32 := broadcastInDim S1024x512 ![] bcast_S_S1024x512 main_cst_4
  let main_v17 : IVec S1024x512 1 := cmpf .olt main_v15 main_v16
  fn_part1 (F := F) main_arg6 main_v2 main_v5 main_v8 main_v11 main_v14 main_v17
-- ==== Pre_finite3.lean ====
abbrev S65536x1024 : Shape := ⟨2, ![65536, 1024]⟩
abbrev S65536x2048 : Shape := ⟨2, ![65536, 2048]⟩
abbrev S2048x1024 : Shape := ⟨2, ![2048, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩

class Facts : Prop where
  bcast_S_S65536x1024 : S_.BroadcastsInDim S65536x1024 (![] : Fin 0 → Fin S65536x1024.rank)
  bcast_S_S65536x2048 : S_.BroadcastsInDim S65536x2048 (![] : Fin 0 → Fin S65536x2048.rank)
  bcast_S_S2048x1024 : S_.BroadcastsInDim S2048x1024 (![] : Fin 0 → Fin S2048x1024.rank)
  bcast_S_S1024 : S_.BroadcastsInDim S1024 (![] : Fin 0 → Fin S1024.rank)
  bcast_S_S1024x512 : S_.BroadcastsInDim S1024x512 (![] : Fin 0 → Fin S1024x512.rank)
  bcast_S_S8192x1024 : S_.BroadcastsInDim S8192x1024 (![] : Fin 0 → Fin S8192x1024.rank)

variable [Facts]

def fn {F : FTy → Type} [FloatOps F] (main_arg0 : FVec F S65536x1024 .f32) (main_arg1 : FVec F S65536x2048 .f32) (main_arg2 : FVec F S2048x1024 .f32) (main_arg3 : FVec F S1024 .f32) (main_arg4 : FVec F S1024x512 .f32) (main_arg5 : FVec F S8192x1024 .f32) (main_arg6 : FVec F S512x1024 .f32) (main_arg7 : FVec F S1024 .f32) (main_arg8 : FVec F S1024x4096 .f32) (main_arg9 : FVec F S4096x1024 .f32) (main_arg10 : FVec F S1024 .f32) : IVec S65536x1024 1 × IVec S65536x2048 1 × IVec S2048x1024 1 × IVec S1024 1 × IVec S1024x512 1 × IVec S8192x1024 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S65536x2048 .f32 := Host.absf main_arg1
  let main_cst_0 : FVec F S_ .f32 := constant S_ .f32 0x7F800000#32
  let main_v4 : FVec F S65536x2048 .f32 := broadcastInDim S65536x2048 ![] bcast_S_S65536x2048 main_cst_0
  let main_v5 : IVec S65536x2048 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x512 .f32 := Host.absf main_arg4
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Fox.lean ====
abbrev S65536x3072 : Shape := ⟨2, ![65536, 3072]⟩
abbrev S65536x8 : Shape := ⟨2, ![65536, 8]⟩
abbrev S_ : Shape := ⟨0, ![]⟩
abbrev S65536x512 : Shape := ⟨2, ![65536, 512]⟩
abbrev S65536x2560 : Shape := ⟨2, ![65536, 2560]⟩
abbrev S32x2048x8 : Shape := ⟨3, ![32, 2048, 8]⟩
abbrev S32x8x2048 : Shape := ⟨3, ![32, 8, 2048]⟩
abbrev S65536x128 : Shape := ⟨2, ![65536, 128]⟩
abbrev S2048x128 : Shape := ⟨2, ![2048, 128]⟩
abbrev S1x8x2048 : Shape := ⟨3, ![1, 8, 2048]⟩
abbrev S2x80x2048 : Shape := ⟨3, ![2, 80, 2048]⟩
abbrev S2x2048x128 : Shape := ⟨3, ![2, 2048, 128]⟩
abbrev S2x2x2x512x512 : Shape := ⟨5, ![2, 2, 2, 512, 512]⟩
abbrev S2x2x2x1x512 : Shape := ⟨5, ![2, 2, 2, 1, 512]⟩
abbrev S2x2x80x512 : Shape := ⟨4, ![2, 2, 80, 512]⟩
abbrev S2x2x1x512 : Shape := ⟨4, ![2, 2, 1, 512]⟩
abbrev S512x128 : Shape := ⟨2, ![512, 128]⟩
abbrev S128x512 : Shape := ⟨2, ![128, 512]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S1x1x512 : Shape := ⟨3, ![1, 1, 512]⟩
abbrev S1x512 : Shape := ⟨2, ![1, 512]⟩
abbrev S1x1x1x512x512 : Shape := ⟨5, ![1, 1, 1, 512, 512]⟩
abbrev S1x1x1x512 : Shape := ⟨4, ![1, 1, 1, 512]⟩
abbrev S1x1x1x1x512 : Shape := ⟨5, ![1, 1, 1, 1, 512]⟩
abbrev S1x80x512 : Shape := ⟨3, ![1, 80, 512]⟩
abbrev S80x512 : Shape := ⟨2, ![80, 512]⟩
abbrev S1x1x80x512 : Shape := ⟨4, ![1, 1, 80, 512]⟩

abbrev nBuf : Space → Nat
  | .hbm => 22
  | .vmem => 19
  | .smem => 0
  | _ => 0

abbrev bufTy : (tb : Table) → Fin (tcTables nBuf tb) → BufTy
  | .hbm, ⟨0, _⟩ => ⟨S65536x3072, .f32⟩
  | .hbm, ⟨1, _⟩ => ⟨S65536x8, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S65536x512, .f32⟩
  | .hbm, ⟨7, _⟩ => ⟨S_, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S65536x2560, .f32⟩
  | .hbm, ⟨12, _⟩ => ⟨S65536x3072, .f32⟩
  | .hbm, ⟨13, _⟩ => ⟨S65536x3072, .bf16⟩
  | .hbm, ⟨14, _⟩ => ⟨S65536x8, .f32⟩
  | .hbm, ⟨15, _⟩ => ⟨S65536x8, .f32⟩
  | .hbm, ⟨16, _⟩ => ⟨S32x2048x8, .f32⟩
  | .hbm, ⟨17, _⟩ => ⟨S32x8x2048, .f32⟩
  | .hbm, ⟨18, _⟩ => ⟨S_, .i32⟩
  | .hbm, ⟨19, _⟩ => ⟨S_, .f32⟩
  | .hbm, ⟨20, _⟩ => ⟨S65536x128, .f32⟩
  | .hbm, ⟨21, _⟩ => ⟨S65536x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S2048x128, .bf16⟩
  | .local _ .vmem, ⟨11, _⟩ => ⟨S2048x128, .bf16⟩
  | .local _ .vmem, ⟨12, _⟩ => ⟨S2x80x2048, .bf16⟩
  | .local _ .vmem, ⟨13, _⟩ => ⟨S2x2048x128, .f32⟩
  | .local _ .vmem, ⟨14, _⟩ => ⟨S2x2x2x512x512, .f32⟩
  | .local _ .vmem, ⟨15, _⟩ => ⟨S2x2x2x512x512, .bf16⟩
  | .local _ .vmem, ⟨16, _⟩ => ⟨S2x2x2x1x512, .f32⟩
  | .local _ .vmem, ⟨17, _⟩ => ⟨S2x2x80x512, .f32⟩
  | .local _ .vmem, ⟨18, _⟩ => ⟨S2x2x1x512, .f32⟩
  | _, _ => ⟨S65536x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def k0_off1 (i : grid0.Coords) (c0_i32_124 : BitVec 32) : Fin 3 → Nat :=
  let c0_125 : Index := 0#32
  let c2_i32_123 : BitVec 32 := 2#32
  let arg1 : BitVec 32 := BitVec.ofNat 32 (i 1).val
  let v219 : BitVec 32 := Scalar.muli c2_i32_123 arg1
  let v220 : BitVec 32 := Scalar.addi v219 c0_i32_124
  let v221 : Index := Scalar.indexCast v220
  let c0_126 : Index := 0#32
  ![0, v221.toNat, 0]
def k0_off2 (i : grid0.Coords) (c0_i32_240 : BitVec 32) : Fin 3 → Nat :=
  let c0_241 : Index := 0#32
  let c2_i32_239 : BitVec 32 := 2#32
  let arg1 : BitVec 32 := BitVec.ofNat 32 (i 1).val
  let v347 : BitVec 32 := Scalar.muli c2_i32_239 arg1
  let v348 : BitVec 32 := Scalar.addi v347 c0_i32_240
  let v349 : Index := Scalar.indexCast v348
  let c512_242 : Index := 512#32
  ![0, v349.toNat, 512]
def k0_off3 (i : grid0.Coords) (c0_i32_468 : BitVec 32) : Fin 3 → Nat :=
  let c0_469 : Index := 0#32
  let c2_i32_467 : BitVec 32 := 2#32
  let arg1 : BitVec 32 := BitVec.ofNat 32 (i 1).val
  let v571 : BitVec 32 := Scalar.muli c2_i32_467 arg1
  let v572 : BitVec 32 := Scalar.addi v571 c0_i32_468
  let v573 : Index := Scalar.indexCast v572
  let c1024_470 : Index := 1024#32
  ![0, v573.toNat, 1024]
def k0_off4 (i : grid0.Coords) (c0_i32_808 : BitVec 32) : Fin 3 → Nat :=
  let c0_809 : Index := 0#32
  let c2_i32_807 : BitVec 32 := 2#32
  let arg1 : BitVec 32 := BitVec.ofNat 32 (i 1).val
  let v891 : BitVec 32 := Scalar.muli c2_i32_807 arg1
  let v892 : BitVec 32 := Scalar.addi v891 c0_i32_808
  let v893 : Index := Scalar.indexCast v892
  let c1536_810 : Index := 1536#32
  ![0, v893.toNat, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S65536x3072 : Shape := ⟨2, ![65536, 3072]⟩
abbrev S65536x8 : Shape := ⟨2, ![65536, 8]⟩
abbrev S65536x512 : Shape := ⟨2, ![65536, 512]⟩
abbrev S32x2048x8x64 : Shape := ⟨4, ![32, 2048, 8, 64]⟩
abbrev S32x2048x8 : Shape := ⟨3, ![32, 2048, 8]⟩
abbrev S32x8x2048 : Shape := ⟨3, ![32, 8, 2048]⟩
abbrev S32x8x2048x2048 : Shape := ⟨4, ![32, 8, 2048, 2048]⟩
abbrev S_ : Shape := ⟨0, ![]⟩
abbrev S32x8x2048x1 : Shape := ⟨4, ![32, 8, 2048, 1]⟩
abbrev S32x8x1x2048 : Shape := ⟨4, ![32, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x64x2048 : Shape := ⟨4, ![32, 8, 64, 2048]⟩

abbrev nBuf : Space → Nat
  | .hbm => 50
  | .vmem => 0
  | .smem => 0
  | _ => 0

abbrev bufTy : (tb : Table) → Fin (tcTables nBuf tb) → BufTy
  | .hbm, ⟨0, _⟩ => ⟨S65536x3072, .f32⟩
  | .hbm, ⟨1, _⟩ => ⟨S65536x8, .f32⟩
  | .hbm, ⟨2, _⟩ => ⟨S65536x512, .f32⟩
  | .hbm, ⟨3, _⟩ => ⟨S32x2048x8x64, .f32⟩
  | .hbm, ⟨4, _⟩ => ⟨S65536x512, .f32⟩
  | .hbm, ⟨5, _⟩ => ⟨S32x2048x8x64, .f32⟩
  | .hbm, ⟨6, _⟩ => ⟨S65536x512, .f32⟩
  | .hbm, ⟨7, _⟩ => ⟨S32x2048x8x64, .f32⟩
  | .hbm, ⟨8, _⟩ => ⟨S32x2048x8, .f32⟩
  | .hbm, ⟨9, _⟩ => ⟨S32x8x2048, .f32⟩
  | .hbm, ⟨10, _⟩ => ⟨S32x8x2048x2048, .f32⟩
  | .hbm, ⟨11, _⟩ => ⟨S_, .f32⟩
  | .hbm, ⟨12, _⟩ => ⟨S32x8x2048x2048, .f32⟩
  | .hbm, ⟨13, _⟩ => ⟨S32x8x2048x2048, .f32⟩
  | .hbm, ⟨14, _⟩ => ⟨S32x8x2048x1, .f32⟩
  | .hbm, ⟨15, _⟩ => ⟨S32x8x2048x2048, .f32⟩
  | .hbm, ⟨16, _⟩ => ⟨S32x8x2048x2048, .f32⟩
  | .hbm, ⟨17, _⟩ => ⟨S32x8x1x2048, .f32⟩
  | .hbm, ⟨18, _⟩ => ⟨S32x8x2048x2048, .f32⟩
  | .hbm, ⟨19, _⟩ => ⟨S32x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S32x8x2048x2048, .i1⟩
  | .hbm, ⟨30, _⟩ => ⟨S32x8x2048x2048, .f32⟩
  | .hbm, ⟨31, _⟩ => ⟨S32x8x2048x2048, .f32⟩
  | .hbm, ⟨32, _⟩ => ⟨S_, .f32⟩
  | .hbm, ⟨33, _⟩ => ⟨S32x8x2048, .f32⟩
  | .hbm, ⟨34, _⟩ => ⟨S_, .f32⟩
  | .hbm, ⟨35, _⟩ => ⟨S32x8x2048, .f32⟩
  | .hbm, ⟨36, _⟩ => ⟨S32x8x2048, .f32⟩
  | .hbm, ⟨37, _⟩ => ⟨S32x8x2048x1, .f32⟩
  | .hbm, ⟨38, _⟩ => ⟨S32x8x2048x2048, .f32⟩
  | .hbm, ⟨39, _⟩ => ⟨S32x8x2048x2048, .f32⟩
  | .hbm, ⟨40, _⟩ => ⟨S32x8x2048x2048, .f32⟩
  | .hbm, ⟨41, _⟩ => ⟨S_, .f32⟩
  | .hbm, ⟨42, _⟩ => ⟨S32x8x2048, .f32⟩
  | .hbm, ⟨43, _⟩ => ⟨S32x8x2048x1, .f32⟩
  | .hbm, ⟨44, _⟩ => ⟨S32x8x2048x2048, .f32⟩
  | .hbm, ⟨45, _⟩ => ⟨S32x8x2048x2048, .f32⟩
  | .hbm, ⟨46, _⟩ => ⟨S32x8x64x2048, .f32⟩
  | .hbm, ⟨47, _⟩ => ⟨S32x2048x8x64, .f32⟩
  | .hbm, ⟨48, _⟩ => ⟨S65536x512, .f32⟩
  | .hbm, ⟨49, _⟩ => ⟨S65536x512, .bf16⟩
  | _, _ => ⟨S65536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Post.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩

abbrev nBuf : Space → Nat
  | .hbm => 26
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x1024, .f32⟩
  | .hbm, ⟨4, _⟩ => ⟨S1024, .f32⟩
  | .hbm, ⟨5, _⟩ => ⟨S1024x512, .f32⟩
  | .hbm, ⟨6, _⟩ => ⟨S8192x1024, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024x1024, .bf16⟩
  | .hbm, ⟨13, _⟩ => ⟨S65536x512, .bf16⟩
  | .hbm, ⟨14, _⟩ => ⟨S65536x512, .bf16⟩
  | .hbm, ⟨15, _⟩ => ⟨S512x1024, .bf16⟩
  | .hbm, ⟨16, _⟩ => ⟨S512x1024, .bf16⟩
  | .hbm, ⟨17, _⟩ => ⟨S1024x512, .bf16⟩
  | .hbm, ⟨18, _⟩ => ⟨S8192x1024, .bf16⟩
  | .hbm, ⟨19, _⟩ => ⟨S512x1024, .bf16⟩
  | .hbm, ⟨20, _⟩ => ⟨S1024x4096, .bf16⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x512, .bf16⟩
  | .local _ .vmem, ⟨10, _⟩ => ⟨S256x1024, .bf16⟩
  | .local _ .vmem, ⟨11, _⟩ => ⟨S256x1024, .bf16⟩
  | .local _ .vmem, ⟨12, _⟩ => ⟨S512x1024, .bf16⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== PostIdeal.lean ====
variable {F : FTy → Type} [FloatOps F] [Named F]
def κ : String → Option EReal := fun
  | "scale" => some (((Real.sqrt 128)⁻¹ : ℝ) : EReal)
  | _ => none
-- ==== PostRefIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S32x2048x4x128 : Shape := ⟨4, ![32, 2048, 4, 128]⟩
abbrev S8192x512 : Shape := ⟨2, ![8192, 512]⟩
abbrev S32x256x4x128 : Shape := ⟨4, ![32, 256, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S65536x4096 : Shape := ⟨2, ![65536, 4096]⟩

abbrev nBuf : Space → Nat
  | .hbm => 84
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x1024, .f32⟩
  | .hbm, ⟨4, _⟩ => ⟨S1024, .f32⟩
  | .hbm, ⟨5, _⟩ => ⟨S1024x512, .f32⟩
  | .hbm, ⟨6, _⟩ => ⟨S8192x1024, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S65536x512, .f32⟩
  | .hbm, ⟨32, _⟩ => ⟨S32x2048x4x128, .f32⟩
  | .hbm, ⟨33, _⟩ => ⟨S8192x512, .f32⟩
  | .hbm, ⟨34, _⟩ => ⟨S32x256x4x128, .f32⟩
  | .hbm, ⟨35, _⟩ => ⟨S8192x512, .f32⟩
  | .hbm, ⟨36, _⟩ => ⟨S32x256x4x128, .f32⟩
  | .hbm, ⟨37, _⟩ => ⟨S32x4x2048x256, .f32⟩
  | .hbm, ⟨38, _⟩ => ⟨S_, .f32⟩
  | .hbm, ⟨39, _⟩ => ⟨S_, .f32⟩
  | .hbm, ⟨40, _⟩ => ⟨S32x4x2048x256, .f32⟩
  | .hbm, ⟨41, _⟩ => ⟨S32x4x2048x256, .f32⟩
  | .hbm, ⟨42, _⟩ => ⟨S_, .f32⟩
  | .hbm, ⟨43, _⟩ => ⟨S32x4x2048, .f32⟩
  | .hbm, ⟨44, _⟩ => ⟨S_, .f32⟩
  | .hbm, ⟨45, _⟩ => ⟨S32x4x2048, .f32⟩
  | .hbm, ⟨46, _⟩ => ⟨S32x4x2048, .f32⟩
  | .hbm, ⟨47, _⟩ => ⟨S32x4x2048x1, .f32⟩
  | .hbm, ⟨48, _⟩ => ⟨S32x4x2048x256, .f32⟩
  | .hbm, ⟨49, _⟩ => ⟨S32x4x2048x256, .f32⟩
  | .hbm, ⟨50, _⟩ => ⟨S32x4x2048x256, .f32⟩
  | .hbm, ⟨51, _⟩ => ⟨S_, .f32⟩
  | .hbm, ⟨52, _⟩ => ⟨S32x4x2048, .f32⟩
  | .hbm, ⟨53, _⟩ => ⟨S32x4x2048x1, .f32⟩
  | .hbm, ⟨54, _⟩ => ⟨S32x4x2048x256, .f32⟩
  | .hbm, ⟨55, _⟩ => ⟨S32x4x2048x256, .f32⟩
  | .hbm, ⟨56, _⟩ => ⟨S32x4x128x2048, .f32⟩
  | .hbm, ⟨57, _⟩ => ⟨S32x2048x4x128, .f32⟩
  | .hbm, ⟨58, _⟩ => ⟨S65536x512, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S65536, .f32⟩
  | .hbm, ⟨64, _⟩ => ⟨S65536x1, .f32⟩
  | .hbm, ⟨65, _⟩ => ⟨S_, .f32⟩
  | .hbm, ⟨66, _⟩ => ⟨S65536x1, .f32⟩
  | .hbm, ⟨67, _⟩ => ⟨S65536x1, .f32⟩
  | .hbm, ⟨68, _⟩ => ⟨S_, .f32⟩
  | .hbm, ⟨69, _⟩ => ⟨S65536x1, .f32⟩
  | .hbm, ⟨70, _⟩ => ⟨S65536x1, .f32⟩
  | .hbm, ⟨71, _⟩ => ⟨S65536x1, .f32⟩
  | .hbm, ⟨72, _⟩ => ⟨S65536x1024, .f32⟩
  | .hbm, ⟨73, _⟩ => ⟨S65536x1024, .f32⟩
  | .hbm, ⟨74, _⟩ => ⟨S1x1024, .f32⟩
  | .hbm, ⟨75, _⟩ => ⟨S65536x1024, .f32⟩
  | .hbm, ⟨76, _⟩ => ⟨S65536x1024, .f32⟩
  | .hbm, ⟨77, _⟩ => ⟨S65536x4096, .f32⟩
  | .hbm, ⟨78, _⟩ => ⟨S_, .f32⟩
  | .hbm, ⟨79, _⟩ => ⟨S65536x4096, .f32⟩
  | .hbm, ⟨80, _⟩ => ⟨S65536x4096, .f32⟩
  | .hbm, ⟨81, _⟩ => ⟨S65536x4096, .f32⟩
  | .hbm, ⟨82, _⟩ => ⟨S65536x1024, .f32⟩
  | .hbm, ⟨83, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Last.lean ====
abbrev S65536x1024 : Shape := ⟨2, ![65536, 1024]⟩
abbrev S65536x2048 : Shape := ⟨2, ![65536, 2048]⟩
abbrev S2048x1024 : Shape := ⟨2, ![2048, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩
abbrev S256x1024 : Shape := ⟨2, ![256, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩

abbrev nBuf : Space → Nat
  | .hbm => 22
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S2048x1024, .f32⟩
  | .hbm, ⟨3, _⟩ => ⟨S1024, .f32⟩
  | .hbm, ⟨4, _⟩ => ⟨S1024x512, .f32⟩
  | .hbm, ⟨5, _⟩ => ⟨S8192x1024, .f32⟩
  | .hbm, ⟨6, _⟩ => ⟨S512x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S65536x2048, .bf16⟩
  | .hbm, ⟨12, _⟩ => ⟨S2048x1024, .bf16⟩
  | .hbm, ⟨13, _⟩ => ⟨S1024x512, .bf16⟩
  | .hbm, ⟨14, _⟩ => ⟨S8192x1024, .bf16⟩
  | .hbm, ⟨15, _⟩ => ⟨S512x1024, .bf16⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S65536x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x512, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== LastIdeal.lean ====
variable {F : FTy → Type} [FloatOps F] [Named F]
def κ : String → Option EReal := fun
  | "scale" => some (((Real.sqrt 128)⁻¹ : ℝ) : EReal)
  | _ => none
-- ==== LastRefIdeal.lean ====
abbrev S65536x1024 : Shape := ⟨2, ![65536, 1024]⟩
abbrev S65536x2048 : Shape := ⟨2, ![65536, 2048]⟩
abbrev S2048x1024 : Shape := ⟨2, ![2048, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x512 : Shape := ⟨2, ![65536, 512]⟩
abbrev S32x2048x4x128 : Shape := ⟨4, ![32, 2048, 4, 128]⟩
abbrev S8192x512 : Shape := ⟨2, ![8192, 512]⟩
abbrev S32x256x4x128 : Shape := ⟨4, ![32, 256, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S65536x4096 : Shape := ⟨2, ![65536, 4096]⟩

abbrev nBuf : Space → Nat
  | .hbm => 98
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S2048x1024, .f32⟩
  | .hbm, ⟨3, _⟩ => ⟨S1024, .f32⟩
  | .hbm, ⟨4, _⟩ => ⟨S1024x512, .f32⟩
  | .hbm, ⟨5, _⟩ => ⟨S8192x1024, .f32⟩
  | .hbm, ⟨6, _⟩ => ⟨S512x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x512, .f32⟩
  | .hbm, ⟨30, _⟩ => ⟨S32x2048x4x128, .f32⟩
  | .hbm, ⟨31, _⟩ => ⟨S8192x512, .f32⟩
  | .hbm, ⟨32, _⟩ => ⟨S32x256x4x128, .f32⟩
  | .hbm, ⟨33, _⟩ => ⟨S8192x512, .f32⟩
  | .hbm, ⟨34, _⟩ => ⟨S32x256x4x128, .f32⟩
  | .hbm, ⟨35, _⟩ => ⟨S32x4x2048x256, .f32⟩
  | .hbm, ⟨36, _⟩ => ⟨S_, .f32⟩
  | .hbm, ⟨37, _⟩ => ⟨S_, .f32⟩
  | .hbm, ⟨38, _⟩ => ⟨S32x4x2048x256, .f32⟩
  | .hbm, ⟨39, _⟩ => ⟨S32x4x2048x256, .f32⟩
  | .hbm, ⟨40, _⟩ => ⟨S_, .f32⟩
  | .hbm, ⟨41, _⟩ => ⟨S32x4x2048, .f32⟩
  | .hbm, ⟨42, _⟩ => ⟨S_, .f32⟩
  | .hbm, ⟨43, _⟩ => ⟨S32x4x2048, .f32⟩
  | .hbm, ⟨44, _⟩ => ⟨S32x4x2048, .f32⟩
  | .hbm, ⟨45, _⟩ => ⟨S32x4x2048x1, .f32⟩
  | .hbm, ⟨46, _⟩ => ⟨S32x4x2048x256, .f32⟩
  | .hbm, ⟨47, _⟩ => ⟨S32x4x2048x256, .f32⟩
  | .hbm, ⟨48, _⟩ => ⟨S32x4x2048x256, .f32⟩
  | .hbm, ⟨49, _⟩ => ⟨S_, .f32⟩
  | .hbm, ⟨50, _⟩ => ⟨S32x4x2048, .f32⟩
  | .hbm, ⟨51, _⟩ => ⟨S32x4x2048x1, .f32⟩
  | .hbm, ⟨52, _⟩ => ⟨S32x4x2048x256, .f32⟩
  | .hbm, ⟨53, _⟩ => ⟨S32x4x2048x256, .f32⟩
  | .hbm, ⟨54, _⟩ => ⟨S32x4x128x2048, .f32⟩
  | .hbm, ⟨55, _⟩ => ⟨S32x2048x4x128, .f32⟩
  | .hbm, ⟨56, _⟩ => ⟨S65536x512, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S65536x1024, .f32⟩
  | .hbm, ⟨71, _⟩ => ⟨S65536x1024, .f32⟩
  | .hbm, ⟨72, _⟩ => ⟨S1x1024, .f32⟩
  | .hbm, ⟨73, _⟩ => ⟨S65536x1024, .f32⟩
  | .hbm, ⟨74, _⟩ => ⟨S65536x1024, .f32⟩
  | .hbm, ⟨75, _⟩ => ⟨S65536x4096, .f32⟩
  | .hbm, ⟨76, _⟩ => ⟨S_, .f32⟩
  | .hbm, ⟨77, _⟩ => ⟨S65536x4096, .f32⟩
  | .hbm, ⟨78, _⟩ => ⟨S65536x4096, .f32⟩
  | .hbm, ⟨79, _⟩ => ⟨S65536x4096, .f32⟩
  | .hbm, ⟨80, _⟩ => ⟨S65536x1024, .f32⟩
  | .hbm, ⟨81, _⟩ => ⟨S65536x1024, .f32⟩
  | .hbm, ⟨82, _⟩ => ⟨S65536x1024, .f32⟩
  | .hbm, ⟨83, _⟩ => ⟨S_, .f32⟩
  | .hbm, ⟨84, _⟩ => ⟨S65536, .f32⟩
  | .hbm, ⟨85, _⟩ => ⟨S65536x1, .f32⟩
  | .hbm, ⟨86, _⟩ => ⟨S_, .f32⟩
  | .hbm, ⟨87, _⟩ => ⟨S65536x1, .f32⟩
  | .hbm, ⟨88, _⟩ => ⟨S65536x1, .f32⟩
  | .hbm, ⟨89, _⟩ => ⟨S_, .f32⟩
  | .hbm, ⟨90, _⟩ => ⟨S65536x1, .f32⟩
  | .hbm, ⟨91, _⟩ => ⟨S65536x1, .f32⟩
  | .hbm, ⟨92, _⟩ => ⟨S65536x1, .f32⟩
  | .hbm, ⟨93, _⟩ => ⟨S65536x1024, .f32⟩
  | .hbm, ⟨94, _⟩ => ⟨S65536x1024, .f32⟩
  | .hbm, ⟨95, _⟩ => ⟨S1x1024, .f32⟩
  | .hbm, ⟨96, _⟩ => ⟨S65536x1024, .f32⟩
  | .hbm, ⟨97, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Odd.lean ====
abbrev S65536x1024 : Shape := ⟨2, ![65536, 1024]⟩
abbrev S65536x2048 : Shape := ⟨2, ![65536, 2048]⟩
abbrev S2048x1024 : Shape := ⟨2, ![2048, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩
abbrev S256x1024 : Shape := ⟨2, ![256, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩

abbrev nBuf : Space → Nat
  | .hbm => 22
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S2048x1024, .f32⟩
  | .hbm, ⟨3, _⟩ => ⟨S1024, .f32⟩
  | .hbm, ⟨4, _⟩ => ⟨S1024x512, .f32⟩
  | .hbm, ⟨5, _⟩ => ⟨S8192x1024, .f32⟩
  | .hbm, ⟨6, _⟩ => ⟨S512x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S65536x2048, .bf16⟩
  | .hbm, ⟨12, _⟩ => ⟨S2048x1024, .bf16⟩
  | .hbm, ⟨13, _⟩ => ⟨S1024x512, .bf16⟩
  | .hbm, ⟨14, _⟩ => ⟨S8192x1024, .bf16⟩
  | .hbm, ⟨15, _⟩ => ⟨S512x1024, .bf16⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S65536x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x512, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== OddIdeal.lean ====
variable {F : FTy → Type} [FloatOps F] [Named F]
def κ : String → Option EReal := fun
  | "scale" => some (((Real.sqrt 128)⁻¹ : ℝ) : EReal)
  | _ => none
-- ==== OddRefIdeal.lean ====
abbrev S65536x1024 : Shape := ⟨2, ![65536, 1024]⟩
abbrev S65536x2048 : Shape := ⟨2, ![65536, 2048]⟩
abbrev S2048x1024 : Shape := ⟨2, ![2048, 1024]⟩
abbrev S1024 : Shape := ⟨1, ![1024]⟩
abbrev S1024x512 : Shape := ⟨2, ![1024, 512]⟩
abbrev S8192x1024 : Shape := ⟨2, ![8192, 1024]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x512 : Shape := ⟨2, ![65536, 512]⟩
abbrev S32x2048x4x128 : Shape := ⟨4, ![32, 2048, 4, 128]⟩
abbrev S8192x512 : Shape := ⟨2, ![8192, 512]⟩
abbrev S32x256x4x128 : Shape := ⟨4, ![32, 256, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S65536x4096 : Shape := ⟨2, ![65536, 4096]⟩

abbrev nBuf : Space → Nat
  | .hbm => 82
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S2048x1024, .f32⟩
  | .hbm, ⟨3, _⟩ => ⟨S1024, .f32⟩
  | .hbm, ⟨4, _⟩ => ⟨S1024x512, .f32⟩
  | .hbm, ⟨5, _⟩ => ⟨S8192x1024, .f32⟩
  | .hbm, ⟨6, _⟩ => ⟨S512x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x512, .f32⟩
  | .hbm, ⟨30, _⟩ => ⟨S32x2048x4x128, .f32⟩
  | .hbm, ⟨31, _⟩ => ⟨S8192x512, .f32⟩
  | .hbm, ⟨32, _⟩ => ⟨S32x256x4x128, .f32⟩
  | .hbm, ⟨33, _⟩ => ⟨S8192x512, .f32⟩
  | .hbm, ⟨34, _⟩ => ⟨S32x256x4x128, .f32⟩
  | .hbm, ⟨35, _⟩ => ⟨S32x4x2048x256, .f32⟩
  | .hbm, ⟨36, _⟩ => ⟨S_, .f32⟩
  | .hbm, ⟨37, _⟩ => ⟨S_, .f32⟩
  | .hbm, ⟨38, _⟩ => ⟨S32x4x2048x256, .f32⟩
  | .hbm, ⟨39, _⟩ => ⟨S32x4x2048x256, .f32⟩
  | .hbm, ⟨40, _⟩ => ⟨S_, .f32⟩
  | .hbm, ⟨41, _⟩ => ⟨S32x4x2048, .f32⟩
  | .hbm, ⟨42, _⟩ => ⟨S_, .f32⟩
  | .hbm, ⟨43, _⟩ => ⟨S32x4x2048, .f32⟩
  | .hbm, ⟨44, _⟩ => ⟨S32x4x2048, .f32⟩
  | .hbm, ⟨45, _⟩ => ⟨S32x4x2048x1, .f32⟩
  | .hbm, ⟨46, _⟩ => ⟨S32x4x2048x256, .f32⟩
  | .hbm, ⟨47, _⟩ => ⟨S32x4x2048x256, .f32⟩
  | .hbm, ⟨48, _⟩ => ⟨S32x4x2048x256, .f32⟩
  | .hbm, ⟨49, _⟩ => ⟨S_, .f32⟩
  | .hbm, ⟨50, _⟩ => ⟨S32x4x2048, .f32⟩
  | .hbm, ⟨51, _⟩ => ⟨S32x4x2048x1, .f32⟩
  | .hbm, ⟨52, _⟩ => ⟨S32x4x2048x256, .f32⟩
  | .hbm, ⟨53, _⟩ => ⟨S32x4x2048x256, .f32⟩
  | .hbm, ⟨54, _⟩ => ⟨S32x4x128x2048, .f32⟩
  | .hbm, ⟨55, _⟩ => ⟨S32x2048x4x128, .f32⟩
  | .hbm, ⟨56, _⟩ => ⟨S65536x512, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S65536x1024, .f32⟩
  | .hbm, ⟨71, _⟩ => ⟨S65536x1024, .f32⟩
  | .hbm, ⟨72, _⟩ => ⟨S1x1024, .f32⟩
  | .hbm, ⟨73, _⟩ => ⟨S65536x1024, .f32⟩
  | .hbm, ⟨74, _⟩ => ⟨S65536x1024, .f32⟩
  | .hbm, ⟨75, _⟩ => ⟨S65536x4096, .f32⟩
  | .hbm, ⟨76, _⟩ => ⟨S_, .f32⟩
  | .hbm, ⟨77, _⟩ => ⟨S65536x4096, .f32⟩
  | .hbm, ⟨78, _⟩ => ⟨S65536x4096, .f32⟩
  | .hbm, ⟨79, _⟩ => ⟨S65536x4096, .f32⟩
  | .hbm, ⟨80, _⟩ => ⟨S65536x1024, .f32⟩
  | .hbm, ⟨81, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== SsmIn.lean ====
abbrev S65536x1024 : Shape := ⟨2, ![65536, 1024]⟩
abbrev S1024 : Shape := ⟨1, ![1024]⟩
abbrev S1024x6176 : Shape := ⟨2, ![1024, 6176]⟩
abbrev S1024x6144 : Shape := ⟨2, ![1024, 6144]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S65536x6144 : Shape := ⟨2, ![65536, 6144]⟩
abbrev S65536x128 : Shape := ⟨2, ![65536, 128]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6176, .f32⟩
  | .hbm, ⟨3, _⟩ => ⟨S1024x6144, .f32⟩
  | .hbm, ⟨4, _⟩ => ⟨S1024x6144, .bf16⟩
  | .hbm, ⟨5, _⟩ => ⟨S1024x32, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1x1024, .f32⟩
  | .hbm, ⟨11, _⟩ => ⟨S65536x6144, .bf16⟩
  | .hbm, ⟨12, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x128, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SsmInRefIdeal.lean ====
abbrev S65536x1024 : Shape := ⟨2, ![65536, 1024]⟩
abbrev S1024 : Shape := ⟨1, ![1024]⟩
abbrev S1024x6176 : Shape := ⟨2, ![1024, 6176]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6176 : Shape := ⟨2, ![65536, 6176]⟩
abbrev S65536x6144 : Shape := ⟨2, ![65536, 6144]⟩
abbrev S65536x32 : Shape := ⟨2, ![65536, 32]⟩
abbrev S65536x128 : Shape := ⟨2, ![65536, 128]⟩

abbrev nBuf : Space → Nat
  | .hbm => 26
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6176, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x6176, .f32⟩
  | .hbm, ⟨20, _⟩ => ⟨S65536x6144, .f32⟩
  | .hbm, ⟨21, _⟩ => ⟨S65536x6144, .bf16⟩
  | .hbm, ⟨22, _⟩ => ⟨S65536x32, .f32⟩
  | .hbm, ⟨23, _⟩ => ⟨S_, .i32⟩
  | .hbm, ⟨24, _⟩ => ⟨S_, .f32⟩
  | .hbm, ⟨25, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== EvenIn.lean ====
abbrev S65536x1024 : Shape := ⟨2, ![65536, 1024]⟩
abbrev S1024 : Shape := ⟨1, ![1024]⟩
abbrev S1024x3592 : Shape := ⟨2, ![1024, 3592]⟩
abbrev S1024x512 : Shape := ⟨2, ![1024, 512]⟩
abbrev S1024x8 : Shape := ⟨2, ![1024, 8]⟩
abbrev S1024x3072 : Shape := ⟨2, ![1024, 3072]⟩
abbrev S_ : Shape := ⟨0, ![]⟩
abbrev S1024x128 : Shape := ⟨2, ![1024, 128]⟩
abbrev S1024x640 : Shape := ⟨2, ![1024, 640]⟩
abbrev S1x1024 : Shape := ⟨2, ![1, 1024]⟩
abbrev S65536x3072 : Shape := ⟨2, ![65536, 3072]⟩
abbrev S65536x640 : Shape := ⟨2, ![65536, 640]⟩
abbrev S1024x1024 : Shape := ⟨2, ![1024, 1024]⟩
abbrev S1024x1536 : Shape := ⟨2, ![1024, 1536]⟩
abbrev S1024x1 : Shape := ⟨2, ![1024, 1]⟩

abbrev nBuf : Space → Nat
  | .hbm => 21
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3592, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x8, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x3072, .f32⟩
  | .hbm, ⟨12, _⟩ => ⟨S1024x3072, .bf16⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x640, .f32⟩
  | .hbm, ⟨17, _⟩ => ⟨S1024x640, .bf16⟩
  | .hbm, ⟨18, _⟩ => ⟨S1x1024, .f32⟩
  | .hbm, ⟨19, _⟩ => ⟨S65536x3072, .bf16⟩
  | .hbm, ⟨20, _⟩ => ⟨S65536x640, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x640, .bf16⟩
  | .local _ .vmem, ⟨6, _⟩ => ⟨S1024x1536, .bf16⟩
  | .local _ .vmem, ⟨7, _⟩ => ⟨S1024x1536, .bf16⟩
  | .local _ .vmem, ⟨8, _⟩ => ⟨S1024x640, .f32⟩
  | .local _ .vmem, ⟨9, _⟩ => ⟨S1024x640, .f32⟩
  | .local _ .vmem, ⟨10, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== EvenInRefIdeal.lean ====
abbrev S65536x1024 : Shape := ⟨2, ![65536, 1024]⟩
abbrev S1024 : Shape := ⟨1, ![1024]⟩
abbrev S1024x3592 : Shape := ⟨2, ![1024, 3592]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3592 : Shape := ⟨2, ![65536, 3592]⟩
abbrev S65536x1536 : Shape := ⟨2, ![65536, 1536]⟩
abbrev S65536x8 : Shape := ⟨2, ![65536, 8]⟩
abbrev S65536x512 : Shape := ⟨2, ![65536, 512]⟩
abbrev S65536x3072 : Shape := ⟨2, ![65536, 3072]⟩
abbrev S65536x120 : Shape := ⟨2, ![65536, 120]⟩
abbrev S65536x640 : Shape := ⟨2, ![65536, 640]⟩

abbrev nBuf : Space → Nat
  | .hbm => 30
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3592, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3592, .f32⟩
  | .hbm, ⟨20, _⟩ => ⟨S65536x1536, .f32⟩
  | .hbm, ⟨21, _⟩ => ⟨S65536x8, .f32⟩
  | .hbm, ⟨22, _⟩ => ⟨S65536x512, .f32⟩
  | .hbm, ⟨23, _⟩ => ⟨S65536x512, .f32⟩
  | .hbm, ⟨24, _⟩ => ⟨S65536x1024, .f32⟩
  | .hbm, ⟨25, _⟩ => ⟨S65536x3072, .f32⟩
  | .hbm, ⟨26, _⟩ => ⟨S65536x3072, .bf16⟩
  | .hbm, ⟨27, _⟩ => ⟨S_, .f32⟩
  | .hbm, ⟨28, _⟩ => ⟨S65536x120, .f32⟩
  | .hbm, ⟨29, _⟩ => ⟨S65536x640, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MemIn.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemInRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gates.lean ====
abbrev S65536x640 : Shape := ⟨2, ![65536, 640]⟩
abbrev S8 : Shape := ⟨1, ![8]⟩
abbrev S1x8 : Shape := ⟨2, ![1, 8]⟩
abbrev S_ : Shape := ⟨0, ![]⟩
abbrev S1x128 : Shape := ⟨2, ![1, 128]⟩
abbrev S65536x128 : Shape := ⟨2, ![65536, 128]⟩
abbrev S32x8x2048 : Shape := ⟨3, ![32, 8, 2048]⟩
abbrev S2048x128 : Shape := ⟨2, ![2048, 128]⟩
abbrev S1x8x2048 : Shape := ⟨3, ![1, 8, 2048]⟩
abbrev S256x128 : Shape := ⟨2, ![256, 128]⟩
abbrev S256x256 : Shape := ⟨2, ![256, 256]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 8
  | .vmem => 7
  | .smem => 0
  | _ => 0

abbrev bufTy : (tb : Table) → Fin (tcTables nBuf tb) → BufTy
  | .hbm, ⟨0, _⟩ => ⟨S65536x640, .f32⟩
  | .hbm, ⟨1, _⟩ => ⟨S8, .f32⟩
  | .hbm, ⟨2, _⟩ => ⟨S1x8, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S65536x128, .f32⟩
  | .hbm, ⟨7, _⟩ => ⟨S32x8x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S1x8x2048, .f32⟩
  | .local _ .vmem, ⟨6, _⟩ => ⟨S1x8x2048, .f32⟩
  | _, _ => ⟨S65536x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesIdeal.lean ====
variable {F : FTy → Type} [FloatOps F] [Named F]
def κ : String → Option EReal := fun
  | "log2e" => some (((Real.log 2)⁻¹ : ℝ) : EReal)
  | _ => none
-- ==== GatesRefIdeal.lean ====
abbrev S65536x640 : Shape := ⟨2, ![65536, 640]⟩
abbrev S8 : Shape := ⟨1, ![8]⟩
abbrev S65536x128 : Shape := ⟨2, ![65536, 128]⟩
abbrev S32x2048x128 : Shape := ⟨3, ![32, 2048, 128]⟩
abbrev S_ : Shape := ⟨0, ![]⟩
abbrev S128 : Shape := ⟨1, ![128]⟩
abbrev S1x1x128 : Shape := ⟨3, ![1, 1, 128]⟩
abbrev S32x2048x8 : Shape := ⟨3, ![32, 2048, 8]⟩
abbrev S32x8x2048 : Shape := ⟨3, ![32, 8, 2048]⟩

abbrev nBuf : Space → Nat
  | .hbm => 36
  | .vmem => 0
  | .smem => 0
  | _ => 0

abbrev bufTy : (tb : Table) → Fin (tcTables nBuf tb) → BufTy
  | .hbm, ⟨0, _⟩ => ⟨S65536x640, .f32⟩
  | .hbm, ⟨1, _⟩ => ⟨S8, .f32⟩
  | .hbm, ⟨2, _⟩ => ⟨S65536x128, .f32⟩
  | .hbm, ⟨3, _⟩ => ⟨S32x2048x128, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x1x128, .f32⟩
  | .hbm, ⟨8, _⟩ => ⟨S32x2048x128, .f32⟩
  | .hbm, ⟨9, _⟩ => ⟨S32x2048x128, .f32⟩
  | .hbm, ⟨10, _⟩ => ⟨S32x2048x128, .f32⟩
  | .hbm, ⟨11, _⟩ => ⟨S_, .f32⟩
  | .hbm, ⟨12, _⟩ => ⟨S32x2048x128, .f32⟩
  | .hbm, ⟨13, _⟩ => ⟨S32x2048x128, .f32⟩
  | .hbm, ⟨14, _⟩ => ⟨S32x2048x128, .f32⟩
  | .hbm, ⟨15, _⟩ => ⟨S32x2048x128, .f32⟩
  | .hbm, ⟨16, _⟩ => ⟨S32x2048x128, .i1⟩
  | .hbm, ⟨17, _⟩ => ⟨S32x2048x128, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S32x2048x128, .f32⟩
  | .hbm, ⟨22, _⟩ => ⟨S32x2048x128, .f32⟩
  | .hbm, ⟨23, _⟩ => ⟨S32x2048x128, .f32⟩
  | .hbm, ⟨24, _⟩ => ⟨S32x2048x128, .f32⟩
  | .hbm, ⟨25, _⟩ => ⟨S32x2048x128, .f32⟩
  | .hbm, ⟨26, _⟩ => ⟨S_, .f32⟩
  | .hbm, ⟨27, _⟩ => ⟨S_, .f32⟩
  | .hbm, ⟨28, _⟩ => ⟨S32x2048x128, .f32⟩
  | .hbm, ⟨29, _⟩ => ⟨S_, .f32⟩
  | .hbm, ⟨30, _⟩ => ⟨S_, .f32⟩
  | .hbm, ⟨31, _⟩ => ⟨S32x2048x128, .f32⟩
  | .hbm, ⟨32, _⟩ => ⟨S32x2048x128, .f32⟩
  | .hbm, ⟨33, _⟩ => ⟨S65536x128, .f32⟩
  | .hbm, ⟨34, _⟩ => ⟨S32x2048x8, .f32⟩
  | .hbm, ⟨35, _⟩ => ⟨S32x8x2048, .f32⟩
  | _, _ => ⟨S65536x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]
-- ==== Proof.Tile.lean ====
module

public import proofs.«01_k».proof.Proof.Gen.FoxIdeal.Value
public import Idealize.ShloMosaic.Lib.Pipeline.ReadBack
public import Idealize.ShloMosaic.Lib.Pointwise

/-! The forgetting attention, one query tile of one head pair at a time: the vector operations of a tile as functions of the
blocks they read, and the sweep over the key tiles as a recursion. -/

set_option maxRecDepth 16384

@[expose] public noncomputable section

namespace Cert.FoxIdeal.Val

open Idealize Idealize.ShloMosaic Cert.FoxIdeal Cert.FoxIdeal.Gen

/-- The 512 rows from row `o` on. -/
def blk {e : EltTy} (x : Vec Ideal S2048x128 e) (o : ℕ) : Vec Ideal S512x128 e :=
  fun i => x (ix2 (Fin.ofNat 2048 (o + (i 0).val)) (i 1))

/-- The transposed values with the rows of ones under them: head, feature, key. -/
def gV (x : Vec Ideal S2048x128 .bf16) : Vec Ideal S2x80x2048 .bf16 :=
  fun i => if (i 1).val < 64 then x (ix2 (i 2) (Fin.ofNat 128 (64 * (i 0).val + (i 1).val))) else (1 : EReal)

/-- The block of `gV` for head `h` and the keys from `o` on. -/
def vtb (x : Vec Ideal S2048x128 .bf16) (h o : ℕ) : Vec Ideal S1x80x512 .bf16 :=
  fun i => gV x (ix3 (Fin.ofNat 2 h) (i 1) (Fin.ofNat 2048 (o + (i 2).val)))

/-- The gates of a head, along the keys and copied over the lanes. -/
def gC (p : ℕ) (x : Vec Ideal S2048x128 .f32) : Vec Ideal S2x2048x128 .f32 :=
  fun i => x (ix2 (i 1) (Fin.ofNat 128 (2 * p + (i 0).val)))

/-- The block of `gC` for head `h` and the keys from `o` on. -/
def csb (p : ℕ) (x : Vec Ideal S2048x128 .f32) (h o : ℕ) : Vec Ideal S1x512x128 .f32 :=
  fun i => gC p x (ix3 (Fin.ofNat 2 h) (Fin.ofNat 2048 (o + (i 1).val)) (i 2))

/-- The gates of a head at the queries from `o` on. -/
def ctb (p : ℕ) (x : Vec Ideal S1x8x2048 .f32) (h o : ℕ) : Vec Ideal S1x1x512 .f32 :=
  fun i => x (ix3 0 (Fin.ofNat 8 (2 * p + h)) (Fin.ofNat 2048 (o + (i 2).val)))

/-- The queries of a tile, transposed. -/
def qT (q : Vec Ideal S512x128 .bf16) : FVec Ideal S128x512 .f32 :=
  transpose S128x512 [1, 0] (extf .f32 (shapeCast S512x128 q shapeCasts_S512x128_S512x128) bitsLt_bf16_f32) transposes_S512x128_p1_0_S128x512

/-- The queries of the first head, the other head's features zeroed. -/
def qLo (q : Vec Ideal S512x128 .bf16) : FVec Ideal S128x512 .bf16 :=
  truncf .bf16 (select (cmpi .slt (iota .tc S128x512 32 [0] iota_S128x512_d0_w32) (broadcast S128x512 64#32)) (qT q) (broadcast S128x512 (Scalar.ofBits .f32 0x00000000#32 : Ideal .f32)))
    bitsLt_bf16_f32

/-- The queries of the second head, the other head's features zeroed. -/
def qHi (q : Vec Ideal S512x128 .bf16) : FVec Ideal S128x512 .bf16 :=
  truncf .bf16 (select (cmpi .slt (iota .tc S128x512 32 [0] iota_S128x512_d0_w32) (broadcast S128x512 64#32)) (broadcast S128x512 (Scalar.ofBits .f32 0x00000000#32 : Ideal .f32)) (qT q))
    bitsLt_bf16_f32

/-- The plain scores of a tile: keys by queries. -/
def raw (k : Vec Ideal S512x128 .bf16) (q : FVec Ideal S128x512 .bf16) : FVec Ideal S512x512 .f32 :=
  matmul dot_S512x128_S128x512_S512x512_1_0_0_1_n_n none (shapeCast S512x128 k shapeCasts_S512x128_S512x128 : FVec Ideal S512x128 .bf16) q (constant S512x512 .f32 0x00000000#32)

/-- The gates along the keys, copied over the queries. -/
def cat4 (ax : Fin S512x512.rank) (u : FVec Ideal S512x128 .f32) (h : Shape.Concatenates [S512x128, S512x128, S512x128, S512x128] S512x512 ax) : FVec Ideal S512x512 .f32 :=
  concatenate S512x512 ax [⟨S512x128, u⟩, ⟨S512x128, u⟩, ⟨S512x128, u⟩, ⟨S512x128, u⟩] h

/-- Two heads, one above the other. -/
def cat2 (ax : Fin S128x512.rank) (a b : FVec Ideal S64x512 .f32) (h : Shape.Concatenates [S64x512, S64x512] S128x512 ax) : FVec Ideal S128x512 .f32 :=
  concatenate S128x512 ax [⟨S64x512, a⟩, ⟨S64x512, b⟩] h

/-- `cat4` unfolded. -/
theorem cat4_fold (ax : Fin S512x512.rank) (u : FVec Ideal S512x128 .f32) (h) :
    concatenate S512x512 ax [⟨S512x128, u⟩, ⟨S512x128, u⟩, ⟨S512x128, u⟩, ⟨S512x128, u⟩] h = cat4 ax u h := rfl

/-- `cat2` unfolded. -/
theorem cat2_fold (ax : Fin S128x512.rank) (a b : FVec Ideal S64x512 .f32) (h) : concatenate S128x512 ax [⟨S64x512, a⟩, ⟨S64x512, b⟩] h = cat2 ax a b h := rfl

/-- The scores with the gates' difference added. -/
def biased (r : FVec Ideal S512x512 .f32) (ct : Vec Ideal S1x1x512 .f32) (cs : Vec Ideal S1x512x128 .f32) : FVec Ideal S512x512 .f32 :=
  addf r (subf (broadcastTo S512x512 (shapeCast S1x512 ct shapeCasts_S1x1x512_S1x512) broadcasts_S1x512_S512x512)
    (cat4 1 (shapeCast S512x128 cs shapeCasts_S1x512x128_S512x128) concatenates_S512x128_S512x128_S512x128_S512x128_S512x512_d1))

/-- The scores of the diagonal tile, −∞ at the keys after the query. -/
def masked (st : FVec Ideal S512x512 .f32) : FVec Ideal S512x512 .f32 :=
  select (cmpi .sle (subi (iota .tc S512x512 32 [0] iota_S512x512_d0_w32) (iota .tc S512x512 32 [1] iota_S512x512_d1_w32)) (broadcast S512x512 0#32)) st
    (broadcast S512x512 (Named.named κ "mask" 0xF149F2CA#32 : Ideal .f32))

/-- The maximum so far, a further tile taken in. -/
def mNext (st : FVec Ideal S512x512 .f32) (m : FVec Ideal S1x512 .f32) : FVec Ideal S1x512 .f32 :=
  maximumf m (shapeCast S1x512 (multiReduction .maximumf [0] S512 st 0xFF800000#32 reduces_S512x512_S512 (.inl rfl) rfl) shapeCasts_S512_S1x512)

/-- A tile's weights, relative to a maximum. -/
def pOf (st : FVec Ideal S512x512 .f32) (m : FVec Ideal S1x512 .f32) : FVec Ideal S512x512 .bf16 :=
  truncf .bf16 (exp2 (subf st (broadcastTo S512x512 m broadcasts_S1x512_S512x512))) bitsLt_bf16_f32

/-- Values and ones, weighted and summed over a tile. -/
def pvOf (vt : Vec Ideal S1x80x512 .bf16) (p : FVec Ideal S512x512 .bf16) : FVec Ideal S80x512 .f32 :=
  matmul dot_S80x512_S512x512_S80x512_1_0_0_1_n_n none (shapeCast S80x512 vt shapeCasts_S1x80x512_S80x512 : FVec Ideal S80x512 .bf16) p (constant S80x512 .f32 0x00000000#32)

/-- The sums so far, rescaled, a further tile's added. -/
def accNext (al : FVec Ideal S1x512 .f32) (acc pv : FVec Ideal S80x512 .f32) : FVec Ideal S80x512 .f32 :=
  addf (mulf (broadcastTo S80x512 al broadcasts_S1x512_S80x512) acc) pv

/-- The weighted values over the sum of the weights. -/
def colOut (acc : FVec Ideal S80x512 .f32) : FVec Ideal S64x512 .f32 :=
  divf (extractStridedSlice S64x512 ![0, 0] acc slices_S80x512_o0_0_S64x512)
    (broadcastTo S64x512 (extractStridedSlice S1x512 ![64, 0] acc slices_S80x512_o64_0_S1x512) broadcasts_S1x512_S64x512)

/-- Both heads of a tile, queries by features. -/
def outTile (a b : FVec Ideal S64x512 .f32) : FVec Ideal S512x128 .bf16 :=
  truncf .bf16 (transpose S512x128 [1, 0] (cat2 0 a b concatenates_S64x512_S64x512_S128x512_d0)
    transposes_S128x512_p1_0_S512x128) bitsLt_bf16_f32

/-- The maximum before key tile `j`. -/
def mAt (st : ℕ → FVec Ideal S512x512 .f32) : ℕ → FVec Ideal S1x512 .f32
  | 0 => broadcast S1x512 (Named.named κ "mask" 0xF149F2CA#32 : Ideal .f32)
  | j + 1 => mNext (st j) (mAt st j)

/-- The sums after key tile `j`. -/
def accAt (st : ℕ → FVec Ideal S512x512 .f32) (vt : ℕ → Vec Ideal S1x80x512 .bf16) : ℕ → FVec Ideal S80x512 .f32
  | 0 => pvOf (vt 0) (pOf (st 0) (mAt st 1))
  | j + 1 => accNext (exp2 (subf (mAt st (j + 1)) (mAt st (j + 2)))) (accAt st vt j) (pvOf (vt (j + 1)) (pOf (st (j + 1)) (mAt st (j + 2))))

/-- The scores of query tile `n` against key tile `j`, masked on the diagonal. -/
def stAt (n : ℕ) (q : FVec Ideal S128x512 .bf16) (k : ℕ → Vec Ideal S512x128 .bf16) (ct : Vec Ideal S1x1x512 .f32) (cs : ℕ → Vec Ideal S1x512x128 .f32) (j : ℕ) :
    FVec Ideal S512x512 .f32 :=
  if j = n then masked (biased (raw (k j) q) ct (cs j)) else biased (raw (k j) q) ct (cs j)

/-- The output of query tile `n` for head pair `p`. -/
def tile (p : ℕ) (x0 x1 x2 : Vec Ideal S2048x128 .bf16) (x3 : Vec Ideal S2048x128 .f32) (x4 : Vec Ideal S1x8x2048 .f32) (n : ℕ) : FVec Ideal S512x128 .bf16 :=
  outTile
    (colOut (accAt (stAt n (qLo (blk x0 (512 * n))) (fun j => blk x1 (512 * j)) (ctb p x4 0 (512 * n)) fun j => csb p x3 0 (512 * j)) (fun j => vtb x2 0 (512 * j)) n))
    (colOut (accAt (stAt n (qHi (blk x0 (512 * n))) (fun j => blk x1 (512 * j)) (ctb p x4 1 (512 * n)) fun j => csb p x3 1 (512 * j)) (fun j => vtb x2 1 (512 * j)) n))

end Cert.FoxIdeal.Val

end
-- ==== Proof.Reads.lean ====
module

public import proofs.«01_k».proof.Proof.Tile
public import Idealize.ShloMosaic.Lib.WholeRead

/-! What the attention's kernel reads from its windows and its two filled scratch buffers, block by block. -/

set_option maxRecDepth 16384

@[expose] public noncomputable section

namespace Cert.FoxIdeal.Val

open Idealize Idealize.ShloMosaic Cert.FoxIdeal Cert.FoxIdeal.Gen

/-- A load of 512 rows of a window is that block of it. -/
theorem rd_blk {e : EltTy} (m : Memref sig .tc .vmem S2048x128 e) (hm : m.IsWhole) (x : Vec Ideal S2048x128 e) (o : ℕ) (inb) :
    View.readAt (Elt Ideal) (κ := (Proc.tc : Proc τ).kind) (Memref.view (κ := (Proc.tc : Proc τ).kind) m) (Rect.unit (s := S2048x128) ![o, 0] ![512, 128] inb).toLoadRect (hm.unread x) = blk x o := by
  funext i
  rw [Memref.IsWhole.readAt_unread]
  unfold blk
  congr 1
  have h0 := inb 0
  have h1 : (i 0).val < 512 := (i 0).isLt
  change o + 512 ≤ 2048 at h0
  funext a
  match a with
  | ⟨0, _⟩ =>
    apply Fin.ext
    show o + 1 * (i 0).val = (o + (i 0).val) % 2048
    rw [Nat.mod_eq_of_lt (by omega)]; omega
  | ⟨1, _⟩ =>
    apply Fin.ext
    show 0 + 1 * (i 1).val = (i 1).val
    omega

/-- A load of one head's gates along the queries is that row of the window. -/
theorem rd_row (m : Memref sig .tc .vmem S1x8x2048 .f32) (hm : m.IsWhole) (x : Vec Ideal S1x8x2048 .f32) (p h o : ℕ) (off : Fin 3 → ℕ) (inb)
    (ho : off = ![0, 2 * p + h, o]) :
    View.readAt (Elt Ideal) (κ := (Proc.tc : Proc τ).kind) (Memref.view (κ := (Proc.tc : Proc τ).kind) m) (Rect.unit (s := S1x8x2048) off ![1, 1, 512] inb).toLoadRect (hm.unread x) = ctb p x h o := by
  subst ho
  funext i
  rw [Memref.IsWhole.readAt_unread]
  unfold ctb
  congr 1
  have h1 := inb 1
  have h2 := inb 2
  have i0 : (i 0).val < 1 := (i 0).isLt
  have i1 : (i 1).val < 1 := (i 1).isLt
  have i2 : (i 2).val < 512 := (i 2).isLt
  change 2 * p + h + 1 ≤ 8 at h1
  change o + 512 ≤ 2048 at h2
  funext a
  match a with
  | ⟨0, _⟩ =>
    apply Fin.ext
    show 0 + 1 * (i 0).val = 0
    omega
  | ⟨1, _⟩ =>
    apply Fin.ext
    show 2 * p + h + 1 * (i 1).val = (2 * p + h) % 8
    rw [Nat.mod_eq_of_lt (by omega)]; omega
  | ⟨2, _⟩ =>
    apply Fin.ext
    show o + 1 * (i 2).val = (o + (i 2).val) % 2048
    rw [Nat.mod_eq_of_lt (by omega)]; omega

/-- The offsets of the eight such loads. -/
theorem offs (i : grid0.Coords) :
    (k0_off1 i 0#32 = ![0, 2 * (i 1).val + 0, 0] ∧ k0_off1 i 1#32 = ![0, 2 * (i 1).val + 1, 0]) ∧
      (k0_off2 i 0#32 = ![0, 2 * (i 1).val + 0, 512] ∧ k0_off2 i 1#32 = ![0, 2 * (i 1).val + 1, 512]) ∧
      (k0_off3 i 0#32 = ![0, 2 * (i 1).val + 0, 1024] ∧ k0_off3 i 1#32 = ![0, 2 * (i 1).val + 1, 1024]) ∧
      (k0_off4 i 0#32 = ![0, 2 * (i 1).val + 0, 1536] ∧ k0_off4 i 1#32 = ![0, 2 * (i 1).val + 1, 1536]) := by
  unfold k0_off1 k0_off2 k0_off3 k0_off4
  generalize i 1 = k
  revert k
  decide +kernel

section
variable (i : grid0.Coords) (m : Memref sig .tc .vmem S1x8x2048 .f32) (hm : m.IsWhole) (x : Vec Ideal S1x8x2048 .f32)

/-- The gates at the first query tile, first head. -/
theorem rd_off1_0 (inb) : View.readAt (Elt Ideal) (κ := (Proc.tc : Proc τ).kind) (Memref.view (κ := (Proc.tc : Proc τ).kind) m) (Rect.unit (s := S1x8x2048) (k0_off1 i 0#32) ![1, 1, 512] inb).toLoadRect (hm.unread x) = ctb (i 1).val x 0 0 :=
  rd_row m hm x _ _ _ _ inb (offs i).1.1
/-- The gates at the first query tile, second head. -/
theorem rd_off1_1 (inb) : View.readAt (Elt Ideal) (κ := (Proc.tc : Proc τ).kind) (Memref.view (κ := (Proc.tc : Proc τ).kind) m) (Rect.unit (s := S1x8x2048) (k0_off1 i 1#32) ![1, 1, 512] inb).toLoadRect (hm.unread x) = ctb (i 1).val x 1 0 :=
  rd_row m hm x _ _ _ _ inb (offs i).1.2
/-- The gates at the second query tile, first head. -/
theorem rd_off2_0 (inb) : View.readAt (Elt Ideal) (κ := (Proc.tc : Proc τ).kind) (Memref.view (κ := (Proc.tc : Proc τ).kind) m) (Rect.unit (s := S1x8x2048) (k0_off2 i 0#32) ![1, 1, 512] inb).toLoadRect (hm.unread x) = ctb (i 1).val x 0 512 :=
  rd_row m hm x _ _ _ _ inb (offs i).2.1.1
/-- The gates at the second query tile, second head. -/
theorem rd_off2_1 (inb) : View.readAt (Elt Ideal) (κ := (Proc.tc : Proc τ).kind) (Memref.view (κ := (Proc.tc : Proc τ).kind) m) (Rect.unit (s := S1x8x2048) (k0_off2 i 1#32) ![1, 1, 512] inb).toLoadRect (hm.unread x) = ctb (i 1).val x 1 512 :=
  rd_row m hm x _ _ _ _ inb (offs i).2.1.2
/-- The gates at the third query tile, first head. -/
theorem rd_off3_0 (inb) : View.readAt (Elt Ideal) (κ := (Proc.tc : Proc τ).kind) (Memref.view (κ := (Proc.tc : Proc τ).kind) m) (Rect.unit (s := S1x8x2048) (k0_off3 i 0#32) ![1, 1, 512] inb).toLoadRect (hm.unread x) = ctb (i 1).val x 0 1024 :=
  rd_row m hm x _ _ _ _ inb (offs i).2.2.1.1
/-- The gates at the third query tile, second head. -/
theorem rd_off3_1 (inb) : View.readAt (Elt Ideal) (κ := (Proc.tc : Proc τ).kind) (Memref.view (κ := (Proc.tc : Proc τ).kind) m) (Rect.unit (s := S1x8x2048) (k0_off3 i 1#32) ![1, 1, 512] inb).toLoadRect (hm.unread x) = ctb (i 1).val x 1 1024 :=
  rd_row m hm x _ _ _ _ inb (offs i).2.2.1.2
/-- The gates at the last query tile, first head. -/
theorem rd_off4_0 (inb) : View.readAt (Elt Ideal) (κ := (Proc.tc : Proc τ).kind) (Memref.view (κ := (Proc.tc : Proc τ).kind) m) (Rect.unit (s := S1x8x2048) (k0_off4 i 0#32) ![1, 1, 512] inb).toLoadRect (hm.unread x) = ctb (i 1).val x 0 1536 :=
  rd_row m hm x _ _ _ _ inb (offs i).2.2.2.1
/-- The gates at the last query tile, second head. -/
theorem rd_off4_1 (inb) : View.readAt (Elt Ideal) (κ := (Proc.tc : Proc τ).kind) (Memref.view (κ := (Proc.tc : Proc τ).kind) m) (Rect.unit (s := S1x8x2048) (k0_off4 i 1#32) ![1, 1, 512] inb).toLoadRect (hm.unread x) = ctb (i 1).val x 1 1536 :=
  rd_row m hm x _ _ _ _ inb (offs i).2.2.2.2
end

/-- A block's values transposed, 64 features of them. -/
def vtPc (ofs : Fin 2 → ℕ) (hs : S128x512.Slices ofs S64x512) (b : Vec Ideal S512x128 .bf16) : FVec Ideal S1x64x512 .bf16 :=
  shapeCast S1x64x512 (truncf .bf16 (extractStridedSlice S64x512 ofs (transpose S128x512 [1, 0] (extf .f32 (shapeCast S512x128 b shapeCasts_S512x128_S512x128 : FVec Ideal S512x128 .bf16) bitsLt_bf16_f32)
    transposes_S512x128_p1_0_S128x512) hs) bitsLt_bf16_f32) shapeCasts_S64x512_S1x64x512

/-- The first head's. -/
theorem vtPc_lo (b : Vec Ideal S512x128 .bf16) (z : Fin 1) (d : Fin 64) (r : Fin 512) :
    vtPc ![0, 0] slices_S128x512_o0_0_S64x512 b (ix3 z d r) = b (ix2 r (Fin.ofNat 128 d.val)) := by
  pointwise [vtPc]
  have : d.val % 128 = d.val := Nat.mod_eq_of_lt (by omega)
  congr 2; exact Fin.ext this.symm

/-- The second head's. -/
theorem vtPc_hi (b : Vec Ideal S512x128 .bf16) (z : Fin 1) (d : Fin 64) (r : Fin 512) :
    vtPc ![64, 0] slices_S128x512_o64_0_S64x512 b (ix3 z d r) = b (ix2 r (Fin.ofNat 128 (64 + d.val))) := by
  pointwise [vtPc]
  have : (64 + d.val) % 128 = 64 + d.val := Nat.mod_eq_of_lt (by omega)
  congr 2; exact Fin.ext this.symm

/-- One lane of a block of gates, picked by a masked sum and copied over the lanes. -/
def csPc (w : BitVec 32) (b : Vec Ideal S512x128 .f32) : FVec Ideal S1x512x128 .f32 :=
  shapeCast S1x512x128 (broadcastTo S512x128 (shapeCast S512x1 (shapeCast S512x1 (multiReduction .add [1] S512
    (select (cmpi .eq (iota .tc S512x128 32 [1] iota_S512x128_d1_w32) (broadcast S512x128 w)) (shapeCast S512x128 b shapeCasts_S512x128_S512x128 : FVec Ideal S512x128 .f32) (broadcast S512x128 (FloatOps.ofBits .f32 0#32 : Ideal .f32)))
    0#32 reduces_S512x128_S512 (.inl rfl) rfl) shapeCasts_S512_S512x1) shapeCasts_S512x1_S512x1) broadcasts_S512x1_S512x128) shapeCasts_S512x128_S1x512x128

/-- It is that lane. -/
theorem csPc_at (w : BitVec 32) (hw : w.toNat < 128) (b : Vec Ideal S512x128 .f32) (z : Fin 1) (r : Fin 512) (l : Fin 128) :
    csPc w b (ix3 z r l) = b (ix2 r (Fin.ofNat 128 w.toNat)) := by
  pointwise [csPc]
  rw [Finset.sum_eq_single (⟨w.toNat, hw⟩ : Fin 128)]
  · have h1 : IntOp.cmpi CmpIPredicate.eq (BitVec.ofNat 32 w.toNat) w = 1#1 := by
      simp [IntOp.cmpi]
    rw [h1]
    have : w.toNat % 128 = w.toNat := Nat.mod_eq_of_lt hw
    show b _ = _
    congr 2; exact Fin.ext this.symm
  · intro k _ hk
    have h1 : IntOp.cmpi CmpIPredicate.eq (BitVec.ofNat 32 k.val) w = 0#1 := by
      have : BitVec.ofNat 32 k.val ≠ w := by
        intro h
        apply hk
        apply Fin.ext
        show k.val = w.toNat
        rw [← h, BitVec.toNat_ofNat, Nat.mod_eq_of_lt (by have := k.isLt; omega)]
      show BitVec.ofBool (BitVec.ofNat 32 k.val == w) = 0#1
      rw [beq_eq_false_iff_ne.mpr this]; rfl
    rw [h1]; rfl
  · intro h; exact absurd (Finset.mem_univ _) h

/-- The lane of head `h` of the pair. -/
def hd (i : grid0.Coords) (h : ℕ) : BitVec 32 := Scalar.addi (Scalar.muli (2#32) (BitVec.ofNat 32 (i 1).val)) (BitVec.ofNat 32 h)

/-- As a number. -/
theorem hd_toNat (i : grid0.Coords) (h : ℕ) (hh : h < 2) : (hd i h).toNat = 2 * (i 1).val + h := by
  unfold hd
  generalize i 1 = k
  revert k
  interval_cases h <;> decide +kernel

open kernelRun0_A.sl

/-- The store of head 0's values, key block 0. -/
theorem v11_eq (c : Dev nD) (m : Memref sig .tc .vmem S2048x128 .bf16) (hm : m.IsWhole) (x : Vec Ideal S2048x128 .bf16) :
    v11 c m hm x = vtPc ![0, 0] slices_S128x512_o0_0_S64x512 (blk x 0) := by
  simp only [v11, v8, v7, v4, v3, v2, rd_blk]; rfl

/-- The store of head 1's values, key block 0. -/
theorem v33_eq (c : Dev nD) (m : Memref sig .tc .vmem S2048x128 .bf16) (hm : m.IsWhole) (x : Vec Ideal S2048x128 .bf16) :
    v33 c m hm x = vtPc ![64, 0] slices_S128x512_o64_0_S64x512 (blk x 0) := by
  simp only [v33, v30, v29, v4, v3, v2, rd_blk]; rfl

/-- The store of head 0's values, key block 1. -/
theorem v61_eq (c : Dev nD) (m : Memref sig .tc .vmem S2048x128 .bf16) (hm : m.IsWhole) (x : Vec Ideal S2048x128 .bf16) :
    v61 c m hm x = vtPc ![0, 0] slices_S128x512_o0_0_S64x512 (blk x 512) := by
  simp only [v61, v58, v57, v54, v53, v52, rd_blk]; rfl

/-- The store of head 1's values, key block 1. -/
theorem v83_eq (c : Dev nD) (m : Memref sig .tc .vmem S2048x128 .bf16) (hm : m.IsWhole) (x : Vec Ideal S2048x128 .bf16) :
    v83 c m hm x = vtPc ![64, 0] slices_S128x512_o64_0_S64x512 (blk x 512) := by
  simp only [v83, v80, v79, v54, v53, v52, rd_blk]; rfl

/-- The store of head 0's values, key block 2. -/
theorem v111_eq (c : Dev nD) (m : Memref sig .tc .vmem S2048x128 .bf16) (hm : m.IsWhole) (x : Vec Ideal S2048x128 .bf16) :
    v111 c m hm x = vtPc ![0, 0] slices_S128x512_o0_0_S64x512 (blk x 1024) := by
  simp only [v111, v108, v107, v104, v103, v102, rd_blk]; rfl

/-- The store of head 1's values, key block 2. -/
theorem v133_eq (c : Dev nD) (m : Memref sig .tc .vmem S2048x128 .bf16) (hm : m.IsWhole) (x : Vec Ideal S2048x128 .bf16) :
    v133 c m hm x = vtPc ![64, 0] slices_S128x512_o64_0_S64x512 (blk x 1024) := by
  simp only [v133, v130, v129, v104, v103, v102, rd_blk]; rfl

/-- The store of head 0's values, key block 3. -/
theorem v161_eq (c : Dev nD) (m : Memref sig .tc .vmem S2048x128 .bf16) (hm : m.IsWhole) (x : Vec Ideal S2048x128 .bf16) :
    v161 c m hm x = vtPc ![0, 0] slices_S128x512_o0_0_S64x512 (blk x 1536) := by
  simp only [v161, v158, v157, v154, v153, v152, rd_blk]; rfl

/-- The store of head 1's values, key block 3. -/
theorem v183_eq (c : Dev nD) (m : Memref sig .tc .vmem S2048x128 .bf16) (hm : m.IsWhole) (x : Vec Ideal S2048x128 .bf16) :
    v183 c m hm x = vtPc ![64, 0] slices_S128x512_o64_0_S64x512 (blk x 1536) := by
  simp only [v183, v180, v179, v154, v153, v152, rd_blk]; rfl

/-- The store of head 0's gates, key block 0. -/
theorem v28_eq (c : Dev nD) (i : grid0.Coords) (m : Memref sig .tc .vmem S2048x128 .f32) (hm : m.IsWhole) (x : Vec Ideal S2048x128 .f32) :
    v28 c i m hm x = csPc (hd i 0) (blk x 0) := by
  simp only [v28, v25, v24, v23, v22, v21, v20, cst_8, v6, v19, v18, v17, v16, v0, rd_blk]; rfl

/-- The store of head 1's gates, key block 0. -/
theorem v50_eq (c : Dev nD) (i : grid0.Coords) (m : Memref sig .tc .vmem S2048x128 .f32) (hm : m.IsWhole) (x : Vec Ideal S2048x128 .f32) :
    v50 c i m hm x = csPc (hd i 1) (blk x 0) := by
  simp only [v50, v47, v46, v45, v44, v43, v20, cst_8, v6, v41, v40, v39, v16, v0, rd_blk]; rfl

/-- The store of head 0's gates, key block 1. -/
theorem v78_eq (c : Dev nD) (i : grid0.Coords) (m : Memref sig .tc .vmem S2048x128 .f32) (hm : m.IsWhole) (x : Vec Ideal S2048x128 .f32) :
    v78 c i m hm x = csPc (hd i 0) (blk x 512) := by
  simp only [v78, v75, v74, v73, v72, v71, v20, cst_8, v56, v19, v18, v17, v16, v0, rd_blk]; rfl

/-- The store of head 1's gates, key block 1. -/
theorem v100_eq (c : Dev nD) (i : grid0.Coords) (m : Memref sig .tc .vmem S2048x128 .f32) (hm : m.IsWhole) (x : Vec Ideal S2048x128 .f32) :
    v100 c i m hm x = csPc (hd i 1) (blk x 512) := by
  simp only [v100, v97, v96, v95, v94, v93, v20, cst_8, v56, v41, v40, v39, v16, v0, rd_blk]; rfl

/-- The store of head 0's gates, key block 2. -/
theorem v128_eq (c : Dev nD) (i : grid0.Coords) (m : Memref sig .tc .vmem S2048x128 .f32) (hm : m.IsWhole) (x : Vec Ideal S2048x128 .f32) :
    v128 c i m hm x = csPc (hd i 0) (blk x 1024) := by
  simp only [v128, v125, v124, v123, v122, v121, v20, cst_8, v106, v19, v18, v17, v16, v0, rd_blk]; rfl

/-- The store of head 1's gates, key block 2. -/
theorem v150_eq (c : Dev nD) (i : grid0.Coords) (m : Memref sig .tc .vmem S2048x128 .f32) (hm : m.IsWhole) (x : Vec Ideal S2048x128 .f32) :
    v150 c i m hm x = csPc (hd i 1) (blk x 1024) := by
  simp only [v150, v147, v146, v145, v144, v143, v20, cst_8, v106, v41, v40, v39, v16, v0, rd_blk]; rfl

/-- The store of head 0's gates, key block 3. -/
theorem v178_eq (c : Dev nD) (i : grid0.Coords) (m : Memref sig .tc .vmem S2048x128 .f32) (hm : m.IsWhole) (x : Vec Ideal S2048x128 .f32) :
    v178 c i m hm x = csPc (hd i 0) (blk x 1536) := by
  simp only [v178, v175, v174, v173, v172, v171, v20, cst_8, v156, v19, v18, v17, v16, v0, rd_blk]; rfl

/-- The store of head 1's gates, key block 3. -/
theorem v200_eq (c : Dev nD) (i : grid0.Coords) (m : Memref sig .tc .vmem S2048x128 .f32) (hm : m.IsWhole) (x : Vec Ideal S2048x128 .f32) :
    v200 c i m hm x = csPc (hd i 1) (blk x 1536) := by
  simp only [v200, v197, v196, v195, v194, v193, v20, cst_8, v156, v41, v40, v39, v16, v0, rd_blk]; rfl

/-- The ones stored under the values. -/
theorem gV_ones (x : Vec Ideal S2048x128 .bf16) (y : S1x16x512.Idx) (h o : ℕ) (inb) :
    v15 (F := Ideal) y = gV x ((Rect.unit (s := S2x80x2048) ![h, 64, o] S1x16x512.size inb).emb y) := by
  unfold gV
  rw [if_neg (by show ¬ 64 + 1 * (y 1).val < 64; omega)]
  simp only [v15, v12, cst]
  have hy : y = ix3 (y 0) (y 1) (y 2) := by funext a; match a with | ⟨0, _⟩ => rfl | ⟨1, _⟩ => rfl | ⟨2, _⟩ => rfl
  rw [hy]
  pointwise

/-- The first head's values as stored. -/
theorem gV_lo (x : Vec Ideal S2048x128 .bf16) (o : ℕ) (ho : o + 512 ≤ 2048) (y : S1x64x512.Idx) (inb) :
    vtPc ![0, 0] slices_S128x512_o0_0_S64x512 (blk x o) y = gV x ((Rect.unit (s := S2x80x2048) ![0, 0, o] S1x64x512.size inb).emb y) := by
  have h1 : (y 1).val < 64 := (y 1).isLt
  have h2 : (y 2).val < 512 := (y 2).isLt
  have h0 : (y 0).val < 1 := (y 0).isLt
  have hy : y = ix3 (y 0) (y 1) (y 2) := by funext a; match a with | ⟨0, _⟩ => rfl | ⟨1, _⟩ => rfl | ⟨2, _⟩ => rfl
  refine (congrArg _ hy).trans ((vtPc_lo _ (y 0) (y 1) (y 2)).trans ?_)
  unfold gV
  rw [if_pos (by show 0 + 1 * (y 1).val < 64; omega)]
  unfold blk
  congr 1
  funext a
  match a with
  | ⟨0, _⟩ => apply Fin.ext; show (o + (y 2).val) % 2048 = o + 1 * (y 2).val; rw [Nat.mod_eq_of_lt (by omega)]; omega
  | ⟨1, _⟩ => apply Fin.ext; show (y 1).val % 128 = (64 * (0 + 1 * (y 0).val) + (0 + 1 * (y 1).val)) % 128; congr 1; omega

/-- The second head's values as stored. -/
theorem gV_hi (x : Vec Ideal S2048x128 .bf16) (o : ℕ) (ho : o + 512 ≤ 2048) (y : S1x64x512.Idx) (inb) :
    vtPc ![64, 0] slices_S128x512_o64_0_S64x512 (blk x o) y = gV x ((Rect.unit (s := S2x80x2048) ![1, 0, o] S1x64x512.size inb).emb y) := by
  have h1 : (y 1).val < 64 := (y 1).isLt
  have h2 : (y 2).val < 512 := (y 2).isLt
  have h0 : (y 0).val < 1 := (y 0).isLt
  have hy : y = ix3 (y 0) (y 1) (y 2) := by funext a; match a with | ⟨0, _⟩ => rfl | ⟨1, _⟩ => rfl | ⟨2, _⟩ => rfl
  refine (congrArg _ hy).trans ((vtPc_hi _ (y 0) (y 1) (y 2)).trans ?_)
  unfold gV
  rw [if_pos (by show 0 + 1 * (y 1).val < 64; omega)]
  unfold blk
  congr 1
  funext a
  match a with
  | ⟨0, _⟩ => apply Fin.ext; show (o + (y 2).val) % 2048 = o + 1 * (y 2).val; rw [Nat.mod_eq_of_lt (by omega)]; omega
  | ⟨1, _⟩ => apply Fin.ext; show (64 + (y 1).val) % 128 = (64 * (1 + 1 * (y 0).val) + (0 + 1 * (y 1).val)) % 128; congr 1; omega

/-- A head's gates as stored. -/
theorem gC_pc (i : grid0.Coords) (x : Vec Ideal S2048x128 .f32) (h o : ℕ) (hh : h < 2) (ho : o + 512 ≤ 2048) (y : S1x512x128.Idx) (inb) :
    csPc (hd i h) (blk x o) y = gC (i 1).val x ((Rect.unit (s := S2x2048x128) ![h, o, 0] S1x512x128.size inb).emb y) := by
  have h1 : (y 1).val < 512 := (y 1).isLt
  have h0 : (y 0).val < 1 := (y 0).isLt
  have hi : (i 1).val < 4 := (i 1).isLt
  have hy : y = ix3 (y 0) (y 1) (y 2) := by funext a; match a with | ⟨0, _⟩ => rfl | ⟨1, _⟩ => rfl | ⟨2, _⟩ => rfl
  refine (congrArg _ hy).trans ((csPc_at _ (by rw [hd_toNat i h hh]; omega) _ (y 0) (y 1) (y 2)).trans ?_)
  rw [hd_toNat i h hh]
  unfold gC blk
  congr 1
  funext a
  match a with
  | ⟨0, _⟩ => apply Fin.ext; show (o + (y 1).val) % 2048 = o + 1 * (y 1).val; rw [Nat.mod_eq_of_lt (by omega)]; omega
  | ⟨1, _⟩ => apply Fin.ext; show (2 * (i 1).val + h) % 128 = (2 * (i 1).val + (h + 1 * (y 0).val)) % 128; congr 1; omega

/-- An index in a box of three axes. -/
theorem mem3 {n0 n1 n2 : ℕ} (y : (⟨3, ![n0, n1, n2]⟩ : Shape).Idx) (o0 o1 o2 s0 s1 s2 : ℕ) (inb) (h0 : o0 ≤ (y 0).val) (h0' : (y 0).val < o0 + s0) (h1 : o1 ≤ (y 1).val)
    (h1' : (y 1).val < o1 + s1) (h2 : o2 ≤ (y 2).val) (h2' : (y 2).val < o2 + s2) :
    y ∈ (Rect.unit (s := ⟨3, ![n0, n1, n2]⟩) ![o0, o1, o2] ![s0, s1, s2] inb).set := by
  refine Rect.mem_set_unit.mpr fun a => ?_
  match a with
  | ⟨0, _⟩ => exact ⟨h0, h0'⟩
  | ⟨1, _⟩ => exact ⟨h1, h1'⟩
  | ⟨2, _⟩ => exact ⟨h2, h2'⟩

/-- The stores cover the transposed values' buffer. -/
theorem cover_vt (c : Dev nD) (m : Memref sig .tc .vmem S2048x128 .bf16) (hm : m.IsWhole) (x : Vec Ideal S2048x128 .bf16) (y : S2x80x2048.Idx) :
    ∃ p ∈ HS0_16 c m hm x, y ∈ p.1.set := by
  have b0 : (y 0).val < 2 := (y 0).isLt
  have b1 : (y 1).val < 80 := (y 1).isLt
  have b2 : (y 2).val < 2048 := (y 2).isLt
  unfold HS0_16
  simp only [List.exists_mem_cons_iff]
  have hA : (y 0).val = 0 ∨ (y 0).val = 1 := by omega
  have hB : (y 1).val < 64 ∨ 64 ≤ (y 1).val := by omega
  have hC : (y 2).val < 512 ∨ (512 ≤ (y 2).val ∧ (y 2).val < 1024) ∨ (1024 ≤ (y 2).val ∧ (y 2).val < 1536) ∨ 1536 ≤ (y 2).val := by omega
  rcases hA with hA | hA <;> rcases hB with hB | hB <;> rcases hC with hC | hC | hC | hC
  · exact Or.inr (Or.inr (Or.inr (Or.inr (Or.inr (Or.inr (Or.inr (Or.inr (Or.inr (Or.inr (Or.inr (Or.inr (Or.inr (Or.inr (Or.inr (Or.inl (mem3 _ _ _ _ _ _ _ _ (by omega) (by omega) (by omega) (by omega) (by omega) (by omega)))))))))))))))))
  · exact Or.inr (Or.inr (Or.inr (Or.inr (Or.inr (Or.inr (Or.inr (Or.inr (Or.inr (Or.inr (Or.inr (Or.inl (mem3 _ _ _ _ _ _ _ _ (by omega) (by omega) (by omega) (by omega) (by omega) (by omega)))))))))))))
  · exact Or.inr (Or.inr (Or.inr (Or.inr (Or.inr (Or.inr (Or.inr (Or.inl (mem3 _ _ _ _ _ _ _ _ (by omega) (by omega) (by omega) (by omega) (by omega) (by omega)))))))))
  · exact Or.inr (Or.inr (Or.inr (Or.inl (mem3 _ _ _ _ _ _ _ _ (by omega) (by omega) (by omega) (by omega) (by omega) (by omega)))))
  · exact Or.inr (Or.inr (Or.inr (Or.inr (Or.inr (Or.inr (Or.inr (Or.inr (Or.inr (Or.inr (Or.inr (Or.inr (Or.inr (Or.inr (Or.inl (mem3 _ _ _ _ _ _ _ _ (by omega) (by omega) (by omega) (by omega) (by omega) (by omega))))))))))))))))
  · exact Or.inr (Or.inr (Or.inr (Or.inr (Or.inr (Or.inr (Or.inr (Or.inr (Or.inr (Or.inr (Or.inl (mem3 _ _ _ _ _ _ _ _ (by omega) (by omega) (by omega) (by omega) (by omega) (by omega))))))))))))
  · exact Or.inr (Or.inr (Or.inr (Or.inr (Or.inr (Or.inr (Or.inl (mem3 _ _ _ _ _ _ _ _ (by omega) (by omega) (by omega) (by omega) (by omega) (by omega))))))))
  · exact Or.inr (Or.inr (Or.inl (mem3 _ _ _ _ _ _ _ _ (by omega) (by omega) (by omega) (by omega) (by omega) (by omega))))
  · exact Or.inr (Or.inr (Or.inr (Or.inr (Or.inr (Or.inr (Or.inr (Or.inr (Or.inr (Or.inr (Or.inr (Or.inr (Or.inr (Or.inl (mem3 _ _ _ _ _ _ _ _ (by omega) (by omega) (by omega) (by omega) (by omega) (by omega)))))))))))))))
  · exact Or.inr (Or.inr (Or.inr (Or.inr (Or.inr (Or.inr (Or.inr (Or.inr (Or.inr (Or.inl (mem3 _ _ _ _ _ _ _ _ (by omega) (by omega) (by omega) (by omega) (by omega) (by omega)))))))))))
  · exact Or.inr (Or.inr (Or.inr (Or.inr (Or.inr (Or.inl (mem3 _ _ _ _ _ _ _ _ (by omega) (by omega) (by omega) (by omega) (by omega) (by omega)))))))
  · exact Or.inr (Or.inl (mem3 _ _ _ _ _ _ _ _ (by omega) (by omega) (by omega) (by omega) (by omega) (by omega)))
  · exact Or.inr (Or.inr (Or.inr (Or.inr (Or.inr (Or.inr (Or.inr (Or.inr (Or.inr (Or.inr (Or.inr (Or.inr (Or.inl (mem3 _ _ _ _ _ _ _ _ (by omega) (by omega) (by omega) (by omega) (by omega) (by omega))))))))))))))
  · exact Or.inr (Or.inr (Or.inr (Or.inr (Or.inr (Or.inr (Or.inr (Or.inr (Or.inl (mem3 _ _ _ _ _ _ _ _ (by omega) (by omega) (by omega) (by omega) (by omega) (by omega))))))))))
  · exact Or.inr (Or.inr (Or.inr (Or.inr (Or.inl (mem3 _ _ _ _ _ _ _ _ (by omega) (by omega) (by omega) (by omega) (by omega) (by omega))))))
  · exact Or.inl (mem3 _ _ _ _ _ _ _ _ (by omega) (by omega) (by omega) (by omega) (by omega) (by omega))

/-- The stores cover the gates' buffer. -/
theorem cover_cs (c : Dev nD) (i : grid0.Coords) (m : Memref sig .tc .vmem S2048x128 .f32) (hm : m.IsWhole) (x : Vec Ideal S2048x128 .f32) (y : S2x2048x128.Idx) :
    ∃ p ∈ HS1_8 c i m hm x, y ∈ p.1.set := by
  have b0 : (y 0).val < 2 := (y 0).isLt
  have b1 : (y 1).val < 2048 := (y 1).isLt
  have b2 : (y 2).val < 128 := (y 2).isLt
  unfold HS1_8
  simp only [List.exists_mem_cons_iff]
  have : ((y 0).val = 1 ∧ 1536 ≤ (y 1).val ∧ (y 1).val < 2048) ∨ ((y 0).val = 0 ∧ 1536 ≤ (y 1).val ∧ (y 1).val < 2048) ∨ ((y 0).val = 1 ∧ 1024 ≤ (y 1).val ∧ (y 1).val < 1536) ∨ ((y 0).val = 0 ∧ 1024 ≤ (y 1).val ∧ (y 1).val < 1536) ∨ ((y 0).val = 1 ∧ 512 ≤ (y 1).val ∧ (y 1).val < 1024) ∨ ((y 0).val = 0 ∧ 512 ≤ (y 1).val ∧ (y 1).val < 1024) ∨ ((y 0).val = 1 ∧ 0 ≤ (y 1).val ∧ (y 1).val < 512) ∨ ((y 0).val = 0 ∧ 0 ≤ (y 1).val ∧ (y 1).val < 512) := by omega
  rcases this with ⟨h0, h2, h3⟩ | ⟨h0, h2, h3⟩ | ⟨h0, h2, h3⟩ | ⟨h0, h2, h3⟩ | ⟨h0, h2, h3⟩ | ⟨h0, h2, h3⟩ | ⟨h0, h2, h3⟩ | ⟨h0, h2, h3⟩
  · exact Or.inl (mem3 _ _ _ _ _ _ _ _ (by omega) (by omega) (by omega) (by omega) (by omega) (by omega))
  · exact Or.inr (Or.inl (mem3 _ _ _ _ _ _ _ _ (by omega) (by omega) (by omega) (by omega) (by omega) (by omega)))
  · exact Or.inr (Or.inr (Or.inl (mem3 _ _ _ _ _ _ _ _ (by omega) (by omega) (by omega) (by omega) (by omega) (by omega))))
  · exact Or.inr (Or.inr (Or.inr (Or.inl (mem3 _ _ _ _ _ _ _ _ (by omega) (by omega) (by omega) (by omega) (by omega) (by omega)))))
  · exact Or.inr (Or.inr (Or.inr (Or.inr (Or.inl (mem3 _ _ _ _ _ _ _ _ (by omega) (by omega) (by omega) (by omega) (by omega) (by omega))))))
  · exact Or.inr (Or.inr (Or.inr (Or.inr (Or.inr (Or.inl (mem3 _ _ _ _ _ _ _ _ (by omega) (by omega) (by omega) (by omega) (by omega) (by omega)))))))
  · exact Or.inr (Or.inr (Or.inr (Or.inr (Or.inr (Or.inr (Or.inl (mem3 _ _ _ _ _ _ _ _ (by omega) (by omega) (by omega) (by omega) (by omega) (by omega))))))))
  · exact Or.inr (Or.inr (Or.inr (Or.inr (Or.inr (Or.inr (Or.inr (Or.inl (mem3 _ _ _ _ _ _ _ _ (by omega) (by omega) (by omega) (by omega) (by omega) (by omega)))))))))

/-- A load from the filled transposed values is that block of them. -/
theorem rd_vt (c : Dev nD) (m : Memref sig .tc .vmem S2048x128 .bf16) (hm : m.IsWhole) (s : Memref sig .tc .vmem S2x80x2048 .bf16) (x : Vec Ideal S2048x128 .bf16) (h o : ℕ) (inb) :
    s.view.readCov (Val := Elt Ideal) (HS0_16 c m hm x) (Rect.unit (s := S2x80x2048) ![h, 0, o] ![1, 80, 512] inb).toLoadRect = vtb x h o := by
  rw [View.readCov_eq_canon']
  funext j
  have hp : View.PiecesOf (gV x) (HS0_16 c m hm x) :=
    ⟨fun y => gV_ones x y _ _ (by decide), fun y => (congrFun (v183_eq c m hm x) y).trans (gV_hi x 1536 (by omega) y (by decide)), fun y => gV_ones x y _ _ (by decide), fun y => (congrFun (v161_eq c m hm x) y).trans (gV_lo x 1536 (by omega) y (by decide)), fun y => gV_ones x y _ _ (by decide), fun y => (congrFun (v133_eq c m hm x) y).trans (gV_hi x 1024 (by omega) y (by decide)), fun y => gV_ones x y _ _ (by decide), fun y => (congrFun (v111_eq c m hm x) y).trans (gV_lo x 1024 (by omega) y (by decide)), fun y => gV_ones x y _ _ (by decide), fun y => (congrFun (v83_eq c m hm x) y).trans (gV_hi x 512 (by omega) y (by decide)), fun y => gV_ones x y _ _ (by decide), fun y => (congrFun (v61_eq c m hm x) y).trans (gV_lo x 512 (by omega) y (by decide)), fun y => gV_ones x y _ _ (by decide), fun y => (congrFun (v33_eq c m hm x) y).trans (gV_hi x 0 (by omega) y (by decide)), fun y => gV_ones x y _ _ (by decide), fun y => (congrFun (v11_eq c m hm x) y).trans (gV_lo x 0 (by omega) y (by decide)), trivial⟩
  refine (View.canon_apply_of_pieces (gV x) (HS0_16 c m hm x) hp.mem _ (cover_vt c m hm x _)).trans ?_
  have h0 := inb 0
  have h2 := inb 2
  have j0 : (j 0).val < 1 := (j 0).isLt
  have j2 : (j 2).val < 512 := (j 2).isLt
  change h + 1 ≤ 2 at h0
  change o + 512 ≤ 2048 at h2
  unfold vtb
  congr 1
  funext a
  match a with
  | ⟨0, _⟩ => apply Fin.ext; show h + 1 * (j 0).val = h % 2; rw [Nat.mod_eq_of_lt (by omega)]; omega
  | ⟨1, _⟩ => apply Fin.ext; show 0 + 1 * (j 1).val = (j 1).val; omega
  | ⟨2, _⟩ => apply Fin.ext; show o + 1 * (j 2).val = (o + (j 2).val) % 2048; rw [Nat.mod_eq_of_lt (by omega)]; omega

/-- A load from the filled gates along the keys is that block of them. -/
theorem rd_cs (c : Dev nD) (i : grid0.Coords) (m : Memref sig .tc .vmem S2048x128 .f32) (hm : m.IsWhole) (s : Memref sig .tc .vmem S2x2048x128 .f32) (x : Vec Ideal S2048x128 .f32) (h o : ℕ) (inb) :
    s.view.readCov (Val := Elt Ideal) (HS1_8 c i m hm x) (Rect.unit (s := S2x2048x128) ![h, o, 0] ![1, 512, 128] inb).toLoadRect = csb (i 1).val x h o := by
  rw [View.readCov_eq_canon']
  funext j
  have hp : View.PiecesOf (gC (i 1).val x) (HS1_8 c i m hm x) :=
    ⟨fun y => (congrFun (v200_eq c i m hm x) y).trans (gC_pc i x 1 1536 (by omega) (by omega) y (by decide)), fun y => (congrFun (v178_eq c i m hm x) y).trans (gC_pc i x 0 1536 (by omega) (by omega) y (by decide)), fun y => (congrFun (v150_eq c i m hm x) y).trans (gC_pc i x 1 1024 (by omega) (by omega) y (by decide)), fun y => (congrFun (v128_eq c i m hm x) y).trans (gC_pc i x 0 1024 (by omega) (by omega) y (by decide)), fun y => (congrFun (v100_eq c i m hm x) y).trans (gC_pc i x 1 512 (by omega) (by omega) y (by decide)), fun y => (congrFun (v78_eq c i m hm x) y).trans (gC_pc i x 0 512 (by omega) (by omega) y (by decide)), fun y => (congrFun (v50_eq c i m hm x) y).trans (gC_pc i x 1 0 (by omega) (by omega) y (by decide)), fun y => (congrFun (v28_eq c i m hm x) y).trans (gC_pc i x 0 0 (by omega) (by omega) y (by decide)), trivial⟩
  refine (View.canon_apply_of_pieces (gC (i 1).val x) (HS1_8 c i m hm x) hp.mem _ (cover_cs c i m hm x _)).trans ?_
  have h0 := inb 0
  have h2 := inb 1
  have j0 : (j 0).val < 1 := (j 0).isLt
  have j1 : (j 1).val < 512 := (j 1).isLt
  change h + 1 ≤ 2 at h0
  change o + 512 ≤ 2048 at h2
  unfold csb
  congr 1
  funext a
  match a with
  | ⟨0, _⟩ => apply Fin.ext; show h + 1 * (j 0).val = h % 2; rw [Nat.mod_eq_of_lt (by omega)]; omega
  | ⟨1, _⟩ => apply Fin.ext; show o + 1 * (j 1).val = (o + (j 1).val) % 2048; rw [Nat.mod_eq_of_lt (by omega)]; omega
  | ⟨2, _⟩ => apply Fin.ext; show 0 + 1 * (j 2).val = (j 2).val; omega

end Cert.FoxIdeal.Val

end
-- ==== Proof.Loads.lean ====
module

public import proofs.«01_k».proof.Proof.Reads

/-! Each load from the scratch buffers reads the last store to its box. -/

set_option maxRecDepth 65536
set_option maxHeartbeats 4000000

@[expose] public noncomputable section

namespace Cert.FoxIdeal.Val

open Idealize Idealize.ShloMosaic Cert.FoxIdeal Cert.FoxIdeal.Gen
open kernelRun0_A.sl

variable (c : Dev nD) (i : grid0.Coords) (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S1x8x2048 .f32) (harg6 : arg6.IsWhole)
  (arg8 : Memref sig .tc .vmem S2x80x2048 .bf16) (arg9 : Memref sig .tc .vmem S2x2048x128 .f32) (arg10 : Memref sig .tc .vmem S2x2x2x512x512 .f32)
  (arg11 : Memref sig .tc .vmem S2x2x2x512x512 .bf16) (arg12 : Memref sig .tc .vmem S2x2x2x1x512 .f32) (arg13 : Memref sig .tc .vmem S2x2x80x512 .f32)
  (arg14 : Memref sig .tc .vmem S2x2x1x512 .f32)
  (x0 x1 x2 : Vec Ideal S2048x128 .bf16) (x3 : Vec Ideal S2048x128 .f32) (x4 : Vec Ideal S1x8x2048 .f32)

/-- What load 249 reads: the last store to its box. -/
theorem ld_v249 : v249 (F := Ideal) c arg2 harg2 arg3 harg3 arg10 x0 x1 = k0_pay42 v201 (blk x0 0) (blk x1 0) := by
  simp (disch := decide) only [v249, HS2_2, rd_blk, ↓View.readCov_skip, ↓View.readCov_cons_toLoadRect]

/-- What load 259 reads: the last store to its box. -/
theorem ld_v259 : v259 (F := Ideal) c arg14 = k0_pay44 (F := Ideal) k0_pay43 := by
  simp (disch := decide) only [v259, HS6_2, rd_blk, ↓View.readCov_skip, ↓View.readCov_cons_toLoadRect]

/-- What load 281 reads: the last store to its box. -/
theorem ld_v281 : v281 (F := Ideal) c arg2 harg2 arg3 harg3 arg10 x0 x1 = k0_pay45 (r_2 c arg2 harg2 arg3 harg3 x0 x1) := by
  simp (disch := decide) only [v281, HS2_2, rd_blk, ↓View.readCov_skip, ↓View.readCov_cons_toLoadRect]

/-- What load 291 reads: the last store to its box. -/
theorem ld_v291 : v291 (F := Ideal) c i arg2 harg2 arg3 harg3 arg5 harg5 arg6 harg6 arg9 arg10 arg14 x0 x1 x3 x4 = k0_pay46 (F := Ideal) := by
  simp (disch := decide) only [v291, HS6_3, HS6_2, rd_blk, ↓View.readCov_skip, ↓View.readCov_cons_toLoadRect]

/-- What load 308 reads: the last store to its box. -/
theorem ld_v308 : v308 (F := Ideal) c i arg2 harg2 arg3 harg3 arg5 harg5 arg6 harg6 arg9 arg10 arg14 x0 x1 x3 x4 = k0_pay46 (F := Ideal) := by
  simp (disch := decide) only [v308, HS6_3, HS6_2, rd_blk, ↓View.readCov_skip, ↓View.readCov_cons_toLoadRect]

/-- What load 313 reads: the last store to its box. -/
theorem ld_v313 : v313 (F := Ideal) c i arg2 harg2 arg3 harg3 arg5 harg5 arg6 harg6 arg9 arg10 arg11 arg14 x0 x1 x3 x4 = k0_pay51 (r_5 c i arg2 harg2 arg3 harg3 arg5 harg5 arg6 harg6 arg9 arg10 arg14 x0 x1 x3 x4) := by
  simp (disch := decide) only [v313, HS3_2, rd_blk, ↓View.readCov_skip, ↓View.readCov_cons_toLoadRect]

/-- What load 318 reads: the last store to its box. -/
theorem ld_v318 : v318 (F := Ideal) c i arg2 harg2 arg3 harg3 arg5 harg5 arg6 harg6 arg9 arg10 arg11 arg14 x0 x1 x3 x4 = v302 c i arg2 harg2 arg3 harg3 arg5 harg5 arg6 harg6 arg9 arg10 arg14 x0 x1 x3 x4 := by
  simp (disch := decide) only [v318, HS3_2, rd_blk, ↓View.readCov_skip, ↓View.readCov_cons_toLoadRect]

/-- What load 381 reads: the last store to its box. -/
theorem ld_v381 : v381 (F := Ideal) c arg2 harg2 arg3 harg3 arg10 x0 x1 = k0_pay73 (v359 c arg2 harg2 arg3 harg3 x0 x1) := by
  simp (disch := decide) only [v381, HS2_4, rd_blk, ↓View.readCov_skip, ↓View.readCov_cons_toLoadRect]

/-- What load 387 reads: the last store to its box. -/
theorem ld_v387 : v387 (F := Ideal) c i arg2 harg2 arg3 harg3 arg5 harg5 arg6 harg6 arg9 arg10 arg14 x0 x1 x3 x4 = k0_pay74 (F := Ideal) := by
  simp (disch := decide) only [v387, HS6_6, rd_blk, ↓View.readCov_skip, ↓View.readCov_cons_toLoadRect]

/-- What load 409 reads: the last store to its box. -/
theorem ld_v409 : v409 (F := Ideal) c arg2 harg2 arg3 harg3 arg10 x0 x1 = k0_pay75 (v360 c arg2 harg2 arg3 harg3 x0 x1) := by
  simp (disch := decide) only [v409, HS2_4, rd_blk, ↓View.readCov_skip, ↓View.readCov_cons_toLoadRect]

/-- What load 415 reads: the last store to its box. -/
theorem ld_v415 : v415 (F := Ideal) c i arg2 harg2 arg3 harg3 arg5 harg5 arg6 harg6 arg9 arg10 arg14 x0 x1 x3 x4 = k0_pay76 (F := Ideal) := by
  simp (disch := decide) only [v415, HS6_7, HS6_6, rd_blk, ↓View.readCov_skip, ↓View.readCov_cons_toLoadRect]

/-- What load 443 reads: the last store to its box. -/
theorem ld_v443 : v443 (F := Ideal) c i arg2 harg2 arg3 harg3 arg5 harg5 arg6 harg6 arg9 arg10 arg11 arg14 x0 x1 x3 x4 = v398 c i arg2 harg2 arg3 harg3 arg5 harg5 arg6 harg6 arg9 arg10 arg14 x0 x1 x3 x4 := by
  simp (disch := decide) only [v443, HS3_4, rd_blk, ↓View.readCov_skip, ↓View.readCov_cons_toLoadRect]

/-- What load 448 reads: the last store to its box. -/
theorem ld_v448 : v448 (F := Ideal) c i arg2 harg2 arg3 harg3 arg5 harg5 arg6 harg6 arg9 arg10 arg11 arg14 x0 x1 x3 x4 = v426 c i arg2 harg2 arg3 harg3 arg5 harg5 arg6 harg6 arg9 arg10 arg14 x0 x1 x3 x4 := by
  simp (disch := decide) only [v448, HS3_4, rd_blk, ↓View.readCov_skip, ↓View.readCov_cons_toLoadRect]

/-- What load 453 reads: the last store to its box. -/
theorem ld_v453 : v453 (F := Ideal) c arg2 harg2 arg3 harg3 arg10 x0 x1 = v437 c arg2 harg2 arg3 harg3 x0 x1 := by
  simp (disch := decide) only [v453, HS2_6, rd_blk, ↓View.readCov_skip, ↓View.readCov_cons_toLoadRect]

/-- What load 463 reads: the last store to its box. -/
theorem ld_v463 : v463 (F := Ideal) c i arg2 harg2 arg3 harg3 arg5 harg5 arg6 harg6 arg9 arg10 arg14 x0 x1 x3 x4 = v406 c i arg2 harg2 arg3 harg3 arg5 harg5 arg6 harg6 arg9 arg10 arg14 x0 x1 x3 x4 := by
  simp (disch := decide) only [v463, HS6_8, HS6_7, rd_blk, ↓View.readCov_skip, ↓View.readCov_cons_toLoadRect]

/-- What load 488 reads: the last store to its box. -/
theorem ld_v488 : v488 (F := Ideal) c arg2 harg2 arg3 harg3 arg10 x0 x1 = v440 c arg2 harg2 arg3 harg3 x0 x1 := by
  simp (disch := decide) only [v488, HS2_6, rd_blk, ↓View.readCov_skip, ↓View.readCov_cons_toLoadRect]

/-- What load 498 reads: the last store to its box. -/
theorem ld_v498 : v498 (F := Ideal) c i arg2 harg2 arg3 harg3 arg5 harg5 arg6 harg6 arg9 arg10 arg14 x0 x1 x3 x4 = v434 c i arg2 harg2 arg3 harg3 arg5 harg5 arg6 harg6 arg9 arg10 arg14 x0 x1 x3 x4 := by
  simp (disch := decide) only [v498, HS6_9, HS6_8, rd_blk, ↓View.readCov_skip, ↓View.readCov_cons_toLoadRect]

/-- What load 523 reads: the last store to its box. -/
theorem ld_v523 : v523 (F := Ideal) c i arg2 harg2 arg3 harg3 arg5 harg5 arg6 harg6 arg9 arg10 arg11 arg14 x0 x1 x3 x4 = k0_pay102 (r_17 c i arg2 harg2 arg3 harg3 arg5 harg5 arg6 harg6 arg9 arg10 x0 x1 x3 x4) (r_19 c i arg2 harg2 arg3 harg3 arg5 harg5 arg6 harg6 arg9 arg10 arg14 x0 x1 x3 x4) := by
  simp (disch := decide) only [v523, HS3_6, rd_blk, ↓View.readCov_skip, ↓View.readCov_cons_toLoadRect]

/-- What load 528 reads: the last store to its box. -/
theorem ld_v528 : v528 (F := Ideal) c i arg2 harg2 arg3 harg3 arg5 harg5 arg6 harg6 arg9 arg10 arg11 arg14 x0 x1 x3 x4 = v509 c i arg2 harg2 arg3 harg3 arg5 harg5 arg6 harg6 arg9 arg10 arg14 x0 x1 x3 x4 := by
  simp (disch := decide) only [v528, HS3_6, rd_blk, ↓View.readCov_skip, ↓View.readCov_cons_toLoadRect]

/-- What load 531 reads: the last store to its box. -/
theorem ld_v531 : v531 (F := Ideal) c i arg2 harg2 arg3 harg3 arg5 harg5 arg6 harg6 arg9 arg10 arg12 arg14 x0 x1 x3 x4 = k0_pay104 (r_18 c i arg2 harg2 arg3 harg3 arg5 harg5 arg6 harg6 arg9 arg10 arg14 x0 x1 x3 x4) (r_19 c i arg2 harg2 arg3 harg3 arg5 harg5 arg6 harg6 arg9 arg10 arg14 x0 x1 x3 x4) := by
  simp (disch := decide) only [v531, HS4_6, rd_blk, ↓View.readCov_skip, ↓View.readCov_cons_toLoadRect]

/-- What load 533 reads: the last store to its box. -/
theorem ld_v533 : v533 (F := Ideal) c i arg2 harg2 arg3 harg3 arg4 harg4 arg5 harg5 arg6 harg6 arg8 arg9 arg10 arg11 arg13 arg14 x0 x1 x2 x3 x4 = k0_pay103 (r_15 c i arg2 harg2 arg3 harg3 arg4 harg4 arg5 harg5 arg6 harg6 arg8 arg9 arg10 arg11 arg14 x0 x1 x2 x3 x4) := by
  simp (disch := decide) only [v533, HS5_2, rd_blk, ↓View.readCov_skip, ↓View.readCov_cons_toLoadRect]

/-- What load 542 reads: the last store to its box. -/
theorem ld_v542 : v542 (F := Ideal) c i arg2 harg2 arg3 harg3 arg5 harg5 arg6 harg6 arg9 arg10 arg12 arg14 x0 x1 x3 x4 = v517 c i arg2 harg2 arg3 harg3 arg5 harg5 arg6 harg6 arg9 arg10 arg14 x0 x1 x3 x4 := by
  simp (disch := decide) only [v542, HS4_6, rd_blk, ↓View.readCov_skip, ↓View.readCov_cons_toLoadRect]

/-- What load 544 reads: the last store to its box. -/
theorem ld_v544 : v544 (F := Ideal) c i arg2 harg2 arg3 harg3 arg4 harg4 arg5 harg5 arg6 harg6 arg8 arg9 arg10 arg11 arg13 arg14 x0 x1 x2 x3 x4 = v512 c i arg2 harg2 arg3 harg3 arg4 harg4 arg5 harg5 arg6 harg6 arg8 arg9 arg10 arg11 arg14 x0 x1 x2 x3 x4 := by
  simp (disch := decide) only [v544, HS5_2, rd_blk, ↓View.readCov_skip, ↓View.readCov_cons_toLoadRect]

/-- What load 585 reads: the last store to its box. -/
theorem ld_v585 : v585 (F := Ideal) c arg2 harg2 arg3 harg3 arg10 x0 x1 = k0_pay42 v201 (blk x0 0) (blk x1 0) := by
  simp (disch := decide) only [v585, HS2_6, HS2_4, HS2_2, rd_blk, ↓View.readCov_skip, ↓View.readCov_cons_toLoadRect]

/-- What load 605 reads: the last store to its box. -/
theorem ld_v605 : v605 (F := Ideal) c arg2 harg2 arg3 harg3 arg10 x0 x1 = k0_pay127 (v583 c arg2 harg2 arg3 harg3 x0 x1) := by
  simp (disch := decide) only [v605, HS2_8, rd_blk, ↓View.readCov_skip, ↓View.readCov_cons_toLoadRect]

/-- What load 611 reads: the last store to its box. -/
theorem ld_v611 : v611 (F := Ideal) c i arg2 harg2 arg3 harg3 arg5 harg5 arg6 harg6 arg9 arg10 arg14 x0 x1 x3 x4 = k0_pay128 (F := Ideal) := by
  simp (disch := decide) only [v611, HS6_12, rd_blk, ↓View.readCov_skip, ↓View.readCov_cons_toLoadRect]

/-- What load 620 reads: the last store to its box. -/
theorem ld_v620 : v620 (F := Ideal) c i arg2 harg2 arg3 harg3 arg5 harg5 arg6 harg6 arg9 arg10 arg11 arg14 x0 x1 x3 x4 = k0_pay51 (r_5 c i arg2 harg2 arg3 harg3 arg5 harg5 arg6 harg6 arg9 arg10 arg14 x0 x1 x3 x4) := by
  simp (disch := decide) only [v620, HS3_6, HS3_4, HS3_2, rd_blk, ↓View.readCov_skip, ↓View.readCov_cons_toLoadRect]

/-- What load 625 reads: the last store to its box. -/
theorem ld_v625 : v625 (F := Ideal) c i arg2 harg2 arg3 harg3 arg5 harg5 arg6 harg6 arg9 arg10 arg12 arg14 x0 x1 x3 x4 = k0_pay52 (r_3 c arg14) (r_4 c i arg2 harg2 arg3 harg3 arg5 harg5 arg6 harg6 arg9 arg10 arg14 x0 x1 x3 x4) := by
  simp (disch := decide) only [v625, HS4_6, rd_blk, ↓View.readCov_skip, ↓View.readCov_cons_toLoadRect]

/-- What load 628 reads: the last store to its box. -/
theorem ld_v628 : v628 (F := Ideal) c i arg2 harg2 arg3 harg3 arg5 harg5 arg6 harg6 arg9 arg10 arg14 x0 x1 x3 x4 = k0_pay128 (F := Ideal) := by
  simp (disch := decide) only [v628, HS6_12, rd_blk, ↓View.readCov_skip, ↓View.readCov_cons_toLoadRect]

/-- What load 633 reads: the last store to its box. -/
theorem ld_v633 : v633 (F := Ideal) c arg2 harg2 arg3 harg3 arg10 x0 x1 = k0_pay129 (v584 c arg2 harg2 arg3 harg3 x0 x1) := by
  simp (disch := decide) only [v633, HS2_8, rd_blk, ↓View.readCov_skip, ↓View.readCov_cons_toLoadRect]

/-- What load 639 reads: the last store to its box. -/
theorem ld_v639 : v639 (F := Ideal) c i arg2 harg2 arg3 harg3 arg5 harg5 arg6 harg6 arg9 arg10 arg14 x0 x1 x3 x4 = k0_pay130 (F := Ideal) := by
  simp (disch := decide) only [v639, HS6_13, HS6_12, rd_blk, ↓View.readCov_skip, ↓View.readCov_cons_toLoadRect]

/-- What load 648 reads: the last store to its box. -/
theorem ld_v648 : v648 (F := Ideal) c i arg2 harg2 arg3 harg3 arg5 harg5 arg6 harg6 arg9 arg10 arg11 arg14 x0 x1 x3 x4 = v302 c i arg2 harg2 arg3 harg3 arg5 harg5 arg6 harg6 arg9 arg10 arg14 x0 x1 x3 x4 := by
  simp (disch := decide) only [v648, HS3_7, HS3_6, HS3_4, HS3_2, rd_blk, ↓View.readCov_skip, ↓View.readCov_cons_toLoadRect]

/-- What load 653 reads: the last store to its box. -/
theorem ld_v653 : v653 (F := Ideal) c i arg2 harg2 arg3 harg3 arg5 harg5 arg6 harg6 arg9 arg10 arg12 arg14 x0 x1 x3 x4 = v307 c i arg2 harg2 arg3 harg3 arg5 harg5 arg6 harg6 arg9 arg10 arg14 x0 x1 x3 x4 := by
  simp (disch := decide) only [v653, HS4_7, HS4_6, rd_blk, ↓View.readCov_skip, ↓View.readCov_cons_toLoadRect]

/-- What load 667 reads: the last store to its box. -/
theorem ld_v667 : v667 (F := Ideal) c i arg2 harg2 arg3 harg3 arg5 harg5 arg6 harg6 arg9 arg10 arg11 arg14 x0 x1 x3 x4 = v622 c i arg2 harg2 arg3 harg3 arg5 harg5 arg6 harg6 arg9 arg10 arg14 x0 x1 x3 x4 := by
  simp (disch := decide) only [v667, HS3_8, HS3_7, rd_blk, ↓View.readCov_skip, ↓View.readCov_cons_toLoadRect]

/-- What load 672 reads: the last store to its box. -/
theorem ld_v672 : v672 (F := Ideal) c i arg2 harg2 arg3 harg3 arg5 harg5 arg6 harg6 arg9 arg10 arg11 arg14 x0 x1 x3 x4 = v650 c i arg2 harg2 arg3 harg3 arg5 harg5 arg6 harg6 arg9 arg10 arg14 x0 x1 x3 x4 := by
  simp (disch := decide) only [v672, HS3_8, rd_blk, ↓View.readCov_skip, ↓View.readCov_cons_toLoadRect]

/-- What load 681 reads: the last store to its box. -/
theorem ld_v681 : v681 (F := Ideal) c arg2 harg2 arg3 harg3 arg10 x0 x1 = v661 c arg2 harg2 arg3 harg3 x0 x1 := by
  simp (disch := decide) only [v681, HS2_10, rd_blk, ↓View.readCov_skip, ↓View.readCov_cons_toLoadRect]

/-- What load 687 reads: the last store to its box. -/
theorem ld_v687 : v687 (F := Ideal) c i arg2 harg2 arg3 harg3 arg5 harg5 arg6 harg6 arg9 arg10 arg14 x0 x1 x3 x4 = v630 c i arg2 harg2 arg3 harg3 arg5 harg5 arg6 harg6 arg9 arg10 arg14 x0 x1 x3 x4 := by
  simp (disch := decide) only [v687, HS6_14, HS6_13, rd_blk, ↓View.readCov_skip, ↓View.readCov_cons_toLoadRect]

/-- What load 712 reads: the last store to its box. -/
theorem ld_v712 : v712 (F := Ideal) c arg2 harg2 arg3 harg3 arg10 x0 x1 = v664 c arg2 harg2 arg3 harg3 x0 x1 := by
  simp (disch := decide) only [v712, HS2_10, rd_blk, ↓View.readCov_skip, ↓View.readCov_cons_toLoadRect]

/-- What load 718 reads: the last store to its box. -/
theorem ld_v718 : v718 (F := Ideal) c i arg2 harg2 arg3 harg3 arg5 harg5 arg6 harg6 arg9 arg10 arg14 x0 x1 x3 x4 = v658 c i arg2 harg2 arg3 harg3 arg5 harg5 arg6 harg6 arg9 arg10 arg14 x0 x1 x3 x4 := by
  simp (disch := decide) only [v718, HS6_15, HS6_14, rd_blk, ↓View.readCov_skip, ↓View.readCov_cons_toLoadRect]

/-- What load 741 reads: the last store to its box. -/
theorem ld_v741 : v741 (F := Ideal) c arg2 harg2 arg3 harg3 arg10 x0 x1 = k0_pay127 (v583 c arg2 harg2 arg3 harg3 x0 x1) := by
  simp (disch := decide) only [v741, HS2_10, HS2_8, rd_blk, ↓View.readCov_skip, ↓View.readCov_cons_toLoadRect]

/-- What load 744 reads: the last store to its box. -/
theorem ld_v744 : v744 (F := Ideal) c arg2 harg2 arg3 harg3 arg10 x0 x1 = k0_pay129 (v584 c arg2 harg2 arg3 harg3 x0 x1) := by
  simp (disch := decide) only [v744, HS2_11, HS2_10, HS2_8, rd_blk, ↓View.readCov_skip, ↓View.readCov_cons_toLoadRect]

/-- What load 749 reads: the last store to its box. -/
theorem ld_v749 : v749 (F := Ideal) c i arg2 harg2 arg3 harg3 arg5 harg5 arg6 harg6 arg9 arg10 arg11 arg14 x0 x1 x3 x4 = v698 c i arg2 harg2 arg3 harg3 arg5 harg5 arg6 harg6 arg9 arg10 arg14 x0 x1 x3 x4 := by
  simp (disch := decide) only [v749, HS3_10, rd_blk, ↓View.readCov_skip, ↓View.readCov_cons_toLoadRect]

/-- What load 754 reads: the last store to its box. -/
theorem ld_v754 : v754 (F := Ideal) c i arg2 harg2 arg3 harg3 arg5 harg5 arg6 harg6 arg9 arg10 arg11 arg14 x0 x1 x3 x4 = v729 c i arg2 harg2 arg3 harg3 arg5 harg5 arg6 harg6 arg9 arg10 arg14 x0 x1 x3 x4 := by
  simp (disch := decide) only [v754, HS3_10, rd_blk, ↓View.readCov_skip, ↓View.readCov_cons_toLoadRect]

/-- What load 759 reads: the last store to its box. -/
theorem ld_v759 : v759 (F := Ideal) c arg2 harg2 arg3 harg3 arg10 x0 x1 = v743 c arg2 harg2 arg3 harg3 x0 x1 := by
  simp (disch := decide) only [v759, HS2_12, HS2_11, rd_blk, ↓View.readCov_skip, ↓View.readCov_cons_toLoadRect]

/-- What load 769 reads: the last store to its box. -/
theorem ld_v769 : v769 (F := Ideal) c i arg2 harg2 arg3 harg3 arg5 harg5 arg6 harg6 arg9 arg10 arg14 x0 x1 x3 x4 = v709 c i arg2 harg2 arg3 harg3 arg5 harg5 arg6 harg6 arg9 arg10 arg14 x0 x1 x3 x4 := by
  simp (disch := decide) only [v769, HS6_16, HS6_15, rd_blk, ↓View.readCov_skip, ↓View.readCov_cons_toLoadRect]

/-- What load 778 reads: the last store to its box. -/
theorem ld_v778 : v778 (F := Ideal) c i arg2 harg2 arg3 harg3 arg5 harg5 arg6 harg6 arg9 arg10 arg11 arg14 x0 x1 x3 x4 = v622 c i arg2 harg2 arg3 harg3 arg5 harg5 arg6 harg6 arg9 arg10 arg14 x0 x1 x3 x4 := by
  simp (disch := decide) only [v778, HS3_10, HS3_8, HS3_7, rd_blk, ↓View.readCov_skip, ↓View.readCov_cons_toLoadRect]

/-- What load 781 reads: the last store to its box. -/
theorem ld_v781 : v781 (F := Ideal) c i arg2 harg2 arg3 harg3 arg5 harg5 arg6 harg6 arg9 arg10 arg12 arg14 x0 x1 x3 x4 = v706 c i arg2 harg2 arg3 harg3 arg5 harg5 arg6 harg6 arg9 arg10 arg14 x0 x1 x3 x4 := by
  simp (disch := decide) only [v781, HS4_10, rd_blk, ↓View.readCov_skip, ↓View.readCov_cons_toLoadRect]

/-- What load 783 reads: the last store to its box. -/
theorem ld_v783 : v783 (F := Ideal) c i arg2 harg2 arg3 harg3 arg4 harg4 arg5 harg5 arg6 harg6 arg8 arg9 arg10 arg11 arg13 arg14 x0 x1 x2 x3 x4 = v701 c i arg2 harg2 arg3 harg3 arg4 harg4 arg5 harg5 arg6 harg6 arg8 arg9 arg10 arg11 arg14 x0 x1 x2 x3 x4 := by
  simp (disch := decide) only [v783, HS5_4, rd_blk, ↓View.readCov_skip, ↓View.readCov_cons_toLoadRect]

/-- What load 793 reads: the last store to its box. -/
theorem ld_v793 : v793 (F := Ideal) c i arg2 harg2 arg3 harg3 arg5 harg5 arg6 harg6 arg9 arg10 arg12 arg14 x0 x1 x3 x4 = v627 c i arg2 harg2 arg3 harg3 arg5 harg5 arg6 harg6 arg9 arg10 arg14 x0 x1 x3 x4 := by
  simp (disch := decide) only [v793, HS4_10, HS4_7, rd_blk, ↓View.readCov_skip, ↓View.readCov_cons_toLoadRect]

/-- What load 796 reads: the last store to its box. -/
theorem ld_v796 : v796 (F := Ideal) c i arg2 harg2 arg3 harg3 arg5 harg5 arg6 harg6 arg9 arg10 arg14 x0 x1 x3 x4 = v709 c i arg2 harg2 arg3 harg3 arg5 harg5 arg6 harg6 arg9 arg10 arg14 x0 x1 x3 x4 := by
  simp (disch := decide) only [v796, HS6_16, HS6_15, rd_blk, ↓View.readCov_skip, ↓View.readCov_cons_toLoadRect]

/-- What load 801 reads: the last store to its box. -/
theorem ld_v801 : v801 (F := Ideal) c arg2 harg2 arg3 harg3 arg10 x0 x1 = v746 c arg2 harg2 arg3 harg3 x0 x1 := by
  simp (disch := decide) only [v801, HS2_12, rd_blk, ↓View.readCov_skip, ↓View.readCov_cons_toLoadRect]

/-- What load 811 reads: the last store to its box. -/
theorem ld_v811 : v811 (F := Ideal) c i arg2 harg2 arg3 harg3 arg5 harg5 arg6 harg6 arg9 arg10 arg14 x0 x1 x3 x4 = v740 c i arg2 harg2 arg3 harg3 arg5 harg5 arg6 harg6 arg9 arg10 arg14 x0 x1 x3 x4 := by
  simp (disch := decide) only [v811, HS6_17, HS6_16, rd_blk, ↓View.readCov_skip, ↓View.readCov_cons_toLoadRect]

/-- What load 823 reads: the last store to its box. -/
theorem ld_v823 : v823 (F := Ideal) c i arg2 harg2 arg3 harg3 arg5 harg5 arg6 harg6 arg9 arg10 arg12 arg14 x0 x1 x3 x4 = v737 c i arg2 harg2 arg3 harg3 arg5 harg5 arg6 harg6 arg9 arg10 arg14 x0 x1 x3 x4 := by
  simp (disch := decide) only [v823, HS4_11, HS4_10, rd_blk, ↓View.readCov_skip, ↓View.readCov_cons_toLoadRect]

/-- What load 825 reads: the last store to its box. -/
theorem ld_v825 : v825 (F := Ideal) c i arg2 harg2 arg3 harg3 arg4 harg4 arg5 harg5 arg6 harg6 arg8 arg9 arg10 arg11 arg12 arg13 arg14 x0 x1 x2 x3 x4 = v732 c i arg2 harg2 arg3 harg3 arg4 harg4 arg5 harg5 arg6 harg6 arg8 arg9 arg10 arg11 arg14 x0 x1 x2 x3 x4 := by
  simp (disch := decide) only [v825, HS5_5, HS5_4, rd_blk, ↓View.readCov_skip, ↓View.readCov_cons_toLoadRect]

/-- What load 830 reads: the last store to its box. -/
theorem ld_v830 : v830 (F := Ideal) c i arg2 harg2 arg3 harg3 arg4 harg4 arg5 harg5 arg6 harg6 arg8 arg9 arg10 arg11 arg12 arg13 arg14 x0 x1 x2 x3 x4 = v732 c i arg2 harg2 arg3 harg3 arg4 harg4 arg5 harg5 arg6 harg6 arg8 arg9 arg10 arg11 arg14 x0 x1 x2 x3 x4 := by
  simp (disch := decide) only [v830, HS5_5, HS5_4, rd_blk, ↓View.readCov_skip, ↓View.readCov_cons_toLoadRect]

/-- What load 835 reads: the last store to its box. -/
theorem ld_v835 : v835 (F := Ideal) c i arg2 harg2 arg3 harg3 arg5 harg5 arg6 harg6 arg9 arg10 arg12 arg14 x0 x1 x3 x4 = v655 c i arg2 harg2 arg3 harg3 arg5 harg5 arg6 harg6 arg9 arg10 arg14 x0 x1 x3 x4 := by
  simp (disch := decide) only [v835, HS4_11, HS4_10, rd_blk, ↓View.readCov_skip, ↓View.readCov_cons_toLoadRect]

/-- What load 838 reads: the last store to its box. -/
theorem ld_v838 : v838 (F := Ideal) c i arg2 harg2 arg3 harg3 arg5 harg5 arg6 harg6 arg9 arg10 arg14 x0 x1 x3 x4 = v740 c i arg2 harg2 arg3 harg3 arg5 harg5 arg6 harg6 arg9 arg10 arg14 x0 x1 x3 x4 := by
  simp (disch := decide) only [v838, HS6_17, HS6_16, rd_blk, ↓View.readCov_skip, ↓View.readCov_cons_toLoadRect]

/-- What load 843 reads: the last store to its box. -/
theorem ld_v843 : v843 (F := Ideal) c i arg2 harg2 arg3 harg3 arg5 harg5 arg6 harg6 arg9 arg10 arg11 arg14 x0 x1 x3 x4 = v780 c i arg2 harg2 arg3 harg3 arg5 harg5 arg6 harg6 arg9 arg10 arg14 x0 x1 x3 x4 := by
  simp (disch := decide) only [v843, HS3_12, rd_blk, ↓View.readCov_skip, ↓View.readCov_cons_toLoadRect]

/-- What load 848 reads: the last store to its box. -/
theorem ld_v848 : v848 (F := Ideal) c i arg2 harg2 arg3 harg3 arg5 harg5 arg6 harg6 arg9 arg10 arg11 arg14 x0 x1 x3 x4 = k0_pay186 (subi v202 v203) (v580 c i arg6 harg6 x4) (v800 c i arg5 harg5 arg9 x3) (v801 c arg2 harg2 arg3 harg3 arg10 x0 x1) (v811 c i arg2 harg2 arg3 harg3 arg5 harg5 arg6 harg6 arg9 arg10 arg14 x0 x1 x3 x4) := by
  simp (disch := decide) only [v848, HS3_12, rd_blk, ↓View.readCov_skip, ↓View.readCov_cons_toLoadRect]

/-- What load 851 reads: the last store to its box. -/
theorem ld_v851 : v851 (F := Ideal) c i arg2 harg2 arg3 harg3 arg5 harg5 arg6 harg6 arg9 arg10 arg12 arg14 x0 x1 x3 x4 = v795 c i arg2 harg2 arg3 harg3 arg5 harg5 arg6 harg6 arg9 arg10 arg14 x0 x1 x3 x4 := by
  simp (disch := decide) only [v851, HS4_12, HS4_11, rd_blk, ↓View.readCov_skip, ↓View.readCov_cons_toLoadRect]

/-- What load 853 reads: the last store to its box. -/
theorem ld_v853 : v853 (F := Ideal) c i arg2 harg2 arg3 harg3 arg4 harg4 arg5 harg5 arg6 harg6 arg8 arg9 arg10 arg11 arg12 arg13 arg14 x0 x1 x2 x3 x4 = v790 c i arg2 harg2 arg3 harg3 arg4 harg4 arg5 harg5 arg6 harg6 arg8 arg9 arg10 arg11 arg12 arg13 arg14 x0 x1 x2 x3 x4 := by
  simp (disch := decide) only [v853, HS5_6, HS5_5, rd_blk, ↓View.readCov_skip, ↓View.readCov_cons_toLoadRect]

/-- What load 862 reads: the last store to its box. -/
theorem ld_v862 : v862 (F := Ideal) c i arg2 harg2 arg3 harg3 arg5 harg5 arg6 harg6 arg9 arg10 arg12 arg14 x0 x1 x3 x4 = v837 c i arg2 harg2 arg3 harg3 arg5 harg5 arg6 harg6 arg9 arg10 arg14 x0 x1 x3 x4 := by
  simp (disch := decide) only [v862, HS4_12, rd_blk, ↓View.readCov_skip, ↓View.readCov_cons_toLoadRect]

/-- What load 864 reads: the last store to its box. -/
theorem ld_v864 : v864 (F := Ideal) c i arg2 harg2 arg3 harg3 arg4 harg4 arg5 harg5 arg6 harg6 arg8 arg9 arg10 arg11 arg12 arg13 arg14 x0 x1 x2 x3 x4 = v832 c i arg2 harg2 arg3 harg3 arg4 harg4 arg5 harg5 arg6 harg6 arg8 arg9 arg10 arg11 arg12 arg13 arg14 x0 x1 x2 x3 x4 := by
  simp (disch := decide) only [v864, HS5_6, rd_blk, ↓View.readCov_skip, ↓View.readCov_cons_toLoadRect]

/-- What load 925 reads: the last store to its box. -/
theorem ld_v925 : v925 (F := Ideal) c arg2 harg2 arg3 harg3 arg10 x0 x1 = k0_pay201 (v885 c arg2 harg2 x0) (blk x1 0) := by
  simp (disch := decide) only [v925, HS2_14, rd_blk, ↓View.readCov_skip, ↓View.readCov_cons_toLoadRect]

/-- What load 931 reads: the last store to its box. -/
theorem ld_v931 : v931 (F := Ideal) c i arg2 harg2 arg3 harg3 arg5 harg5 arg6 harg6 arg9 arg10 arg14 x0 x1 x3 x4 = k0_pay202 (F := Ideal) := by
  simp (disch := decide) only [v931, HS6_20, rd_blk, ↓View.readCov_skip, ↓View.readCov_cons_toLoadRect]

/-- What load 940 reads: the last store to its box. -/
theorem ld_v940 : v940 (F := Ideal) c i arg2 harg2 arg3 harg3 arg5 harg5 arg6 harg6 arg9 arg10 arg11 arg14 x0 x1 x3 x4 = v398 c i arg2 harg2 arg3 harg3 arg5 harg5 arg6 harg6 arg9 arg10 arg14 x0 x1 x3 x4 := by
  simp (disch := decide) only [v940, HS3_12, HS3_10, HS3_8, HS3_7, HS3_6, HS3_4, rd_blk, ↓View.readCov_skip, ↓View.readCov_cons_toLoadRect]

/-- What load 945 reads: the last store to its box. -/
theorem ld_v945 : v945 (F := Ideal) c i arg2 harg2 arg3 harg3 arg5 harg5 arg6 harg6 arg9 arg10 arg12 arg14 x0 x1 x3 x4 = v403 c i arg2 harg2 arg3 harg3 arg5 harg5 arg6 harg6 arg9 arg10 arg14 x0 x1 x3 x4 := by
  simp (disch := decide) only [v945, HS4_12, HS4_11, HS4_10, HS4_7, HS4_6, rd_blk, ↓View.readCov_skip, ↓View.readCov_cons_toLoadRect]

/-- What load 953 reads: the last store to its box. -/
theorem ld_v953 : v953 (F := Ideal) c arg2 harg2 arg3 harg3 arg10 x0 x1 = k0_pay203 (v890 c arg2 harg2 x0) (blk x1 0) := by
  simp (disch := decide) only [v953, HS2_14, rd_blk, ↓View.readCov_skip, ↓View.readCov_cons_toLoadRect]

/-- What load 959 reads: the last store to its box. -/
theorem ld_v959 : v959 (F := Ideal) c i arg2 harg2 arg3 harg3 arg5 harg5 arg6 harg6 arg9 arg10 arg14 x0 x1 x3 x4 = v918 (F := Ideal) := by
  simp (disch := decide) only [v959, HS6_21, HS6_20, rd_blk, ↓View.readCov_skip, ↓View.readCov_cons_toLoadRect]

/-- What load 968 reads: the last store to its box. -/
theorem ld_v968 : v968 (F := Ideal) c i arg2 harg2 arg3 harg3 arg5 harg5 arg6 harg6 arg9 arg10 arg11 arg14 x0 x1 x3 x4 = v426 c i arg2 harg2 arg3 harg3 arg5 harg5 arg6 harg6 arg9 arg10 arg14 x0 x1 x3 x4 := by
  simp (disch := decide) only [v968, HS3_13, HS3_12, HS3_10, HS3_8, HS3_7, HS3_6, HS3_4, rd_blk, ↓View.readCov_skip, ↓View.readCov_cons_toLoadRect]

/-- What load 973 reads: the last store to its box. -/
theorem ld_v973 : v973 (F := Ideal) c i arg2 harg2 arg3 harg3 arg5 harg5 arg6 harg6 arg9 arg10 arg12 arg14 x0 x1 x3 x4 = v431 c i arg2 harg2 arg3 harg3 arg5 harg5 arg6 harg6 arg9 arg10 arg14 x0 x1 x3 x4 := by
  simp (disch := decide) only [v973, HS4_13, HS4_12, HS4_11, HS4_10, HS4_7, HS4_6, rd_blk, ↓View.readCov_skip, ↓View.readCov_cons_toLoadRect]

/-- What load 979 reads: the last store to its box. -/
theorem ld_v979 : v979 (F := Ideal) c arg2 harg2 arg3 harg3 arg10 x0 x1 = v437 c arg2 harg2 arg3 harg3 x0 x1 := by
  simp (disch := decide) only [v979, HS2_14, HS2_12, HS2_11, HS2_10, HS2_8, HS2_6, rd_blk, ↓View.readCov_skip, ↓View.readCov_cons_toLoadRect]

/-- What load 982 reads: the last store to its box. -/
theorem ld_v982 : v982 (F := Ideal) c arg2 harg2 arg3 harg3 arg10 x0 x1 = v440 c arg2 harg2 arg3 harg3 x0 x1 := by
  simp (disch := decide) only [v982, HS2_15, HS2_14, HS2_12, HS2_11, HS2_10, HS2_8, HS2_6, rd_blk, ↓View.readCov_skip, ↓View.readCov_cons_toLoadRect]

/-- What load 987 reads: the last store to its box. -/
theorem ld_v987 : v987 (F := Ideal) c i arg2 harg2 arg3 harg3 arg5 harg5 arg6 harg6 arg9 arg10 arg11 arg14 x0 x1 x3 x4 = v942 c i arg2 harg2 arg3 harg3 arg5 harg5 arg6 harg6 arg9 arg10 arg14 x0 x1 x3 x4 := by
  simp (disch := decide) only [v987, HS3_14, HS3_13, rd_blk, ↓View.readCov_skip, ↓View.readCov_cons_toLoadRect]

/-- What load 992 reads: the last store to its box. -/
theorem ld_v992 : v992 (F := Ideal) c i arg2 harg2 arg3 harg3 arg5 harg5 arg6 harg6 arg9 arg10 arg11 arg14 x0 x1 x3 x4 = v970 c i arg2 harg2 arg3 harg3 arg5 harg5 arg6 harg6 arg9 arg10 arg14 x0 x1 x3 x4 := by
  simp (disch := decide) only [v992, HS3_14, rd_blk, ↓View.readCov_skip, ↓View.readCov_cons_toLoadRect]

/-- What load 1001 reads: the last store to its box. -/
theorem ld_v1001 : v1001 (F := Ideal) c arg2 harg2 arg3 harg3 arg10 x0 x1 = v981 c arg2 harg2 arg3 harg3 x0 x1 := by
  simp (disch := decide) only [v1001, HS2_16, HS2_15, rd_blk, ↓View.readCov_skip, ↓View.readCov_cons_toLoadRect]

/-- What load 1007 reads: the last store to its box. -/
theorem ld_v1007 : v1007 (F := Ideal) c i arg2 harg2 arg3 harg3 arg5 harg5 arg6 harg6 arg9 arg10 arg14 x0 x1 x3 x4 = v950 c i arg2 harg2 arg3 harg3 arg5 harg5 arg6 harg6 arg9 arg10 arg14 x0 x1 x3 x4 := by
  simp (disch := decide) only [v1007, HS6_22, HS6_21, rd_blk, ↓View.readCov_skip, ↓View.readCov_cons_toLoadRect]

/-- What load 1016 reads: the last store to its box. -/
theorem ld_v1016 : v1016 (F := Ideal) c i arg2 harg2 arg3 harg3 arg5 harg5 arg6 harg6 arg9 arg10 arg11 arg14 x0 x1 x3 x4 = k0_pay102 (r_17 c i arg2 harg2 arg3 harg3 arg5 harg5 arg6 harg6 arg9 arg10 x0 x1 x3 x4) (r_19 c i arg2 harg2 arg3 harg3 arg5 harg5 arg6 harg6 arg9 arg10 arg14 x0 x1 x3 x4) := by
  simp (disch := decide) only [v1016, HS3_14, HS3_13, HS3_12, HS3_10, HS3_8, HS3_7, HS3_6, rd_blk, ↓View.readCov_skip, ↓View.readCov_cons_toLoadRect]

/-- What load 1019 reads: the last store to its box. -/
theorem ld_v1019 : v1019 (F := Ideal) c i arg2 harg2 arg3 harg3 arg4 harg4 arg5 harg5 arg6 harg6 arg8 arg9 arg10 arg11 arg12 arg13 arg14 x0 x1 x2 x3 x4 = k0_pay103 (r_15 c i arg2 harg2 arg3 harg3 arg4 harg4 arg5 harg5 arg6 harg6 arg8 arg9 arg10 arg11 arg14 x0 x1 x2 x3 x4) := by
  simp (disch := decide) only [v1019, HS5_6, HS5_5, HS5_4, HS5_2, rd_blk, ↓View.readCov_skip, ↓View.readCov_cons_toLoadRect]

/-- What load 1024 reads: the last store to its box. -/
theorem ld_v1024 : v1024 (F := Ideal) c i arg2 harg2 arg3 harg3 arg5 harg5 arg6 harg6 arg9 arg10 arg12 arg14 x0 x1 x3 x4 = k0_pay104 (r_18 c i arg2 harg2 arg3 harg3 arg5 harg5 arg6 harg6 arg9 arg10 arg14 x0 x1 x3 x4) (r_19 c i arg2 harg2 arg3 harg3 arg5 harg5 arg6 harg6 arg9 arg10 arg14 x0 x1 x3 x4) := by
  simp (disch := decide) only [v1024, HS4_14, HS4_13, HS4_12, HS4_11, HS4_10, HS4_7, HS4_6, rd_blk, ↓View.readCov_skip, ↓View.readCov_cons_toLoadRect]

/-- What load 1032 reads: the last store to its box. -/
theorem ld_v1032 : v1032 (F := Ideal) c arg2 harg2 arg3 harg3 arg10 x0 x1 = v984 c arg2 harg2 arg3 harg3 x0 x1 := by
  simp (disch := decide) only [v1032, HS2_16, rd_blk, ↓View.readCov_skip, ↓View.readCov_cons_toLoadRect]

/-- What load 1038 reads: the last store to its box. -/
theorem ld_v1038 : v1038 (F := Ideal) c i arg2 harg2 arg3 harg3 arg5 harg5 arg6 harg6 arg9 arg10 arg14 x0 x1 x3 x4 = v978 c i arg2 harg2 arg3 harg3 arg5 harg5 arg6 harg6 arg9 arg10 arg14 x0 x1 x3 x4 := by
  simp (disch := decide) only [v1038, HS6_23, HS6_22, rd_blk, ↓View.readCov_skip, ↓View.readCov_cons_toLoadRect]

/-- What load 1047 reads: the last store to its box. -/
theorem ld_v1047 : v1047 (F := Ideal) c i arg2 harg2 arg3 harg3 arg5 harg5 arg6 harg6 arg9 arg10 arg11 arg14 x0 x1 x3 x4 = v509 c i arg2 harg2 arg3 harg3 arg5 harg5 arg6 harg6 arg9 arg10 arg14 x0 x1 x3 x4 := by
  simp (disch := decide) only [v1047, HS3_15, HS3_14, HS3_13, HS3_12, HS3_10, HS3_8, HS3_7, HS3_6, rd_blk, ↓View.readCov_skip, ↓View.readCov_cons_toLoadRect]

/-- What load 1050 reads: the last store to its box. -/
theorem ld_v1050 : v1050 (F := Ideal) c i arg2 harg2 arg3 harg3 arg4 harg4 arg5 harg5 arg6 harg6 arg8 arg9 arg10 arg11 arg12 arg13 arg14 x0 x1 x2 x3 x4 = v512 c i arg2 harg2 arg3 harg3 arg4 harg4 arg5 harg5 arg6 harg6 arg8 arg9 arg10 arg11 arg14 x0 x1 x2 x3 x4 := by
  simp (disch := decide) only [v1050, HS5_7, HS5_6, HS5_5, HS5_4, HS5_2, rd_blk, ↓View.readCov_skip, ↓View.readCov_cons_toLoadRect]

/-- What load 1055 reads: the last store to its box. -/
theorem ld_v1055 : v1055 (F := Ideal) c i arg2 harg2 arg3 harg3 arg5 harg5 arg6 harg6 arg9 arg10 arg12 arg14 x0 x1 x3 x4 = v517 c i arg2 harg2 arg3 harg3 arg5 harg5 arg6 harg6 arg9 arg10 arg14 x0 x1 x3 x4 := by
  simp (disch := decide) only [v1055, HS4_15, HS4_14, HS4_13, HS4_12, HS4_11, HS4_10, HS4_7, HS4_6, rd_blk, ↓View.readCov_skip, ↓View.readCov_cons_toLoadRect]

/-- What load 1061 reads: the last store to its box. -/
theorem ld_v1061 : v1061 (F := Ideal) c arg2 harg2 arg3 harg3 arg10 x0 x1 = k0_pay201 (v885 c arg2 harg2 x0) (blk x1 0) := by
  simp (disch := decide) only [v1061, HS2_16, HS2_15, HS2_14, rd_blk, ↓View.readCov_skip, ↓View.readCov_cons_toLoadRect]

/-- What load 1064 reads: the last store to its box. -/
theorem ld_v1064 : v1064 (F := Ideal) c arg2 harg2 arg3 harg3 arg10 x0 x1 = k0_pay203 (v890 c arg2 harg2 x0) (blk x1 0) := by
  simp (disch := decide) only [v1064, HS2_17, HS2_16, HS2_15, HS2_14, rd_blk, ↓View.readCov_skip, ↓View.readCov_cons_toLoadRect]

/-- What load 1069 reads: the last store to its box. -/
theorem ld_v1069 : v1069 (F := Ideal) c i arg2 harg2 arg3 harg3 arg5 harg5 arg6 harg6 arg9 arg10 arg11 arg14 x0 x1 x3 x4 = v1018 c i arg2 harg2 arg3 harg3 arg5 harg5 arg6 harg6 arg9 arg10 arg14 x0 x1 x3 x4 := by
  simp (disch := decide) only [v1069, HS3_16, HS3_15, rd_blk, ↓View.readCov_skip, ↓View.readCov_cons_toLoadRect]

/-- What load 1074 reads: the last store to its box. -/
theorem ld_v1074 : v1074 (F := Ideal) c i arg2 harg2 arg3 harg3 arg5 harg5 arg6 harg6 arg9 arg10 arg11 arg14 x0 x1 x3 x4 = v1049 c i arg2 harg2 arg3 harg3 arg5 harg5 arg6 harg6 arg9 arg10 arg14 x0 x1 x3 x4 := by
  simp (disch := decide) only [v1074, HS3_16, rd_blk, ↓View.readCov_skip, ↓View.readCov_cons_toLoadRect]

/-- What load 1083 reads: the last store to its box. -/
theorem ld_v1083 : v1083 (F := Ideal) c arg2 harg2 arg3 harg3 arg10 x0 x1 = v1063 c arg2 harg2 arg3 harg3 x0 x1 := by
  simp (disch := decide) only [v1083, HS2_18, HS2_17, rd_blk, ↓View.readCov_skip, ↓View.readCov_cons_toLoadRect]

/-- What load 1089 reads: the last store to its box. -/
theorem ld_v1089 : v1089 (F := Ideal) c i arg2 harg2 arg3 harg3 arg5 harg5 arg6 harg6 arg9 arg10 arg14 x0 x1 x3 x4 = v1029 c i arg2 harg2 arg3 harg3 arg5 harg5 arg6 harg6 arg9 arg10 arg14 x0 x1 x3 x4 := by
  simp (disch := decide) only [v1089, HS6_24, HS6_23, rd_blk, ↓View.readCov_skip, ↓View.readCov_cons_toLoadRect]

/-- What load 1098 reads: the last store to its box. -/
theorem ld_v1098 : v1098 (F := Ideal) c i arg2 harg2 arg3 harg3 arg5 harg5 arg6 harg6 arg9 arg10 arg11 arg14 x0 x1 x3 x4 = v942 c i arg2 harg2 arg3 harg3 arg5 harg5 arg6 harg6 arg9 arg10 arg14 x0 x1 x3 x4 := by
  simp (disch := decide) only [v1098, HS3_16, HS3_15, HS3_14, HS3_13, rd_blk, ↓View.readCov_skip, ↓View.readCov_cons_toLoadRect]

/-- What load 1101 reads: the last store to its box. -/
theorem ld_v1101 : v1101 (F := Ideal) c i arg2 harg2 arg3 harg3 arg5 harg5 arg6 harg6 arg9 arg10 arg12 arg14 x0 x1 x3 x4 = v1026 c i arg2 harg2 arg3 harg3 arg5 harg5 arg6 harg6 arg9 arg10 arg14 x0 x1 x3 x4 := by
  simp (disch := decide) only [v1101, HS4_16, HS4_15, rd_blk, ↓View.readCov_skip, ↓View.readCov_cons_toLoadRect]

/-- What load 1103 reads: the last store to its box. -/
theorem ld_v1103 : v1103 (F := Ideal) c i arg2 harg2 arg3 harg3 arg4 harg4 arg5 harg5 arg6 harg6 arg8 arg9 arg10 arg11 arg12 arg13 arg14 x0 x1 x2 x3 x4 = v1021 c i arg2 harg2 arg3 harg3 arg4 harg4 arg5 harg5 arg6 harg6 arg8 arg9 arg10 arg11 arg14 x0 x1 x2 x3 x4 := by
  simp (disch := decide) only [v1103, HS5_8, HS5_7, rd_blk, ↓View.readCov_skip, ↓View.readCov_cons_toLoadRect]

/-- What load 1113 reads: the last store to its box. -/
theorem ld_v1113 : v1113 (F := Ideal) c i arg2 harg2 arg3 harg3 arg5 harg5 arg6 harg6 arg9 arg10 arg12 arg14 x0 x1 x3 x4 = v947 c i arg2 harg2 arg3 harg3 arg5 harg5 arg6 harg6 arg9 arg10 arg14 x0 x1 x3 x4 := by
  simp (disch := decide) only [v1113, HS4_16, HS4_15, HS4_14, HS4_13, rd_blk, ↓View.readCov_skip, ↓View.readCov_cons_toLoadRect]

/-- What load 1121 reads: the last store to its box. -/
theorem ld_v1121 : v1121 (F := Ideal) c arg2 harg2 arg3 harg3 arg10 x0 x1 = v1066 c arg2 harg2 arg3 harg3 x0 x1 := by
  simp (disch := decide) only [v1121, HS2_18, rd_blk, ↓View.readCov_skip, ↓View.readCov_cons_toLoadRect]

/-- What load 1127 reads: the last store to its box. -/
theorem ld_v1127 : v1127 (F := Ideal) c i arg2 harg2 arg3 harg3 arg5 harg5 arg6 harg6 arg9 arg10 arg14 x0 x1 x3 x4 = v1060 c i arg2 harg2 arg3 harg3 arg5 harg5 arg6 harg6 arg9 arg10 arg14 x0 x1 x3 x4 := by
  simp (disch := decide) only [v1127, HS6_25, HS6_24, rd_blk, ↓View.readCov_skip, ↓View.readCov_cons_toLoadRect]

/-- What load 1136 reads: the last store to its box. -/
theorem ld_v1136 : v1136 (F := Ideal) c i arg2 harg2 arg3 harg3 arg5 harg5 arg6 harg6 arg9 arg10 arg11 arg14 x0 x1 x3 x4 = v970 c i arg2 harg2 arg3 harg3 arg5 harg5 arg6 harg6 arg9 arg10 arg14 x0 x1 x3 x4 := by
  simp (disch := decide) only [v1136, HS3_17, HS3_16, HS3_15, HS3_14, rd_blk, ↓View.readCov_skip, ↓View.readCov_cons_toLoadRect]

/-- What load 1139 reads: the last store to its box. -/
theorem ld_v1139 : v1139 (F := Ideal) c i arg2 harg2 arg3 harg3 arg5 harg5 arg6 harg6 arg9 arg10 arg12 arg14 x0 x1 x3 x4 = v1057 c i arg2 harg2 arg3 harg3 arg5 harg5 arg6 harg6 arg9 arg10 arg14 x0 x1 x3 x4 := by
  simp (disch := decide) only [v1139, HS4_17, HS4_16, rd_blk, ↓View.readCov_skip, ↓View.readCov_cons_toLoadRect]

/-- What load 1141 reads: the last store to its box. -/
theorem ld_v1141 : v1141 (F := Ideal) c i arg2 harg2 arg3 harg3 arg4 harg4 arg5 harg5 arg6 harg6 arg8 arg9 arg10 arg11 arg12 arg13 arg14 x0 x1 x2 x3 x4 = v1052 c i arg2 harg2 arg3 harg3 arg4 harg4 arg5 harg5 arg6 harg6 arg8 arg9 arg10 arg11 arg14 x0 x1 x2 x3 x4 := by
  simp (disch := decide) only [v1141, HS5_9, HS5_8, rd_blk, ↓View.readCov_skip, ↓View.readCov_cons_toLoadRect]

/-- What load 1151 reads: the last store to its box. -/
theorem ld_v1151 : v1151 (F := Ideal) c i arg2 harg2 arg3 harg3 arg5 harg5 arg6 harg6 arg9 arg10 arg12 arg14 x0 x1 x3 x4 = v975 c i arg2 harg2 arg3 harg3 arg5 harg5 arg6 harg6 arg9 arg10 arg14 x0 x1 x3 x4 := by
  simp (disch := decide) only [v1151, HS4_17, HS4_16, HS4_15, HS4_14, rd_blk, ↓View.readCov_skip, ↓View.readCov_cons_toLoadRect]

/-- What load 1157 reads: the last store to its box. -/
theorem ld_v1157 : v1157 (F := Ideal) c arg2 harg2 arg3 harg3 arg10 x0 x1 = v981 c arg2 harg2 arg3 harg3 x0 x1 := by
  simp (disch := decide) only [v1157, HS2_18, HS2_17, HS2_16, HS2_15, rd_blk, ↓View.readCov_skip, ↓View.readCov_cons_toLoadRect]

/-- What load 1165 reads: the last store to its box. -/
theorem ld_v1165 : v1165 (F := Ideal) c i arg2 harg2 arg3 harg3 arg5 harg5 arg6 harg6 arg9 arg10 arg11 arg14 x0 x1 x3 x4 = v1100 c i arg2 harg2 arg3 harg3 arg5 harg5 arg6 harg6 arg9 arg10 arg14 x0 x1 x3 x4 := by
  simp (disch := decide) only [v1165, HS3_18, HS3_17, rd_blk, ↓View.readCov_skip, ↓View.readCov_cons_toLoadRect]

/-- What load 1170 reads: the last store to its box. -/
theorem ld_v1170 : v1170 (F := Ideal) c i arg2 harg2 arg3 harg3 arg5 harg5 arg6 harg6 arg9 arg10 arg11 arg14 x0 x1 x3 x4 = v1138 c i arg2 harg2 arg3 harg3 arg5 harg5 arg6 harg6 arg9 arg10 arg14 x0 x1 x3 x4 := by
  simp (disch := decide) only [v1170, HS3_18, rd_blk, ↓View.readCov_skip, ↓View.readCov_cons_toLoadRect]

/-- What load 1175 reads: the last store to its box. -/
theorem ld_v1175 : v1175 (F := Ideal) c arg2 harg2 arg3 harg3 arg10 x0 x1 = v1159 c arg2 harg2 arg3 harg3 x0 x1 := by
  simp (disch := decide) only [v1175, HS2_20, rd_blk, ↓View.readCov_skip, ↓View.readCov_cons_toLoadRect]

/-- What load 1185 reads: the last store to its box. -/
theorem ld_v1185 : v1185 (F := Ideal) c i arg2 harg2 arg3 harg3 arg5 harg5 arg6 harg6 arg9 arg10 arg14 x0 x1 x3 x4 = v1118 c i arg2 harg2 arg3 harg3 arg5 harg5 arg6 harg6 arg9 arg10 arg14 x0 x1 x3 x4 := by
  simp (disch := decide) only [v1185, HS6_26, HS6_25, rd_blk, ↓View.readCov_skip, ↓View.readCov_cons_toLoadRect]

/-- What load 1194 reads: the last store to its box. -/
theorem ld_v1194 : v1194 (F := Ideal) c i arg2 harg2 arg3 harg3 arg5 harg5 arg6 harg6 arg9 arg10 arg11 arg14 x0 x1 x3 x4 = v1018 c i arg2 harg2 arg3 harg3 arg5 harg5 arg6 harg6 arg9 arg10 arg14 x0 x1 x3 x4 := by
  simp (disch := decide) only [v1194, HS3_18, HS3_17, HS3_16, HS3_15, rd_blk, ↓View.readCov_skip, ↓View.readCov_cons_toLoadRect]

/-- What load 1197 reads: the last store to its box. -/
theorem ld_v1197 : v1197 (F := Ideal) c i arg2 harg2 arg3 harg3 arg5 harg5 arg6 harg6 arg9 arg10 arg12 arg14 x0 x1 x3 x4 = v1115 c i arg2 harg2 arg3 harg3 arg5 harg5 arg6 harg6 arg9 arg10 arg14 x0 x1 x3 x4 := by
  simp (disch := decide) only [v1197, HS4_18, HS4_17, rd_blk, ↓View.readCov_skip, ↓View.readCov_cons_toLoadRect]

/-- What load 1199 reads: the last store to its box. -/
theorem ld_v1199 : v1199 (F := Ideal) c i arg2 harg2 arg3 harg3 arg4 harg4 arg5 harg5 arg6 harg6 arg8 arg9 arg10 arg11 arg12 arg13 arg14 x0 x1 x2 x3 x4 = v1110 c i arg2 harg2 arg3 harg3 arg4 harg4 arg5 harg5 arg6 harg6 arg8 arg9 arg10 arg11 arg12 arg13 arg14 x0 x1 x2 x3 x4 := by
  simp (disch := decide) only [v1199, HS5_10, HS5_9, rd_blk, ↓View.readCov_skip, ↓View.readCov_cons_toLoadRect]

/-- What load 1209 reads: the last store to its box. -/
theorem ld_v1209 : v1209 (F := Ideal) c i arg2 harg2 arg3 harg3 arg5 harg5 arg6 harg6 arg9 arg10 arg12 arg14 x0 x1 x3 x4 = v1026 c i arg2 harg2 arg3 harg3 arg5 harg5 arg6 harg6 arg9 arg10 arg14 x0 x1 x3 x4 := by
  simp (disch := decide) only [v1209, HS4_18, HS4_17, HS4_16, HS4_15, rd_blk, ↓View.readCov_skip, ↓View.readCov_cons_toLoadRect]

/-- What load 1217 reads: the last store to its box. -/
theorem ld_v1217 : v1217 (F := Ideal) c arg2 harg2 arg3 harg3 arg10 x0 x1 = k0_pay267 (v1080 c arg2 harg2 arg3 harg3 x0 x1) := by
  simp (disch := decide) only [v1217, HS2_20, rd_blk, ↓View.readCov_skip, ↓View.readCov_cons_toLoadRect]

/-- What load 1227 reads: the last store to its box. -/
theorem ld_v1227 : v1227 (F := Ideal) c i arg2 harg2 arg3 harg3 arg5 harg5 arg6 harg6 arg9 arg10 arg14 x0 x1 x3 x4 = v1156 c i arg2 harg2 arg3 harg3 arg5 harg5 arg6 harg6 arg9 arg10 arg14 x0 x1 x3 x4 := by
  simp (disch := decide) only [v1227, HS6_27, HS6_26, rd_blk, ↓View.readCov_skip, ↓View.readCov_cons_toLoadRect]

/-- What load 1239 reads: the last store to its box. -/
theorem ld_v1239 : v1239 (F := Ideal) c i arg2 harg2 arg3 harg3 arg5 harg5 arg6 harg6 arg9 arg10 arg12 arg14 x0 x1 x3 x4 = v1153 c i arg2 harg2 arg3 harg3 arg5 harg5 arg6 harg6 arg9 arg10 arg14 x0 x1 x3 x4 := by
  simp (disch := decide) only [v1239, HS4_19, HS4_18, rd_blk, ↓View.readCov_skip, ↓View.readCov_cons_toLoadRect]

/-- What load 1241 reads: the last store to its box. -/
theorem ld_v1241 : v1241 (F := Ideal) c i arg2 harg2 arg3 harg3 arg4 harg4 arg5 harg5 arg6 harg6 arg8 arg9 arg10 arg11 arg12 arg13 arg14 x0 x1 x2 x3 x4 = v1148 c i arg2 harg2 arg3 harg3 arg4 harg4 arg5 harg5 arg6 harg6 arg8 arg9 arg10 arg11 arg12 arg13 arg14 x0 x1 x2 x3 x4 := by
  simp (disch := decide) only [v1241, HS5_11, HS5_10, rd_blk, ↓View.readCov_skip, ↓View.readCov_cons_toLoadRect]

/-- What load 1251 reads: the last store to its box. -/
theorem ld_v1251 : v1251 (F := Ideal) c i arg2 harg2 arg3 harg3 arg5 harg5 arg6 harg6 arg9 arg10 arg12 arg14 x0 x1 x3 x4 = v1057 c i arg2 harg2 arg3 harg3 arg5 harg5 arg6 harg6 arg9 arg10 arg14 x0 x1 x3 x4 := by
  simp (disch := decide) only [v1251, HS4_19, HS4_18, HS4_17, HS4_16, rd_blk, ↓View.readCov_skip, ↓View.readCov_cons_toLoadRect]

/-- What load 1254 reads: the last store to its box. -/
theorem ld_v1254 : v1254 (F := Ideal) c i arg2 harg2 arg3 harg3 arg5 harg5 arg6 harg6 arg9 arg10 arg14 x0 x1 x3 x4 = v1156 c i arg2 harg2 arg3 harg3 arg5 harg5 arg6 harg6 arg9 arg10 arg14 x0 x1 x3 x4 := by
  simp (disch := decide) only [v1254, HS6_27, HS6_26, rd_blk, ↓View.readCov_skip, ↓View.readCov_cons_toLoadRect]

/-- What load 1259 reads: the last store to its box. -/
theorem ld_v1259 : v1259 (F := Ideal) c i arg2 harg2 arg3 harg3 arg5 harg5 arg6 harg6 arg9 arg10 arg11 arg14 x0 x1 x3 x4 = v1196 c i arg2 harg2 arg3 harg3 arg5 harg5 arg6 harg6 arg9 arg10 arg14 x0 x1 x3 x4 := by
  simp (disch := decide) only [v1259, HS3_20, rd_blk, ↓View.readCov_skip, ↓View.readCov_cons_toLoadRect]

/-- What load 1264 reads: the last store to its box. -/
theorem ld_v1264 : v1264 (F := Ideal) c i arg2 harg2 arg3 harg3 arg5 harg5 arg6 harg6 arg9 arg10 arg11 arg14 x0 x1 x3 x4 = k0_pay280 (subi v202 v203) (r_34 c i arg6 harg6 x4) (v1215 c i arg5 harg5 arg9 x3) (v1217 c arg2 harg2 arg3 harg3 arg10 x0 x1) (v1227 c i arg2 harg2 arg3 harg3 arg5 harg5 arg6 harg6 arg9 arg10 arg14 x0 x1 x3 x4) := by
  simp (disch := decide) only [v1264, HS3_20, rd_blk, ↓View.readCov_skip, ↓View.readCov_cons_toLoadRect]

/-- What load 1267 reads: the last store to its box. -/
theorem ld_v1267 : v1267 (F := Ideal) c i arg2 harg2 arg3 harg3 arg5 harg5 arg6 harg6 arg9 arg10 arg12 arg14 x0 x1 x3 x4 = v1211 c i arg2 harg2 arg3 harg3 arg5 harg5 arg6 harg6 arg9 arg10 arg14 x0 x1 x3 x4 := by
  simp (disch := decide) only [v1267, HS4_20, HS4_19, rd_blk, ↓View.readCov_skip, ↓View.readCov_cons_toLoadRect]

/-- What load 1269 reads: the last store to its box. -/
theorem ld_v1269 : v1269 (F := Ideal) c i arg2 harg2 arg3 harg3 arg4 harg4 arg5 harg5 arg6 harg6 arg8 arg9 arg10 arg11 arg12 arg13 arg14 x0 x1 x2 x3 x4 = v1206 c i arg2 harg2 arg3 harg3 arg4 harg4 arg5 harg5 arg6 harg6 arg8 arg9 arg10 arg11 arg12 arg13 arg14 x0 x1 x2 x3 x4 := by
  simp (disch := decide) only [v1269, HS5_12, HS5_11, rd_blk, ↓View.readCov_skip, ↓View.readCov_cons_toLoadRect]

/-- What load 1278 reads: the last store to its box. -/
theorem ld_v1278 : v1278 (F := Ideal) c i arg2 harg2 arg3 harg3 arg5 harg5 arg6 harg6 arg9 arg10 arg12 arg14 x0 x1 x3 x4 = v1253 c i arg2 harg2 arg3 harg3 arg5 harg5 arg6 harg6 arg9 arg10 arg14 x0 x1 x3 x4 := by
  simp (disch := decide) only [v1278, HS4_20, rd_blk, ↓View.readCov_skip, ↓View.readCov_cons_toLoadRect]

/-- What load 1280 reads: the last store to its box. -/
theorem ld_v1280 : v1280 (F := Ideal) c i arg2 harg2 arg3 harg3 arg4 harg4 arg5 harg5 arg6 harg6 arg8 arg9 arg10 arg11 arg12 arg13 arg14 x0 x1 x2 x3 x4 = v1248 c i arg2 harg2 arg3 harg3 arg4 harg4 arg5 harg5 arg6 harg6 arg8 arg9 arg10 arg11 arg12 arg13 arg14 x0 x1 x2 x3 x4 := by
  simp (disch := decide) only [v1280, HS5_12, rd_blk, ↓View.readCov_skip, ↓View.readCov_cons_toLoadRect]

end Cert.FoxIdeal.Val

end
-- ==== Proof.Pieces.lean ====
module

public import proofs.«01_k».proof.Proof.Loads

/-! The four pieces a grid point stores into its output block, as query tiles. -/

set_option maxRecDepth 65536
set_option maxHeartbeats 4000000

@[expose] public noncomputable section

namespace Cert.FoxIdeal.Val

open Idealize Idealize.ShloMosaic Cert.FoxIdeal Cert.FoxIdeal.Gen
open kernelRun0_A.sl

variable (c : Dev nD) (i : grid0.Coords) (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S1x8x2048 .f32) (harg6 : arg6.IsWhole)
  (arg8 : Memref sig .tc .vmem S2x80x2048 .bf16) (arg9 : Memref sig .tc .vmem S2x2048x128 .f32) (arg10 : Memref sig .tc .vmem S2x2x2x512x512 .f32)
  (arg11 : Memref sig .tc .vmem S2x2x2x512x512 .bf16) (arg12 : Memref sig .tc .vmem S2x2x2x1x512 .f32) (arg13 : Memref sig .tc .vmem S2x2x80x512 .f32)
  (arg14 : Memref sig .tc .vmem S2x2x1x512 .f32)
  (x0 x1 x2 : Vec Ideal S2048x128 .bf16) (x3 : Vec Ideal S2048x128 .f32) (x4 : Vec Ideal S1x8x2048 .f32)

/-- The piece at row 0 is query tile 0. -/
theorem piece0 : v331 c i arg2 harg2 arg3 harg3 arg4 harg4 arg5 harg5 arg6 harg6 arg8 arg9 arg10 arg11 arg14 x0 x1 x2 x3 x4
    = tile (i 1).val x0 x1 x2 x3 x4 0 := by
  simp only [cat2_fold, cat4_fold, ↓cat2_fold, ↓cat4_fold, ↓rd_vt, ↓rd_cs, rd_blk, rd_off1_0, rd_off1_1, rd_off2_0, rd_off2_1, rd_off3_0, rd_off3_1, rd_off4_0, rd_off4_1, shapeCast_shapeCast,
    ld_v249, ld_v259, ld_v281, ld_v291, ld_v313, ld_v318, cst_221, r, r_1, r_2, r_4, r_5, r_6, r_9, v201, v202, v203, v247, v279, v297, v298, v299,
    v302, v311, v312, v314, v315, v316, v317, v319, v320, v321, v322, v323, v324, v325, v326, v327, v328, v329, v330, v331, k0_pay1, k0_pay2, k0_pay3,
    k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203, k0_pay204, k0_pay205, k0_pay206,
    k0_pay207, k0_pay208, k0_pay209, k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257, k0_pay258,
    k0_pay259, k0_pay260, k0_pay261, k0_pay262, k0_pay263, k0_pay264, k0_pay265, k0_pay266, k0_pay267, k0_pay268, k0_pay269, k0_pay270, k0_pay271,
    k0_pay272, k0_pay273, k0_pay274, k0_pay275, k0_pay276, k0_pay277, k0_pay278, k0_pay279, k0_pay280, k0_pay281, k0_pay282, k0_pay283, k0_pay284,
    k0_pay285, k0_pay286, k0_pay287]
  simp only [tile, outTile, colOut, accAt, mAt, stAt, masked, biased, raw, pOf, pvOf, accNext, mNext, qLo, qHi, qT, Nat.reduceMul, Nat.reduceAdd, Nat.reduceEqDiff,
    reduceIte, mul_zero, zero_add, OfNat.ofNat_ne_zero, OfNat.zero_ne_ofNat, zero_ne_one, one_ne_zero, Nat.reduceAdd]

/-- The piece at row 512 is query tile 1. -/
theorem piece1 : v555 c i arg2 harg2 arg3 harg3 arg4 harg4 arg5 harg5 arg6 harg6 arg8 arg9 arg10 arg11 arg12 arg13 arg14 x0 x1 x2 x3 x4
    = tile (i 1).val x0 x1 x2 x3 x4 1 := by
  simp only [cat2_fold, cat4_fold, ↓cat2_fold, ↓cat4_fold, ↓rd_vt, ↓rd_cs, rd_blk, rd_off1_0, rd_off1_1, rd_off2_0, rd_off2_1, rd_off3_0, rd_off3_1, rd_off4_0, rd_off4_1, shapeCast_shapeCast,
    ld_v249, ld_v259, ld_v281, ld_v291, ld_v381, ld_v387, ld_v409, ld_v415, ld_v443, ld_v448, ld_v453, ld_v463, ld_v488, ld_v498, ld_v523, ld_v528,
    ld_v531, ld_v533, ld_v542, ld_v544, cst_221, cst_249, cst_399, cst_8, r, r_1, r_10, r_11, r_12, r_13, r_14, r_15, r_16, r_17, r_18, r_19, r_2,
    r_20, r_3, r_4, r_5, r_6, r_7, r_8, r_9, v201, v202, v203, v247, v279, v297, v298, v299, v302, v303, v304, v307, v310, v334, v335, v336, v337,
    v339, v340, v341, v345, v346, v351, v356, v358, v359, v360, v385, v386, v388, v389, v390, v391, v392, v393, v394, v395, v398, v399, v400, v403,
    v406, v407, v408, v410, v411, v412, v413, v414, v416, v417, v418, v419, v420, v421, v422, v423, v426, v427, v428, v431, v434, v437, v440, v441,
    v446, v451, v486, v496, v497, v499, v500, v501, v502, v503, v504, v505, v506, v509, v512, v513, v514, v517, v521, v522, v524, v525, v526, v527,
    v529, v530, v532, v534, v535, v536, v537, v538, v539, v540, v541, v543, v545, v546, v547, v548, v549, v550, v551, v552, v553, v554, v555, k0_pay1,
    k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256,
    k0_pay257, k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281, k0_pay282,
    k0_pay283, k0_pay284, k0_pay285, k0_pay286, k0_pay287]
  simp only [tile, outTile, colOut, accAt, mAt, stAt, masked, biased, raw, pOf, pvOf, accNext, mNext, qLo, qHi, qT, Nat.reduceMul, Nat.reduceAdd, Nat.reduceEqDiff,
    reduceIte, mul_zero, zero_add, OfNat.ofNat_ne_zero, OfNat.zero_ne_ofNat, zero_ne_one, one_ne_zero, Nat.reduceAdd]

/-- The piece at row 1024 is query tile 2. -/
theorem piece2 : v875 c i arg2 harg2 arg3 harg3 arg4 harg4 arg5 harg5 arg6 harg6 arg8 arg9 arg10 arg11 arg12 arg13 arg14 x0 x1 x2 x3 x4
    = tile (i 1).val x0 x1 x2 x3 x4 2 := by
  simp only [cat2_fold, cat4_fold, ↓cat2_fold, ↓cat4_fold, ↓rd_vt, ↓rd_cs, rd_blk, rd_off1_0, rd_off1_1, rd_off2_0, rd_off2_1, rd_off3_0, rd_off3_1, rd_off4_0, rd_off4_1, shapeCast_shapeCast,
    ld_v249, ld_v259, ld_v281, ld_v291, ld_v381, ld_v387, ld_v409, ld_v415, ld_v443, ld_v448, ld_v453, ld_v463, ld_v488, ld_v498, ld_v605, ld_v611,
    ld_v633, ld_v639, ld_v667, ld_v672, ld_v681, ld_v687, ld_v712, ld_v718, ld_v749, ld_v754, ld_v759, ld_v769, ld_v781, ld_v783, ld_v801, ld_v811,
    ld_v823, ld_v825, ld_v843, ld_v848, ld_v851, ld_v853, ld_v862, ld_v864, cst_221, cst_249, cst_399, cst_8, r, r_1, r_10, r_11, r_12, r_13, r_14,
    r_15, r_16, r_17, r_18, r_19, r_2, r_20, r_21, r_22, r_23, r_24, r_25, r_26, r_27, r_28, r_29, r_3, r_30, r_31, r_32, r_4, r_5, r_6, r_7, r_8,
    r_9, v201, v202, v203, v247, v279, v297, v298, v299, v302, v303, v304, v307, v310, v311, v312, v316, v317, v334, v335, v336, v337, v339, v340,
    v341, v345, v346, v351, v356, v358, v359, v360, v385, v386, v388, v389, v390, v391, v392, v393, v394, v395, v398, v399, v400, v403, v406, v407,
    v408, v410, v411, v412, v413, v414, v416, v417, v418, v419, v420, v421, v422, v423, v426, v427, v428, v431, v434, v437, v440, v441, v446, v451,
    v486, v496, v497, v499, v500, v501, v502, v503, v504, v505, v506, v509, v512, v513, v514, v517, v520, v558, v559, v560, v564, v565, v569, v570,
    v575, v580, v583, v584, v612, v613, v614, v615, v616, v617, v618, v619, v622, v623, v624, v627, v630, v634, v636, v637, v638, v640, v641, v642,
    v643, v644, v645, v646, v647, v650, v651, v652, v655, v658, v661, v664, v668, v669, v673, v674, v676, v677, v678, v679, v680, v682, v683, v684,
    v685, v686, v688, v689, v690, v691, v692, v693, v694, v695, v698, v701, v702, v703, v706, v709, v710, v711, v713, v714, v716, v717, v719, v720,
    v721, v722, v723, v724, v725, v726, v729, v732, v733, v734, v737, v740, v743, v746, v747, v752, v757, v775, v776, v777, v780, v782, v784, v785,
    v786, v787, v790, v791, v792, v795, v798, v799, v800, v832, v833, v834, v837, v841, v842, v844, v845, v846, v847, v849, v850, v852, v854, v855,
    v856, v857, v858, v859, v860, v861, v863, v865, v866, v867, v868, v869, v870, v871, v872, v873, v874, v875, k0_pay1, k0_pay2, k0_pay3, k0_pay4,
    k0_pay5, k0_pay6, k0_pay7, k0_pay8, k0_pay9, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73, k0_pay74, k0_pay75,
    k0_pay76, k0_pay77, k0_pay78, k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113, k0_pay114, k0_pay115, k0_pay116,
    k0_pay117, k0_pay118, k0_pay119, k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245, k0_pay246,
    k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281, k0_pay282, k0_pay283, k0_pay284, k0_pay285,
    k0_pay286, k0_pay287]
  simp only [tile, outTile, colOut, accAt, mAt, stAt, masked, biased, raw, pOf, pvOf, accNext, mNext, qLo, qHi, qT, Nat.reduceMul, Nat.reduceAdd, Nat.reduceEqDiff,
    reduceIte, mul_zero, zero_add, OfNat.ofNat_ne_zero, OfNat.zero_ne_ofNat, zero_ne_one, one_ne_zero, Nat.reduceAdd]

/-- The piece at row 1536 is query tile 3. -/
theorem piece3 : k0_pay1 (v1266 c i arg2 harg2 arg3 harg3 arg4 harg4 arg5 harg5 arg6 harg6 arg8 arg9 arg10 arg11 arg14 x0 x1 x2 x3 x4) (r_41 c i arg2 harg2 arg3 harg3 arg4 harg4 arg5 harg5 arg6 harg6 arg8 arg9 arg10 arg11 arg12 arg13 arg14 x0 x1 x2 x3 x4) (v1278 c i arg2 harg2 arg3 harg3 arg5 harg5 arg6 harg6 arg9 arg10 arg12 arg14 x0 x1 x3 x4) (v1280 c i arg2 harg2 arg3 harg3 arg4 harg4 arg5 harg5 arg6 harg6 arg8 arg9 arg10 arg11 arg12 arg13 arg14 x0 x1 x2 x3 x4)
    = tile (i 1).val x0 x1 x2 x3 x4 3 := by
  simp only [cat2_fold, cat4_fold, ↓cat2_fold, ↓cat4_fold, ↓rd_vt, ↓rd_cs, rd_blk, rd_off1_0, rd_off1_1, rd_off2_0, rd_off2_1, rd_off3_0, rd_off3_1, rd_off4_0, rd_off4_1, shapeCast_shapeCast,
    ld_v1001, ld_v1007, ld_v1032, ld_v1038, ld_v1069, ld_v1074, ld_v1083, ld_v1089, ld_v1101, ld_v1103, ld_v1121, ld_v1127, ld_v1139, ld_v1141,
    ld_v1165, ld_v1170, ld_v1175, ld_v1185, ld_v1197, ld_v1199, ld_v1217, ld_v1227, ld_v1239, ld_v1241, ld_v1259, ld_v1264, ld_v1267, ld_v1269,
    ld_v1278, ld_v1280, ld_v249, ld_v259, ld_v281, ld_v291, ld_v381, ld_v387, ld_v409, ld_v415, ld_v443, ld_v448, ld_v453, ld_v463, ld_v488, ld_v498,
    ld_v605, ld_v611, ld_v633, ld_v639, ld_v667, ld_v672, ld_v681, ld_v687, ld_v712, ld_v718, ld_v749, ld_v754, ld_v759, ld_v769, ld_v781, ld_v783,
    ld_v801, ld_v811, ld_v823, ld_v825, ld_v925, ld_v931, ld_v953, ld_v959, ld_v987, ld_v992, cst_221, cst_249, cst_399, cst_8, r, r_1, r_10, r_11,
    r_12, r_13, r_14, r_15, r_16, r_17, r_18, r_19, r_2, r_20, r_21, r_22, r_23, r_24, r_25, r_26, r_27, r_28, r_29, r_3, r_30, r_31, r_32, r_33,
    r_34, r_35, r_36, r_37, r_38, r_39, r_4, r_40, r_41, r_5, r_6, r_7, r_8, r_9, v1002, v1005, v1006, v1008, v1009, v1010, v1011, v1012, v1013,
    v1014, v1015, v1018, v1021, v1022, v1023, v1026, v1029, v1033, v1036, v1037, v1039, v1040, v1041, v1042, v1043, v1044, v1045, v1046, v1049, v1052,
    v1053, v1054, v1057, v1060, v1063, v1066, v1070, v1071, v1075, v1076, v1078, v1079, v1080, v1081, v1082, v1084, v1085, v1087, v1088, v1090, v1091,
    v1092, v1093, v1094, v1095, v1096, v1097, v1100, v1102, v1104, v1105, v1106, v1107, v1110, v1111, v1112, v1115, v1118, v1122, v1123, v1125, v1126,
    v1128, v1129, v1130, v1131, v1132, v1133, v1134, v1135, v1138, v1140, v1142, v1143, v1144, v1145, v1148, v1149, v1150, v1153, v1156, v1159, v1163,
    v1168, v1173, v1186, v1187, v1188, v1189, v1190, v1191, v1192, v1193, v1196, v1198, v1200, v1201, v1202, v1203, v1206, v1207, v1208, v1211, v1215,
    v1242, v1243, v1244, v1245, v1248, v1249, v1250, v1253, v1257, v1258, v1260, v1261, v1262, v1263, v1265, v1266, v201, v202, v203, v247, v279,
    v297, v298, v299, v302, v303, v304, v307, v310, v311, v312, v316, v317, v334, v335, v336, v337, v339, v340, v341, v345, v346, v351, v356, v358,
    v359, v360, v385, v386, v388, v389, v390, v391, v392, v393, v394, v395, v398, v399, v400, v403, v406, v407, v408, v410, v411, v412, v413, v414,
    v416, v417, v418, v419, v420, v421, v422, v423, v426, v427, v428, v431, v434, v437, v440, v441, v446, v451, v486, v496, v497, v499, v500, v501,
    v502, v503, v504, v505, v506, v509, v512, v513, v514, v517, v520, v521, v522, v526, v527, v558, v559, v560, v564, v565, v569, v570, v575, v580,
    v583, v584, v612, v613, v614, v615, v616, v617, v618, v619, v622, v623, v624, v627, v630, v634, v636, v637, v638, v640, v641, v642, v643, v644,
    v645, v646, v647, v650, v651, v652, v655, v658, v661, v664, v668, v669, v673, v674, v676, v677, v678, v679, v680, v682, v683, v684, v685, v686,
    v688, v689, v690, v691, v692, v693, v694, v695, v698, v701, v702, v703, v706, v709, v710, v711, v713, v714, v716, v717, v719, v720, v721, v722,
    v723, v724, v725, v726, v729, v732, v733, v734, v737, v740, v743, v746, v747, v752, v757, v775, v776, v777, v780, v782, v784, v785, v786, v787,
    v790, v791, v792, v795, v798, v799, v800, v832, v833, v834, v837, v840, v878, v879, v880, v884, v885, v889, v890, v918, v920, v921, v922, v923,
    v924, v926, v927, v928, v929, v930, v932, v933, v934, v935, v936, v937, v938, v939, v942, v943, v944, v947, v950, v954, v956, v957, v958, v960,
    v961, v962, v963, v964, v965, v966, v967, v970, v971, v972, v975, v978, v981, v984, v988, v989, v993, v994, v997, v998, k0_pay1, k0_pay2, k0_pay3,
    k0_pay4, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203, k0_pay204, k0_pay205, k0_pay206,
    k0_pay207, k0_pay208, k0_pay209, k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257, k0_pay258,
    k0_pay259, k0_pay260, k0_pay261, k0_pay262, k0_pay263, k0_pay264, k0_pay265, k0_pay266, k0_pay267, k0_pay268, k0_pay269, k0_pay270, k0_pay271,
    k0_pay272, k0_pay273, k0_pay274, k0_pay275, k0_pay276, k0_pay277, k0_pay278, k0_pay279, k0_pay280, k0_pay281, k0_pay282, k0_pay283, k0_pay284,
    k0_pay285, k0_pay286, k0_pay287]
  simp only [tile, outTile, colOut, accAt, mAt, stAt, masked, biased, raw, pOf, pvOf, accNext, mNext, qLo, qHi, qT, Nat.reduceMul, Nat.reduceAdd, Nat.reduceEqDiff,
    reduceIte, mul_zero, zero_add, OfNat.ofNat_ne_zero, OfNat.zero_ne_ofNat, zero_ne_one, one_ne_zero, Nat.reduceAdd]

end Cert.FoxIdeal.Val

end
-- ==== Proof.Online.lean ====
module

public import Idealize.ShloMosaic.PureOps.Ideal.Laws
public import Mathlib.Analysis.SpecialFunctions.Pow.Real

/-! A softmax over the reals, swept tile by tile with a running maximum in base two, and all at once in base e: both are the
same quotient of two sums. -/

@[expose] public noncomputable section

namespace Cert.Online

open Idealize.ShloMosaic

/-- A finite maximum of extended reals, none of them `⊤` and one of them not `⊥`, is a real. -/
theorem fold_real {ι : Type} [Fintype ι] (f : ι → EReal) (ht : ∀ i, f i ≠ ⊤) (i : ι) (hb : f i ≠ ⊥) :
    ∃ μ : ℝ, Finset.univ.fold max ⊥ f = (μ : EReal) := by
  have h1 : Finset.univ.fold max ⊥ f < ⊤ := by
    rw [Finset.fold_max_lt]
    exact ⟨bot_lt_top, fun x _ => lt_top_iff_ne_top.2 (ht x)⟩
  have h2 : ⊥ < Finset.univ.fold max ⊥ f := by
    rw [Finset.lt_fold_max]
    exact Or.inr ⟨i, Finset.mem_univ _, bot_lt_iff_ne_bot.2 hb⟩
  exact ⟨(Finset.univ.fold max ⊥ f).toReal, (EReal.coe_toReal h1.ne h2.ne').symm⟩

/-- The largest score of the tiles before tile `j`. -/
def emax (X : ℕ → Fin 512 → EReal) : ℕ → EReal
  | 0 => ⊥
  | j + 1 => max (emax X j) (Finset.univ.fold max ⊥ (X j))

/-- The weighted sum up to tile `j`, relative to the largest score so far. -/
def eacc (w X : ℕ → Fin 512 → EReal) : ℕ → EReal
  | 0 => ∑ ρ, w 0 ρ * Ideal.exp2 (X 0 ρ - emax X 1)
  | j + 1 => Ideal.exp2 (emax X (j + 1) - emax X (j + 2)) * eacc w X j + ∑ ρ, w (j + 1) ρ * Ideal.exp2 (X (j + 1) ρ - emax X (j + 2))

/-- A causal score: real up to position `t`, `⊥` after it. -/
def sc (a : ℕ → ℝ) (t s : ℕ) : EReal := if s ≤ t then (a s : EReal) else ⊥

/-- A causal weight in base two. -/
def wt (a : ℕ → ℝ) (t : ℕ) (μ : ℝ) (s : ℕ) : ℝ := if s ≤ t then (2 : ℝ) ^ (a s - μ) else 0

/-- Two to the power of a shifted score. -/
theorem exp2_sc (a : ℕ → ℝ) (t : ℕ) (μ : ℝ) (s : ℕ) : Ideal.exp2 (sc a t s - (μ : EReal)) = (wt a t μ s : EReal) := by
  unfold sc wt
  split_ifs
  · rw [← EReal.coe_sub, Ideal.exp2_coe]; rfl
  · simp

/-- A sum of reals read as extended reals. -/
theorem coe_sum {ι : Type} (s : Finset ι) (f : ι → ℝ) : ∑ i ∈ s, (f i : EReal) = ((∑ i ∈ s, f i : ℝ) : EReal) := by
  classical
  induction s using Finset.induction_on with
  | empty => simp
  | insert i s h ih => rw [Finset.sum_insert h, Finset.sum_insert h, ih, EReal.coe_add]

/-- A tile's weighted sum. -/
theorem tile_sum (a u : ℕ → ℝ) (t : ℕ) (μ : ℝ) (j : ℕ) :
    ∑ ρ : Fin 512, (u (512 * j + ρ.val) : EReal) * Ideal.exp2 (sc a t (512 * j + ρ.val) - (μ : EReal))
      = ((∑ ρ ∈ Finset.range 512, u (512 * j + ρ) * wt a t μ (512 * j + ρ) : ℝ) : EReal) := by
  rw [← Fin.sum_univ_eq_sum_range (fun ρ => u (512 * j + ρ) * wt a t μ (512 * j + ρ)) 512, ← coe_sum]
  exact Finset.sum_congr rfl fun ρ _ => by rw [exp2_sc, EReal.coe_mul]

/-- The sums so far, moved to another maximum. -/
theorem rescale (a u : ℕ → ℝ) (t : ℕ) (μ ν : ℝ) (N : ℕ) :
    (2 : ℝ) ^ (μ - ν) * ∑ s ∈ Finset.range N, u s * wt a t μ s = ∑ s ∈ Finset.range N, u s * wt a t ν s := by
  rw [Finset.mul_sum]
  refine Finset.sum_congr rfl fun s _ => ?_
  unfold wt
  split_ifs
  · rw [mul_left_comm, ← Real.rpow_add two_pos]; congr 2; ring
  · simp

/-- The sweep's invariant: after tile `j` the maximum is a real, and every weighted sum is the causal sum relative to it. -/
theorem sweep (a : ℕ → ℝ) (t n : ℕ) (hn : 512 * n ≤ t) (X : ℕ → Fin 512 → EReal)
    (hX : ∀ j ≤ n, ∀ ρ, X j ρ = sc a t (512 * j + ρ.val)) (j : ℕ) (hj : j ≤ n) :
    ∃ μ : ℝ, emax X (j + 1) = (μ : EReal) ∧ ∀ (u : ℕ → ℝ) (w : ℕ → Fin 512 → EReal),
      (∀ j ≤ n, ∀ ρ, w j ρ = (u (512 * j + ρ.val) : EReal)) →
        eacc w X j = ((∑ s ∈ Finset.range (512 * (j + 1)), u s * wt a t μ s : ℝ) : EReal) := by
  have tileMax : ∀ j ≤ n, ∃ μ : ℝ, Finset.univ.fold max ⊥ (X j) = (μ : EReal) := fun j hj =>
    fold_real (X j) (fun ρ => by rw [hX j hj]; unfold sc; split_ifs <;> simp) 0
      (by rw [hX j hj]; unfold sc; rw [if_pos (by have h0 : ((0 : Fin 512) : ℕ) = 0 := rfl; rw [h0]; omega)]; simp)
  have pv : ∀ (u : ℕ → ℝ) (w : ℕ → Fin 512 → EReal), (∀ j ≤ n, ∀ ρ, w j ρ = (u (512 * j + ρ.val) : EReal)) → ∀ j ≤ n, ∀ μ : ℝ,
      ∑ ρ, w j ρ * Ideal.exp2 (X j ρ - (μ : EReal)) = ((∑ ρ ∈ Finset.range 512, u (512 * j + ρ) * wt a t μ (512 * j + ρ) : ℝ) : EReal) :=
    fun u w hw j hj μ => by
      rw [← tile_sum]
      exact Finset.sum_congr rfl fun ρ _ => by rw [hX j hj, hw j hj]
  induction j with
  | zero =>
    obtain ⟨μ, hμ⟩ := tileMax 0 hj
    have hm : emax X 1 = (μ : EReal) := by
      show max (emax X 0) _ = _
      rw [hμ]; show max ⊥ (μ : EReal) = _; simp
    refine ⟨μ, hm, fun u w hw => ?_⟩
    show ∑ ρ, w 0 ρ * Ideal.exp2 (X 0 ρ - emax X 1) = _
    rw [hm, pv u w hw 0 hj μ]
    simp
  | succ j ih =>
    obtain ⟨μ, hμ, hS⟩ := ih (by omega)
    obtain ⟨τ, hτ⟩ := tileMax (j + 1) hj
    have hm : emax X (j + 2) = ((max μ τ : ℝ) : EReal) := by
      show max (emax X (j + 1)) _ = _
      rw [hμ, hτ, EReal.coe_strictMono.monotone.map_max]
    refine ⟨max μ τ, hm, fun u w hw => ?_⟩
    show Ideal.exp2 (emax X (j + 1) - emax X (j + 2)) * eacc w X j + ∑ ρ, w (j + 1) ρ * Ideal.exp2 (X (j + 1) ρ - emax X (j + 2)) = _
    rw [hm, hμ, hS u w hw, pv u w hw (j + 1) hj, ← EReal.coe_sub, Ideal.exp2_coe, ← EReal.coe_mul, ← EReal.coe_add]
    congr 1
    show (2 : ℝ) ^ (μ - max μ τ) * _ + _ = _
    rw [rescale, show 512 * (j + 1 + 1) = 512 * (j + 1) + 512 by ring, Finset.sum_range_add]

/-- The causal sum of `u` weighted by `g`. -/
def csum (u g : ℕ → ℝ) (t : ℕ) : ℝ := ∑ s : Fin 2048, if s.val ≤ t then u s.val * g s.val else 0

/-- A causal sum cut at a tile's end that lies after `t`. -/
theorem csum_eq (u a : ℕ → ℝ) (t : ℕ) (μ : ℝ) (n : ℕ) (hn : n < 4) (ht : t < 512 * (n + 1)) :
    ∑ s ∈ Finset.range (512 * (n + 1)), u s * wt a t μ s = (2 : ℝ) ^ (-μ) * csum u (fun s => (2 : ℝ) ^ a s) t := by
  unfold csum
  rw [Fin.sum_univ_eq_sum_range (fun s => if s ≤ t then u s * (2 : ℝ) ^ a s else 0) 2048, Finset.mul_sum]
  have hsub : Finset.range (512 * (n + 1)) ⊆ Finset.range 2048 := Finset.range_subset_range.2 (by omega)
  rw [← Finset.sum_subset hsub (f := fun s => (2 : ℝ) ^ (-μ) * if s ≤ t then u s * (2 : ℝ) ^ a s else 0)]
  · refine Finset.sum_congr rfl fun s _ => ?_
    unfold wt
    split_ifs
    · rw [mul_left_comm, ← Real.rpow_add two_pos]; congr 2; ring
    · simp
  · intro s _ hs
    rw [Finset.mem_range] at hs
    rw [if_neg (by omega), mul_zero]

/-- A causal sum of positive terms is positive. -/
theorem csum_pos (g : ℕ → ℝ) (hg : ∀ s, 0 < g s) (t : ℕ) : 0 < csum (fun _ => 1) g t := by
  unfold csum
  refine Finset.sum_pos' (fun s _ => ?_) ⟨0, Finset.mem_univ _, ?_⟩
  · split_ifs
    · rw [one_mul]; exact (hg _).le
    · exact le_refl _
  · rw [if_pos (by simp), one_mul]; exact hg _

/-- The sweep's quotient is the causal softmax's, in base two. -/
theorem sweep_div (a u : ℕ → ℝ) (t n : ℕ) (hn4 : n < 4) (hn : 512 * n ≤ t) (ht : t < 512 * (n + 1)) (X w o : ℕ → Fin 512 → EReal)
    (hX : ∀ j ≤ n, ∀ ρ, X j ρ = sc a t (512 * j + ρ.val)) (hw : ∀ j ≤ n, ∀ ρ, w j ρ = (u (512 * j + ρ.val) : EReal))
    (ho : ∀ j ≤ n, ∀ ρ, o j ρ = 1) :
    Ideal.div (eacc w X n) (eacc o X n)
      = ((csum u (fun s => (2 : ℝ) ^ a s) t / csum (fun _ => 1) (fun s => (2 : ℝ) ^ a s) t : ℝ) : EReal) := by
  obtain ⟨μ, -, h⟩ := sweep a t n hn X hX n le_rfl
  rw [h u w hw, h (fun _ => 1) o (fun j hj ρ => by rw [ho j hj]; simp), csum_eq u a t μ n hn4 ht, csum_eq (fun _ => 1) a t μ n hn4 ht]
  have hp := csum_pos (fun s => (2 : ℝ) ^ a s) (fun s => Real.rpow_pos_of_pos two_pos _) t
  have h2 : (0 : ℝ) < (2 : ℝ) ^ (-μ) := Real.rpow_pos_of_pos two_pos _
  rw [Ideal.div_coe (mul_pos h2 hp).ne', ← EReal.coe_mul]
  congr 1
  field_simp

/-- The plain softmax, each weight divided by the sum, is the causal quotient in base e. -/
theorem softmax (b v : ℕ → ℝ) (t : ℕ) (Y V : Fin 2048 → EReal) (hY : ∀ s, Y s = sc b t s.val) (hV : ∀ s, V s = (v s.val : EReal)) :
    ∑ s, Ideal.div (Ideal.exp (Y s - Finset.univ.fold max ⊥ Y)) (∑ r, Ideal.exp (Y r - Finset.univ.fold max ⊥ Y)) * V s
      = ((csum v (fun s => Real.exp (b s)) t / csum (fun _ => 1) (fun s => Real.exp (b s)) t : ℝ) : EReal) := by
  obtain ⟨μ, hμ⟩ := fold_real Y (fun s => by rw [hY]; unfold sc; split_ifs <;> simp) 0
    (by rw [hY]; unfold sc; rw [if_pos (by simp)]; simp)
  have he : ∀ s, Ideal.exp (Y s - (μ : EReal)) = ((if s.val ≤ t then Real.exp (b s.val - μ) else 0 : ℝ) : EReal) := fun s => by
    rw [hY]; unfold sc
    split_ifs
    · rw [← EReal.coe_sub, Ideal.exp_coe]
    · simp
  have hD : ∑ r : Fin 2048, (if r.val ≤ t then Real.exp (b r.val - μ) else 0) = Real.exp (-μ) * csum (fun _ => 1) (fun s => Real.exp (b s)) t := by
    unfold csum
    rw [Finset.mul_sum]
    refine Finset.sum_congr rfl fun s _ => ?_
    split_ifs
    · rw [one_mul, ← Real.exp_add]; congr 1; ring
    · simp
  have hp := csum_pos (fun s => Real.exp (b s)) (fun s => Real.exp_pos _) t
  have h2 := Real.exp_pos (-μ)
  rw [hμ]
  simp only [he, coe_sum, hD, hV, Ideal.div_coe (mul_pos h2 hp).ne', ← EReal.coe_mul]
  congr 1
  unfold csum at hp ⊢
  rw [Finset.sum_div]
  refine Finset.sum_congr rfl fun s _ => ?_
  split_ifs
  · rw [sub_eq_add_neg, Real.exp_add]; field_simp
  · simp

/-- Base two with the scores divided by log 2 is base e. -/
theorem two_rpow (b : ℝ) : (2 : ℝ) ^ (b * (Real.log 2)⁻¹) = Real.exp b := by
  rw [Real.rpow_def_of_pos two_pos, mul_left_comm, mul_inv_cancel₀ (Real.log_pos one_lt_two).ne', mul_one]

end Cert.Online

end
-- ==== Proof.Lanes.lean ====
module

public import proofs.«01_k».proof.Proof.Tile
public import proofs.«01_k».proof.Proof.Online
public import Idealize.ShloMosaic.Lib.WordCmp

/-! The vector operations of a tile, read at an index. -/

set_option maxRecDepth 16384

@[expose] public noncomputable section

namespace Cert.FoxIdeal.Val

open Idealize Idealize.ShloMosaic Cert.FoxIdeal Cert.FoxIdeal.Gen Cert.Online

/-- A plain score is the inner product over the pair's lanes. -/
theorem raw_at (k : Vec Ideal S512x128 .bf16) (q : FVec Ideal S128x512 .bf16) (s r : Fin 512) :
    raw k q (ix2 s r) = ∑ l : Fin 128, k (ix2 s l) * q (ix2 l r) := by
  pointwise [raw]

/-- The mask's stand-in is `⊥`. -/
theorem mask_bot : (Named.named κ "mask" 0xF149F2CA#32 : Ideal .f32) = (⊥ : EReal) := IdealRules.named_const.ideal_named_scalar _ _ _ _ rfl

/-- The word of −∞ is `⊥`. -/
theorem ofBits_bot : Ideal.ofBits .f32 4286578688#32 = ⊥ := by simp [Ideal.ofBits, Ideal.ieee]

/-- A small number compared with 64, as words. -/
theorem slt64 (l : Fin 128) {α : Type} (a b : α) :
    Scalar.select (IntOp.cmpi .slt (BitVec.ofNat 32 l.val) 64#32) a b = if l.val < 64 then a else b := by
  have h := WordCmp.cmpi_slt_ofNat (w := 32) (a := l.val) (b := 64) (by omega) (by decide)
  rw [h]
  by_cases hl : l.val < 64 <;> simp [Scalar.select, hl]

/-- A key's place minus a query's compared with zero, as words. -/
theorem sle0 (s r : Fin 512) {α : Type} (a b : α) :
    Scalar.select (IntOp.cmpi .sle (IntOp.subi (BitVec.ofNat 32 s.val) (BitVec.ofNat 32 r.val)) 0#32) a b = if s.val ≤ r.val then a else b := by
  have h : ((IntOp.subi (BitVec.ofNat 32 s.val) (BitVec.ofNat 32 r.val)).toInt ≤ (0#32 : BitVec 32).toInt) ↔ s.val ≤ r.val := by
    have hs := s.isLt
    have hr := r.isLt
    simp only [IntOp.subi, BitVec.toInt_eq_toNat_cond, BitVec.toNat_sub, BitVec.toNat_ofNat]
    split_ifs <;> omega
  rw [WordCmp.cmpi_sle_eq]
  rw [(decide_eq_decide.2 h : _ = decide (s.val ≤ r.val))]
  by_cases hl : s.val ≤ r.val <;> simp [Scalar.select, hl]

/-- The maximum so far and a tile's. -/
theorem mNext_at (st : FVec Ideal S512x512 .f32) (m : FVec Ideal S1x512 .f32) (r : Fin 512) :
    mNext st m (ix2 0 r) = max (m (ix2 0 r)) (Finset.univ.fold max ⊥ fun s : Fin 512 => st (ix2 s r)) := by
  pointwise [mNext, ofBits_bot]

/-- A weight: two to the power of the score less the maximum. -/
theorem pOf_at (st : FVec Ideal S512x512 .f32) (m : FVec Ideal S1x512 .f32) (s r : Fin 512) :
    pOf st m (ix2 s r) = Ideal.exp2 (st (ix2 s r) - m (ix2 0 r)) := by
  pointwise [pOf]
  rfl

/-- The weighted values of a key tile. -/
theorem pvOf_at (vt : Vec Ideal S1x80x512 .bf16) (p : FVec Ideal S512x512 .bf16) (f : Fin 80) (r : Fin 512) :
    pvOf vt p (ix2 f r) = ∑ s : Fin 512, vt (ix3 0 f s) * p (ix2 s r) := by
  pointwise [pvOf]

/-- The accumulator rescaled, with the tile added. -/
theorem accNext_at (al : FVec Ideal S1x512 .f32) (acc pv : FVec Ideal S80x512 .f32) (f : Fin 80) (r : Fin 512) :
    accNext al acc pv (ix2 f r) = al (ix2 0 r) * acc (ix2 f r) + pv (ix2 f r) := by
  pointwise [accNext]

/-- A query's features divided by its weights' sum. -/
theorem colOut_at (acc : FVec Ideal S80x512 .f32) (f : Fin 64) (r : Fin 512) :
    colOut acc (ix2 f r) = Ideal.div (acc (ix2 ⟨f.val, by omega⟩ r)) (acc (ix2 64 r)) := by
  pointwise [colOut]

/-- The even head's queries: the lower lanes, the upper ones zero. -/
theorem qLo_at (q : Vec Ideal S512x128 .bf16) (l : Fin 128) (r : Fin 512) :
    qLo q (ix2 l r) = if l.val < 64 then q (ix2 r l) else 0 := by
  pointwise [qLo, qT]
  exact slt64 l _ _

/-- The odd head's queries: the upper lanes, the lower ones zero. -/
theorem qHi_at (q : Vec Ideal S512x128 .bf16) (l : Fin 128) (r : Fin 512) :
    qHi q (ix2 l r) = if l.val < 64 then 0 else q (ix2 r l) := by
  pointwise [qHi, qT]
  exact slt64 l _ _

/-- The causal mask inside a diagonal tile. -/
theorem masked_at (st : FVec Ideal S512x512 .f32) (s r : Fin 512) :
    masked st (ix2 s r) = if s.val ≤ r.val then st (ix2 s r) else ⊥ := by
  pointwise [masked]
  rw [mask_bot]
  exact sle0 s r _ _

/-- A score with the two gates. -/
theorem biased_at (x : FVec Ideal S512x512 .f32) (ct : Vec Ideal S1x1x512 .f32) (cs : Vec Ideal S1x512x128 .f32) (s r : Fin 512) (g : EReal)
    (hg : ∀ l, cs (ix3 0 s l) = g) : biased x ct cs (ix2 s r) = x (ix2 s r) + (ct (ix3 0 0 r) - g) := by
  pointwise [biased, cat4, hg]
  simp

/-- The two heads' outputs side by side. -/
theorem outTile_at (a b : FVec Ideal S64x512 .f32) (r : Fin 512) (l : Fin 128) :
    outTile a b (ix2 r l) = if l.val < 64 then a (ix2 (Fin.ofNat 64 l.val) r) else b (ix2 (Fin.ofNat 64 (l.val - 64)) r) := by
  pointwise [outTile, cat2]
  by_cases h : l.val < 64
  · simp only [dif_pos h, if_pos h]
    congr 2
    exact Fin.ext (Nat.mod_eq_of_lt h).symm
  · have h' : l.val - 64 < 64 := by omega
    simp only [dif_neg h, if_neg h]
    congr 2
    exact Fin.ext (Nat.mod_eq_of_lt h').symm

/-- The maxima of a query are the sweep's. -/
theorem mAt_at (st : ℕ → FVec Ideal S512x512 .f32) (r : Fin 512) (j : ℕ) :
    mAt st j (ix2 0 r) = emax (fun j ρ => st j (ix2 ρ r)) j := by
  induction j with
  | zero => exact mask_bot
  | succ j ih => rw [mAt, mNext_at, ih]; rfl

/-- The sums of a query are the sweep's. -/
theorem accAt_at (st : ℕ → FVec Ideal S512x512 .f32) (vt : ℕ → Vec Ideal S1x80x512 .bf16) (f : Fin 80) (r : Fin 512) (j : ℕ) :
    accAt st vt j (ix2 f r) = eacc (fun j ρ => vt j (ix3 0 f ρ)) (fun j ρ => st j (ix2 ρ r)) j := by
  induction j with
  | zero => simp only [accAt, pvOf_at, pOf_at, mAt_at]; rfl
  | succ j ih =>
    rw [accAt, accNext_at, ih, pvOf_at]
    simp only [pOf_at, mAt_at, eacc]
    congr 2
    rw [← mAt_at, ← mAt_at]; rfl

end Cert.FoxIdeal.Val

end
-- ==== Proof.TileAt.lean ====
module

public import proofs.«01_k».proof.Proof.Lanes

/-! A tile's output at a query and a feature: the causal softmax of that query, in base two. -/

set_option maxRecDepth 16384

@[expose] public noncomputable section

namespace Cert.FoxIdeal.Val

open Idealize Idealize.ShloMosaic Cert.FoxIdeal Cert.FoxIdeal.Gen Cert.Online

/-- The base-two score of a key: the inner product over the pair's lanes and the difference of the gates. -/
def sco (K : ℕ → ℕ → ℝ) (q : ℕ → ℝ) (g : ℝ) (C : ℕ → ℝ) (s : ℕ) : ℝ := (∑ l ∈ Finset.range 128, K s l * q l) + (g - C s)

variable (p : ℕ) (x1 : Vec Ideal S2048x128 .bf16) (x3 : Vec Ideal S2048x128 .f32) (n : ℕ) (hn : n < 4) (h : ℕ) (hh : h < 2) (r : Fin 512)

include hn hh in
/-- The scores of a query are causal: real up to the query, `⊥` after it. -/
theorem stAt_at (q : FVec Ideal S128x512 .bf16) (ct : Vec Ideal S1x1x512 .f32) (K : ℕ → ℕ → ℝ) (q' : ℕ → ℝ) (g : ℝ) (C : ℕ → ℝ)
    (hK : ∀ i l, x1 (ix2 i l) = (K i.val l.val : EReal)) (hq : ∀ l, q (ix2 l r) = (q' l.val : EReal)) (hg : ct (ix3 0 0 r) = (g : EReal))
    (hC : ∀ i, x3 (ix2 i (Fin.ofNat 128 (2 * p + h))) = (C i.val : EReal)) (j : ℕ) (hj : j ≤ n) (ρ : Fin 512) :
    stAt n q (fun j => blk x1 (512 * j)) ct (fun j => csb p x3 h (512 * j)) j (ix2 ρ r) = sc (sco K q' g C) (512 * n + r.val) (512 * j + ρ.val) := by
  have hlt : 512 * j + ρ.val < 2048 := by omega
  have hcs : ∀ l, csb p x3 h (512 * j) (ix3 0 ρ l) = (C (512 * j + ρ.val) : EReal) := fun l => by
    have e := hC (Fin.ofNat 2048 (512 * j + ρ.val))
    have e1 : (Fin.ofNat 2048 (512 * j + ρ.val)).val = 512 * j + ρ.val := Nat.mod_eq_of_lt hlt
    rw [e1] at e
    have e2 : (Fin.ofNat 2 h).val = h := Nat.mod_eq_of_lt hh
    rw [← e]
    show x3 (ix2 _ (Fin.ofNat 128 (2 * p + (Fin.ofNat 2 h).val))) = _
    rw [e2]; rfl
  have hraw : raw (blk x1 (512 * j)) q (ix2 ρ r) = ((∑ l ∈ Finset.range 128, K (512 * j + ρ.val) l * q' l : ℝ) : EReal) := by
    rw [raw_at, ← Fin.sum_univ_eq_sum_range (fun l => K (512 * j + ρ.val) l * q' l) 128, ← coe_sum]
    refine Finset.sum_congr rfl fun l _ => ?_
    rw [hq, EReal.coe_mul]
    congr 1
    have e := hK (Fin.ofNat 2048 (512 * j + ρ.val)) l
    have e1 : (Fin.ofNat 2048 (512 * j + ρ.val)).val = 512 * j + ρ.val := Nat.mod_eq_of_lt hlt
    rw [e1] at e
    exact e
  have hb : biased (raw (blk x1 (512 * j)) q) ct (csb p x3 h (512 * j)) (ix2 ρ r) = (sco K q' g C (512 * j + ρ.val) : EReal) := by
    rw [biased_at _ _ _ _ _ _ hcs, hraw, hg, ← EReal.coe_sub, ← EReal.coe_add]; rfl
  unfold stAt sc
  by_cases hjn : j = n
  · subst hjn
    rw [if_pos rfl, masked_at, hb]
    by_cases hs : ρ.val ≤ r.val
    · rw [if_pos hs, if_pos (by omega)]
    · rw [if_neg hs, if_neg (by omega)]
  · rw [if_neg hjn, hb, if_pos (by omega)]

include hn hh in
/-- One head's column of the output. -/
theorem col_at (x2 : Vec Ideal S2048x128 .bf16) (q : FVec Ideal S128x512 .bf16) (ct : Vec Ideal S1x1x512 .f32) (K V : ℕ → ℕ → ℝ) (q' : ℕ → ℝ) (g : ℝ) (C : ℕ → ℝ)
    (hK : ∀ i l, x1 (ix2 i l) = (K i.val l.val : EReal)) (hV : ∀ i l, x2 (ix2 i l) = (V i.val l.val : EReal))
    (hq : ∀ l, q (ix2 l r) = (q' l.val : EReal)) (hg : ct (ix3 0 0 r) = (g : EReal))
    (hC : ∀ i, x3 (ix2 i (Fin.ofNat 128 (2 * p + h))) = (C i.val : EReal)) (f : Fin 64) :
    colOut (accAt (stAt n q (fun j => blk x1 (512 * j)) ct (fun j => csb p x3 h (512 * j))) (fun j => vtb x2 h (512 * j)) n) (ix2 f r)
      = ((csum (fun s => V s (64 * h + f.val)) (fun s => (2 : ℝ) ^ sco K q' g C s) (512 * n + r.val)
          / csum (fun _ => 1) (fun s => (2 : ℝ) ^ sco K q' g C s) (512 * n + r.val) : ℝ) : EReal) := by
  have e2 : (Fin.ofNat 2 h).val = h := Nat.mod_eq_of_lt hh
  rw [colOut_at, accAt_at, accAt_at]
  refine sweep_div (sco K q' g C) _ (512 * n + r.val) n hn (by omega) (by omega) _ _ _
    (stAt_at p x1 x3 n hn h hh r q ct K q' g C hK hq hg hC) (fun j hj ρ => ?_) (fun j hj ρ => ?_)
  · have e := hV (Fin.ofNat 2048 (512 * j + ρ.val)) (Fin.ofNat 128 (64 * h + f.val))
    have e1 : (Fin.ofNat 2048 (512 * j + ρ.val)).val = 512 * j + ρ.val := Nat.mod_eq_of_lt (by omega)
    have e3 : (Fin.ofNat 128 (64 * h + f.val)).val = 64 * h + f.val := Nat.mod_eq_of_lt (by omega)
    rw [e1, e3] at e
    rw [← e]
    show (if f.val < 64 then x2 (ix2 _ (Fin.ofNat 128 (64 * (Fin.ofNat 2 h).val + f.val))) else (1 : EReal)) = _
    rw [if_pos f.isLt, e2]; rfl
  · rfl

/-- A sum over the lanes with the second half zeroed. -/
theorem sum_lo (a b : ℕ → ℝ) : ∑ l ∈ Finset.range 128, a l * (if l < 64 then b l else 0) = ∑ d ∈ Finset.range 64, a d * b d := by
  rw [show 128 = 64 + 64 by rfl, Finset.sum_range_add, Finset.sum_congr rfl (g := fun d => a d * b d),
    Finset.sum_congr rfl (s₁ := Finset.range 64) (f := fun x => a (64 + x) * _) (g := fun _ => (0 : ℝ))]
  · simp
  · intro x _; rw [if_neg (by omega), mul_zero]
  · intro x hx; rw [if_pos (Finset.mem_range.1 hx)]

/-- A sum over the lanes with the first half zeroed. -/
theorem sum_hi (a b : ℕ → ℝ) : ∑ l ∈ Finset.range 128, a l * (if l < 64 then 0 else b l) = ∑ d ∈ Finset.range 64, a (64 + d) * b (64 + d) := by
  rw [show 128 = 64 + 64 by rfl, Finset.sum_range_add, Finset.sum_congr rfl (g := fun _ => (0 : ℝ)),
    Finset.sum_congr rfl (s₁ := Finset.range 64) (f := fun x => a (64 + x) * _) (g := fun d => a (64 + d) * b (64 + d))]
  · simp
  · intro x _; rw [if_neg (by omega)]
  · intro x hx; rw [if_pos (Finset.mem_range.1 hx), mul_zero]

/-- The base-two score over the head's own 64 features. -/
def sco2 (K Q : ℕ → ℕ → ℝ) (G C : ℕ → ℕ → ℝ) (p h t s : ℕ) : ℝ :=
  (∑ d ∈ Finset.range 64, K s (64 * h + d) * Q t (64 * h + d)) + (G (2 * p + h) t - C s (2 * p + h))

include hn in
/-- A TILE'S OUTPUT: at a query and a feature, the causal softmax of the query's head applied to the values. -/
theorem tile_at (hp : p < 4) (x0 x2 : Vec Ideal S2048x128 .bf16) (x4 : Vec Ideal S1x8x2048 .f32) (Q K V C G : ℕ → ℕ → ℝ)
    (hQ : ∀ i l, x0 (ix2 i l) = (Q i.val l.val : EReal)) (hK : ∀ i l, x1 (ix2 i l) = (K i.val l.val : EReal))
    (hV : ∀ i l, x2 (ix2 i l) = (V i.val l.val : EReal)) (hC : ∀ i l, l.val < 8 → x3 (ix2 i l) = (C i.val l.val : EReal))
    (hG : ∀ k i, x4 (ix3 0 k i) = (G k.val i.val : EReal)) (l : Fin 128) :
    tile p x0 x1 x2 x3 x4 n (ix2 r l)
      = ((csum (fun s => V s l.val) (fun s => (2 : ℝ) ^ sco2 K Q G C p (l.val / 64) (512 * n + r.val) s) (512 * n + r.val)
          / csum (fun _ => 1) (fun s => (2 : ℝ) ^ sco2 K Q G C p (l.val / 64) (512 * n + r.val) s) (512 * n + r.val) : ℝ) : EReal) := by
  have hrow : ∀ l : Fin 128, blk x0 (512 * n) (ix2 r l) = (Q (512 * n + r.val) l.val : EReal) := fun l => by
    have e := hQ (Fin.ofNat 2048 (512 * n + r.val)) l
    have e1 : (Fin.ofNat 2048 (512 * n + r.val)).val = 512 * n + r.val := Nat.mod_eq_of_lt (by omega)
    rw [e1] at e
    exact e
  have hct : ∀ h, h < 2 → ctb p x4 h (512 * n) (ix3 0 0 r) = (G (2 * p + h) (512 * n + r.val) : EReal) := fun h hh => by
    have e := hG (Fin.ofNat 8 (2 * p + h)) (Fin.ofNat 2048 (512 * n + r.val))
    have e1 : (Fin.ofNat 2048 (512 * n + r.val)).val = 512 * n + r.val := Nat.mod_eq_of_lt (by omega)
    have e3 : (Fin.ofNat 8 (2 * p + h)).val = 2 * p + h := Nat.mod_eq_of_lt (by omega)
    rw [e1, e3] at e
    exact e
  have hcc : ∀ h, h < 2 → ∀ i, x3 (ix2 i (Fin.ofNat 128 (2 * p + h))) = (C i.val (2 * p + h) : EReal) := fun h hh i => by
    have e3 : (Fin.ofNat 128 (2 * p + h)).val = 2 * p + h := Nat.mod_eq_of_lt (by omega)
    rw [hC i _ (by omega), e3]
  unfold tile
  rw [outTile_at]
  by_cases hl : l.val < 64
  · have hs : ∀ s, sco K (fun l => if l < 64 then Q (512 * n + r.val) l else 0) (G (2 * p + 0) (512 * n + r.val)) (fun s => C s (2 * p + 0)) s
        = sco2 K Q G C p 0 (512 * n + r.val) s := fun s => by
      unfold sco sco2; rw [sum_lo]; simp
    rw [if_pos hl, col_at p x1 x3 n hn 0 (by omega) r x2 _ _ K V (fun l => if l < 64 then Q (512 * n + r.val) l else 0)
      (G (2 * p + 0) (512 * n + r.val)) (fun s => C s (2 * p + 0)) hK hV
      (fun l => by rw [qLo_at, hrow]; split_ifs <;> rfl) (hct 0 (by omega)) (hcc 0 (by omega))]
    have e4 : (Fin.ofNat 64 l.val).val = l.val := Nat.mod_eq_of_lt hl
    simp only [hs, e4, Nat.div_eq_of_lt hl, Nat.mul_zero, Nat.zero_add]
  · have hs : ∀ s, sco K (fun l => if l < 64 then 0 else Q (512 * n + r.val) l) (G (2 * p + 1) (512 * n + r.val)) (fun s => C s (2 * p + 1)) s
        = sco2 K Q G C p 1 (512 * n + r.val) s := fun s => by
      unfold sco sco2; rw [sum_hi]
    rw [if_neg hl, col_at p x1 x3 n hn 1 (by omega) r x2 _ _ K V (fun l => if l < 64 then 0 else Q (512 * n + r.val) l)
      (G (2 * p + 1) (512 * n + r.val)) (fun s => C s (2 * p + 1)) hK hV
      (fun l => by rw [qHi_at, hrow]; split_ifs <;> rfl) (hct 1 (by omega)) (hcc 1 (by omega))]
    have e4 : (Fin.ofNat 64 (l.val - 64)).val = l.val - 64 := Nat.mod_eq_of_lt (by omega)
    have e5 : l.val / 64 = 1 := by omega
    have e6 : 64 * 1 + (l.val - 64) = l.val := by omega
    simp only [hs, e4, e5, e6]

end Cert.FoxIdeal.Val

end
-- ==== Proof.Block.lean ====
module

public import proofs.«01_k».proof.Proof.Pieces
public import proofs.«01_k».proof.Proof.TileAt

/-! What a grid point leaves in its output block: the four query tiles, one under the other. -/

set_option maxRecDepth 16384

@[expose] public noncomputable section

namespace Cert.FoxIdeal.Val

open Idealize Idealize.ShloMosaic Cert.FoxIdeal Cert.FoxIdeal.Gen Cert.Online

/-- The output block: row by row the tile that the row lies in. -/
def outBlk (p : ℕ) (x0 x1 x2 : Vec Ideal S2048x128 .bf16) (x3 : Vec Ideal S2048x128 .f32) (x4 : Vec Ideal S1x8x2048 .f32) : Vec Ideal S2048x128 .bf16 :=
  fun y => tile p x0 x1 x2 x3 x4 ((y 0).val / 512) (ix2 (Fin.ofNat 512 ((y 0).val % 512)) (y 1))

/-- A tile is the output block's rows. -/
theorem outBlk_emb (p : ℕ) (x0 x1 x2 : Vec Ideal S2048x128 .bf16) (x3 : Vec Ideal S2048x128 .f32) (x4 : Vec Ideal S1x8x2048 .f32) (n o : ℕ) (ho : o = 512 * n)
    (inb) (z : S512x128.Idx) :
    tile p x0 x1 x2 x3 x4 n z = outBlk p x0 x1 x2 x3 x4 ((Rect.unit (s := S2048x128) ![o, 0] ![512, 128] inb).emb z) := by
  subst ho
  have z0 : (z 0).val < 512 := (z 0).isLt
  have e0 : ((Rect.unit (s := S2048x128) ![512 * n, 0] ![512, 128] inb).emb z 0).val = 512 * n + 1 * (z 0).val := rfl
  have e1 : (Rect.unit (s := S2048x128) ![512 * n, 0] ![512, 128] inb).emb z 1 = z 1 := Fin.ext (by show 0 + 1 * (z 1).val = _; omega)
  unfold outBlk
  rw [e0, e1, show (512 * n + 1 * (z 0).val) / 512 = n by omega, show (512 * n + 1 * (z 0).val) % 512 = (z 0).val by omega]
  congr 1
  funext a
  match a with
  | ⟨0, _⟩ => exact Fin.ext (Nat.mod_eq_of_lt z0).symm
  | ⟨1, _⟩ => rfl

/-- WHAT A GRID POINT LEAVES in its output's buffer is the output block of its inputs. -/
theorem out_eq (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S1x8x2048 .f32) (harg6 : arg6.IsWhole) (arg7 : Memref sig .tc .vmem S2048x128 .bf16) (harg7 : arg7.IsWhole) (arg8 : Memref sig .tc .vmem S2x80x2048 .bf16) (harg8 : arg8.IsWhole) (arg9 : Memref sig .tc .vmem S2x2048x128 .f32) (harg9 : arg9.IsWhole) (arg10 : Memref sig .tc .vmem S2x2x2x512x512 .f32) (harg10 : arg10.IsWhole) (arg11 : Memref sig .tc .vmem S2x2x2x512x512 .bf16) (harg11 : arg11.IsWhole) (arg12 : Memref sig .tc .vmem S2x2x2x1x512 .f32) (harg12 : arg12.IsWhole) (arg13 : Memref sig .tc .vmem S2x2x80x512 .f32) (harg13 : arg13.IsWhole) (arg14 : Memref sig .tc .vmem S2x2x1x512 .f32) (harg14 : arg14.IsWhole)
    (x0 x1 x2 : Vec Ideal S2048x128 .bf16) (x3 : Vec Ideal S2048x128 .f32) (x4 : Vec Ideal S1x8x2048 .f32) :
    out0_A_5 c i arg2 harg2 arg3 harg3 arg4 harg4 arg5 harg5 arg6 harg6 arg7 harg7 arg8 harg8 arg9 harg9 arg10 harg10 arg11 harg11 arg12 harg12 arg13 harg13 arg14 harg14 x0 x1 x2 x3 x4 = outBlk (i 1).val x0 x1 x2 x3 x4 := by
  funext y
  unfold out0_A_5
  rw [View.read_writes_junk_apply_eq_canon]
  refine View.canon_apply_of_pieces (outBlk (i 1).val x0 x1 x2 x3 x4) _ (View.PiecesOf.mem ?_) _ (cover0_A_5 c i arg2 harg2 arg3 harg3 arg4 harg4 arg5 harg5 arg6 harg6 arg7 harg7 arg8 harg8 arg9 harg9 arg10 harg10 arg11 harg11 arg12 harg12 arg13 harg13 arg14 harg14 x0 x1 x2 x3 x4 y)
  unfold kernelRun0_A
  dsimp only
  exact ⟨fun z => (congrFun (piece3 c i arg2 harg2 arg3 harg3 arg4 harg4 arg5 harg5 arg6 harg6 arg8 arg9 arg10 arg11 arg12 arg13 arg14 x0 x1 x2 x3 x4) z).trans (outBlk_emb _ _ _ _ _ _ 3 _ (by rfl) (by decide) z),
    fun z => (congrFun (piece2 c i arg2 harg2 arg3 harg3 arg4 harg4 arg5 harg5 arg6 harg6 arg8 arg9 arg10 arg11 arg12 arg13 arg14 x0 x1 x2 x3 x4) z).trans (outBlk_emb _ _ _ _ _ _ 2 _ (by rfl) (by decide) z),
    fun z => (congrFun (piece1 c i arg2 harg2 arg3 harg3 arg4 harg4 arg5 harg5 arg6 harg6 arg8 arg9 arg10 arg11 arg12 arg13 arg14 x0 x1 x2 x3 x4) z).trans (outBlk_emb _ _ _ _ _ _ 1 _ (by rfl) (by decide) z),
    fun z => (congrFun (piece0 c i arg2 harg2 arg3 harg3 arg4 harg4 arg5 harg5 arg6 harg6 arg8 arg9 arg10 arg11 arg14 x0 x1 x2 x3 x4) z).trans (outBlk_emb _ _ _ _ _ _ 0 _ (by rfl) (by decide) z),
    trivial⟩

end Cert.FoxIdeal.Val

end
-- ==== Proof.Prefix.lean ====
module

public import proofs.«01_k».proof.Proof.Block

/-! The arrays that the attention is called on, from the arguments: the queries scaled, the gates scaled, padded and transposed. -/

set_option maxRecDepth 16384

@[expose] public noncomputable section

namespace Cert.FoxIdeal.Val

open Idealize Idealize.ShloMosaic Idealize.ShloMosaic.TcCoe Idealize.SL.Sem Cert.FoxIdeal Cert.FoxIdeal.Gen Cert.Online

/-- One over the logarithm of two. -/
def hLog : FVec Ideal S_ .f32 := Host.divf (constant S_ .f32 0x3F800000#32) (Host.log (constant S_ .f32 0x40000000#32 : FVec Ideal S_ .f32))

/-- Two arrays side by side. -/
def catW (ax : Fin S65536x3072.rank) (a : FVec Ideal S65536x512 .f32) (b : FVec Ideal S65536x2560 .f32) (h : Shape.Concatenates [S65536x512, S65536x2560] S65536x3072 ax) :
    FVec Ideal S65536x3072 .f32 := concatenate S65536x3072 ax [⟨S65536x512, a⟩, ⟨S65536x2560, b⟩] h

/-- The projections with the queries scaled. -/
def hProj (x : FVec Ideal S65536x3072 .f32) : FVec Ideal S65536x3072 .bf16 :=
  truncf .bf16 (catW 1
    (mulf (extractStridedSlice S65536x512 ![0, 0] x slices_S65536x3072_S65536x512_0_0)
      (broadcastInDim S65536x512 ![] bcast_S_S65536x512 (mulf (constant S_ .f32 0x3E000000#32) hLog)))
    (extractStridedSlice S65536x2560 ![0, 512] x slices_S65536x3072_S65536x2560_0_512) concatenates_S65536x512_S65536x2560_S65536x3072_d1) bitsLt_bf16_f32

/-- The gates in base two. -/
def hGate (x : FVec Ideal S65536x8 .f32) : FVec Ideal S65536x8 .f32 := mulf x (broadcastInDim S65536x8 ![] bcast_S_S65536x8 hLog)

/-- The gates by head. -/
def hRow (x : FVec Ideal S65536x8 .f32) : FVec Ideal S32x8x2048 .f32 :=
  transpose S32x8x2048 [0, 2, 1] (shapeCast S32x2048x8 (hGate x) shapeCasts_S65536x8_S32x2048x8) transposes_S32x2048x8_S32x8x2048_0_2_1

/-- The gates padded to the lanes. -/
def hCol (x : FVec Ideal S65536x8 .f32) : FVec Ideal S65536x128 .f32 :=
  pad S65536x128 ![0, 0] ![0, 120] ![0, 0] (hGate x) (sitofp .f32 (constantI S_ 32 0#32)) pads_S65536x8_S65536x128_000_01200 h_S_

variable (m : (ℓ : Loc nD τ sig) → Buf (Elt Ideal) ℓ) (c : Dev nD)

/-- The attention's first operand. -/
theorem V_proj : V m c main_v8 = hProj (m ((c : Thread nD τ).loc main_arg0)) := by
  simp only [V, hostOps0, hostOps0_1, List.flatten_cons, List.flatten_nil, List.append_nil, List.cons_append, List.nil_append]
  after_results
  rfl

/-- The gates by head, as the attention gets them. -/
theorem V_row : V m c main_v12 = hRow (m ((c : Thread nD τ).loc main_arg1)) := by
  simp only [V, hostOps0, hostOps0_1, List.flatten_cons, List.flatten_nil, List.append_nil, List.cons_append, List.nil_append]
  after_results
  rfl

/-- The padded gates, as the attention gets them. -/
theorem V_col : V m c main_v13 = hCol (m ((c : Thread nD τ).loc main_arg1)) := by
  simp only [V, hostOps0, hostOps0_1, List.flatten_cons, List.flatten_nil, List.append_nil, List.cons_append, List.nil_append]
  after_results
  rfl

/-- One over the logarithm of two, at its index. -/
theorem hLog_at (i : S_.Idx) : hLog i = (((Real.log 2)⁻¹ : ℝ) : EReal) := by
  pointwise [hLog]
  have h2 : Ideal.ofBits .f32 1073741824#32 = ((2 : ℝ) : EReal) := by simp [Ideal.ofBits, Ideal.ieee, -EReal.coe_mul]; norm_num
  have hl := Real.log_pos one_lt_two
  rw [h2, Ideal.log_coe, if_neg (by norm_num), Ideal.div_coe hl.ne', one_mul, one_div]

/-- The scaled projections at an index. -/
theorem hProj_at (x : FVec Ideal S65536x3072 .f32) (i : Fin 65536) (k : Fin 3072) :
    hProj x (ix2 i k) = if k.val < 512 then x (ix2 i k) * ((8⁻¹ * (Real.log 2)⁻¹ : ℝ) : EReal) else x (ix2 i k) := by
  pointwise [hProj, catW, hLog_at]
  have h8 : Ideal.ofBits .f32 1040187392#32 = ((8⁻¹ : ℝ) : EReal) := by simp [Ideal.ofBits, Ideal.ieee, -EReal.coe_mul]; norm_num
  by_cases h : k.val < 512
  · rw [dif_pos h, if_pos h, h8, EReal.coe_mul]
  · rw [dif_neg h, if_neg h]
    congr 2
    exact Fin.ext (by show 512 + (k.val - 512) = _; omega)

/-- The gates by head at an index. -/
theorem hRow_at (x : FVec Ideal S65536x8 .f32) (b : Fin 32) (h : Fin 8) (s : Fin 2048) :
    hRow x (ix3 b h s) = x (ix2 (Fin.ofNat 65536 (2048 * b.val + s.val)) h) * (((Real.log 2)⁻¹ : ℝ) : EReal) := by
  pointwise [hRow, hGate, hLog_at]
  congr 3
  exact Fin.ext (by show b.val * 2048 + s.val = (2048 * b.val + s.val) % 65536; rw [Nat.mod_eq_of_lt (by omega)]; omega)

/-- The padded gates at an index. -/
theorem hCol_at (x : FVec Ideal S65536x8 .f32) (i : Fin 65536) (l : Fin 128) (hl : l.val < 8) :
    hCol x (ix2 i l) = x (ix2 i ⟨l.val, hl⟩) * (((Real.log 2)⁻¹ : ℝ) : EReal) := by
  pointwise [hCol, hGate, hLog_at]
  rw [dif_pos hl]

end Cert.FoxIdeal.Val

end
-- ==== Proof.Att.lean ====
module

public import proofs.«01_k».proof.Proof.Online

/-! The forgetting attention of real projections and real gates, as a formula. -/

@[expose] public noncomputable section

namespace Cert.Online

/-- The logit of position `t` against position `s` in head `h` of batch `b`: the scaled product of query and key and the
    difference of the two positions' cumulative gates. -/
def bias (X g : ℕ → ℕ → ℝ) (b h t s : ℕ) : ℝ :=
  (∑ d ∈ Finset.range 64, X (2048 * b + t) (64 * h + d) * X (2048 * b + s) (512 + (64 * h + d))) * 8⁻¹
    + g (2048 * b + t) h - g (2048 * b + s) h

/-- The attention's value at row `r` and column `k`: the mean of the values up to the row's position, weighted by the
    exponentials of the logits. -/
def att (X g : ℕ → ℕ → ℝ) (r k : ℕ) : ℝ :=
  csum (fun s => X (2048 * (r / 2048) + s) (1024 + k)) (fun s => Real.exp (bias X g (r / 2048) (k / 64) (r % 2048) s)) (r % 2048)
    / csum (fun _ => 1) (fun s => Real.exp (bias X g (r / 2048) (k / 64) (r % 2048) s)) (r % 2048)

end Cert.Online

end
-- ==== Proof.Whole.lean ====
module

public import proofs.«01_k».proof.Proof.Block
public import proofs.«01_k».proof.Proof.Prefix
public import proofs.«01_k».proof.Proof.Att
public import proofs.«01_k».proof.Proof.Gen.FoxIdeal.Value
public import Idealize.ShloMosaic.Lib.Pipeline.ValueKit

/-! The kernel's whole result: the blocks it reads as entries of its arguments, and the array its grid points fill. -/

set_option maxRecDepth 16384

@[expose] public noncomputable section

namespace Cert.FoxIdeal.Val

open Idealize Idealize.ShloMosaic Idealize.ShloMosaic.TcCoe Idealize.SL.Sem Cert.FoxIdeal Cert.FoxIdeal.Gen Cert.Online

/-- Where each window's block lies at a grid point, the batch being the point's quotient by four and the head pair its remainder. -/
theorem where_blk : ∀ t : Fin grid0.N, win0_0.index t = ![t.val / 4, t.val % 4] ∧ win0_1.index t = ![t.val / 4, 4 + t.val % 4]
    ∧ win0_2.index t = ![t.val / 4, 8 + t.val % 4] ∧ win0_3.index t = ![t.val / 4, 0] ∧ win0_4.index t = ![t.val / 4, 0, 0]
    ∧ win0_5.index t = ![t.val / 4, t.val % 4] ∧ (grid0.coords t 1).val = t.val % 4 := by decide +kernel

section
variable (m : (ℓ : Loc nD τ sig) → Buf (Elt Ideal) ℓ) (c : Dev nD) (t : Fin cfg0.N)

/-- The queries' block at an index. -/
theorem blk0_at (i : Fin 2048) (l : Fin 128) (h0 : 2048 * (t.val / 4) + i.val < 65536) (h1 : 128 * (t.val % 4) + l.val < 3072) :
    (iblk m c 0 t : Vec Ideal S2048x128 .bf16) (ix2 i l) = V m c main_v8 (ix2 ⟨2048 * (t.val / 4) + i.val, h0⟩ ⟨128 * (t.val % 4) + l.val, h1⟩) := by
  blk_ext [iblk, (where_blk t).1]

/-- The keys' block at an index. -/
theorem blk1_at (i : Fin 2048) (l : Fin 128) (h0 : 2048 * (t.val / 4) + i.val < 65536) (h1 : 512 + 128 * (t.val % 4) + l.val < 3072) :
    (iblk m c 1 t : Vec Ideal S2048x128 .bf16) (ix2 i l) = V m c main_v8 (ix2 ⟨2048 * (t.val / 4) + i.val, h0⟩ ⟨512 + 128 * (t.val % 4) + l.val, h1⟩) := by
  blk_ext [iblk, (where_blk t).2.1]

/-- The values' block at an index. -/
theorem blk2_at (i : Fin 2048) (l : Fin 128) (h0 : 2048 * (t.val / 4) + i.val < 65536) (h1 : 1024 + 128 * (t.val % 4) + l.val < 3072) :
    (iblk m c 2 t : Vec Ideal S2048x128 .bf16) (ix2 i l) = V m c main_v8 (ix2 ⟨2048 * (t.val / 4) + i.val, h0⟩ ⟨1024 + 128 * (t.val % 4) + l.val, h1⟩) := by
  blk_ext [iblk, (where_blk t).2.2.1]

/-- The padded gates' block at an index. -/
theorem blk3_at (i : Fin 2048) (l : Fin 128) (h0 : 2048 * (t.val / 4) + i.val < 65536) :
    (iblk m c 3 t : Vec Ideal S2048x128 .f32) (ix2 i l) = V m c main_v13 (ix2 ⟨2048 * (t.val / 4) + i.val, h0⟩ l) := by
  blk_ext [iblk, (where_blk t).2.2.2.1]

/-- The block of the gates by head at an index. -/
theorem blk4_at (k : Fin 8) (i : Fin 2048) (h0 : t.val / 4 < 32) :
    (iblk m c 4 t : Vec Ideal S1x8x2048 .f32) (ix3 (0 : Fin 1) k i) = V m c main_v12 (ix3 ⟨t.val / 4, h0⟩ k i) := by
  blk_ext [iblk, (where_blk t).2.2.2.2.1]

variable (X g : ℕ → ℕ → ℝ) (hX : ∀ i k, m ((c : Thread nD τ).loc main_arg0) (ix2 i k) = (X i.val k.val : EReal))
  (hg : ∀ i k, m ((c : Thread nD τ).loc main_arg1) (ix2 i k) = (g i.val k.val : EReal))

/-- The attention of the arguments as an array of the kernel's result. -/
def attArr : S65536x512.Idx → EReal := fun i => (att X g (i 0).val (i 1).val : EReal)

include hX hg in
/-- WHAT A GRID POINT LEAVES in its output block is its part of the attention of the arguments. -/
theorem point (i : Fin 2048) (l : Fin 128) :
    outBlk (t.val % 4) (iblk m c 0 t) (iblk m c 1 t) (iblk m c 2 t) (iblk m c 3 t) (iblk m c 4 t) (ix2 i l)
      = (att X g (2048 * (t.val / 4) + i.val) (128 * (t.val % 4) + l.val) : EReal) := by
  have ht : t.val < 128 := t.isLt
  have hi := i.isLt
  have hl := l.isLt
  have hb : t.val / 4 < 32 := by omega
  have hp : t.val % 4 < 4 := by omega
  generalize hB : t.val / 4 = b at hb
  generalize hP : t.val % 4 = p at hp
  show tile p _ _ _ _ _ (i.val / 512) (ix2 (Fin.ofNat 512 (i.val % 512)) l) = _
  have e := tile_at p (iblk m c 1 t) (iblk m c 3 t) (i.val / 512) (by omega) (Fin.ofNat 512 (i.val % 512)) hp (iblk m c 0 t) (iblk m c 2 t) (iblk m c 4 t)
    (fun i l => X (2048 * b + i) (128 * p + l) * (8⁻¹ * (Real.log 2)⁻¹)) (fun i l => X (2048 * b + i) (512 + 128 * p + l))
    (fun i l => X (2048 * b + i) (1024 + 128 * p + l)) (fun i k => g (2048 * b + i) k * (Real.log 2)⁻¹) (fun k i => g (2048 * b + i) k * (Real.log 2)⁻¹)
    (fun i l => by
      rw [blk0_at m c t i l (by omega) (by omega), V_proj, hProj_at, if_pos (by show 128 * (t.val % 4) + l.val < 512; omega), hX, ← EReal.coe_mul]
      simp only [hB, hP])
    (fun i l => by
      rw [blk1_at m c t i l (by omega) (by omega), V_proj, hProj_at, if_neg (by show ¬ 512 + 128 * (t.val % 4) + l.val < 512; omega), hX]
      simp only [hB, hP])
    (fun i l => by
      rw [blk2_at m c t i l (by omega) (by omega), V_proj, hProj_at, if_neg (by show ¬ 1024 + 128 * (t.val % 4) + l.val < 512; omega), hX]
      simp only [hB, hP])
    (fun i l hl => by
      rw [blk3_at m c t i l (by omega), V_col, hCol_at _ _ _ hl, hg, ← EReal.coe_mul]
      simp only [hB])
    (fun k i => by
      rw [blk4_at m c t k i (by omega), V_row, hRow_at, hg, ← EReal.coe_mul]
      have e1 : (Fin.ofNat 65536 (2048 * (t.val / 4) + i.val)).val = 2048 * (t.val / 4) + i.val := Nat.mod_eq_of_lt (by omega)
      show ((g (Fin.ofNat 65536 (2048 * (t.val / 4) + i.val)).val _ * _ : ℝ) : EReal) = _
      rw [e1, hB]) l
  have er : 512 * (i.val / 512) + (Fin.ofNat 512 (i.val % 512)).val = i.val := by
    show 512 * (i.val / 512) + i.val % 512 % 512 = _
    omega
  rw [er] at e
  refine e.trans (congrArg _ ?_)
  unfold att
  have hs : ∀ s, (2 : ℝ) ^ sco2 (fun i l => X (2048 * b + i) (512 + 128 * p + l)) (fun i l => X (2048 * b + i) (128 * p + l) * (8⁻¹ * (Real.log 2)⁻¹))
      (fun k i => g (2048 * b + i) k * (Real.log 2)⁻¹) (fun i k => g (2048 * b + i) k * (Real.log 2)⁻¹) p (l.val / 64) i.val s
        = Real.exp (bias X g b ((128 * p + l.val) / 64) i.val s) := fun s => by
    rw [← two_rpow]
    congr 1
    unfold sco2 bias
    rw [show (128 * p + l.val) / 64 = 2 * p + l.val / 64 by omega, add_sub_assoc, add_mul, Finset.sum_mul, Finset.sum_mul]
    congr 1
    · refine Finset.sum_congr rfl fun d _ => ?_
      dsimp only
      rw [show 64 * (2 * p + l.val / 64) + d = 128 * p + (64 * (l.val / 64) + d) by omega,
        show 512 + (128 * p + (64 * (l.val / 64) + d)) = 512 + 128 * p + (64 * (l.val / 64) + d) by omega]
      ring
    · ring
  simp only [hs]
  rw [show (2048 * b + i.val) / 2048 = b by omega, show (2048 * b + i.val) % 2048 = i.val by omega]
  simp only [show 1024 + (128 * p + l.val) = 1024 + 128 * p + l.val by omega]

include hX hg in
/-- THE KERNEL'S RESULT is the attention of its arguments. -/
theorem result : (dats m 0 c).arrAt 5 cfg0.N = attArr X g := by
  refine (dats m 0 c).arrAt_eq_of_covers 5 _ (by decide +kernel) fun t hf y => ?_
  blk_simp
  rw [after0_5]
  unfold outsAt0
  rw [out_eq, (where_blk t).2.2.2.2.2.2]
  obtain ⟨i, l, rfl⟩ : ∃ (i : Fin 2048) (l : Fin 128), y = ix2 i l := ⟨y 0, y 1, by funext a; match a with | ⟨0, _⟩ => rfl | ⟨1, _⟩ => rfl⟩
  refine (point m c t X g hX hg i l).trans ?_
  unfold attArr
  blk_simp [(where_blk t).2.2.2.2.2.1]
  rw [mul_comm (t.val / 4), mul_comm (t.val % 4)]

end

end Cert.FoxIdeal.Val

end
-- ==== Proof.RefAt.lean ====
module

public import proofs.«01_k».proof.Proof.Att
public import proofs.«01_k».proof.Proof.Gen.FoxRefIdeal
public import proofs.«01_k».proof.Proof.Gen.FoxRefIdeal.Read
public import Idealize.ShloMosaic.Lib.Pointwise
public import Idealize.ShloMosaic.Lib.WordCmp
public import Idealize.ShloMosaic.Lib.Pipeline.ValueKit

/-! The reference's result at an index: the forgetting attention of its arguments. -/

set_option maxRecDepth 16384

@[expose] public noncomputable section

namespace Cert.FoxRefIdeal.Val

open Idealize Idealize.ShloMosaic Cert.FoxRefIdeal Cert.FoxRefIdeal.Gen Cert.FoxRefIdeal.Read Cert.Online

variable (x0 : FVec Ideal S65536x3072 .f32) (x1 : FVec Ideal S65536x8 .f32) (X g : ℕ → ℕ → ℝ)
  (hX : ∀ j, x0 j = (X (j 0).val (j 1).val : EReal)) (hg : ∀ j, x1 j = (g (j 0).val (j 1).val : EReal))

include hX in
/-- A query's feature. -/
theorem q_at (j : S32x2048x8x64.Idx) : val_main_v1 (F := Ideal) x0 j = (X (2048 * (j 0).val + (j 1).val) (64 * (j 2).val + (j 3).val) : EReal) := by
  have h0 : (j 0).val < 32 := (j 0).isLt
  have h1 : (j 1).val < 2048 := (j 1).isLt
  have h2 : (j 2).val < 8 := (j 2).isLt
  have h3 : (j 3).val < 64 := (j 3).isLt
  rw [val_main_v1_apply, val_main_v0_apply, hX]
  congr 2 <;> (simp only [idx_main_v0, idx_main_v1]; omega)

include hX in
/-- A key's feature. -/
theorem k_at (j : S32x2048x8x64.Idx) : val_main_v3 (F := Ideal) x0 j = (X (2048 * (j 0).val + (j 1).val) (512 + (64 * (j 2).val + (j 3).val)) : EReal) := by
  have h0 : (j 0).val < 32 := (j 0).isLt
  have h1 : (j 1).val < 2048 := (j 1).isLt
  have h2 : (j 2).val < 8 := (j 2).isLt
  have h3 : (j 3).val < 64 := (j 3).isLt
  rw [val_main_v3_apply, val_main_v2_apply, hX]
  congr 2 <;> (simp only [idx_main_v2, idx_main_v3]; omega)

include hX in
/-- A value's feature. -/
theorem v_at (j : S32x2048x8x64.Idx) : val_main_v5 (F := Ideal) x0 j = (X (2048 * (j 0).val + (j 1).val) (1024 + (64 * (j 2).val + (j 3).val)) : EReal) := by
  have h0 : (j 0).val < 32 := (j 0).isLt
  have h1 : (j 1).val < 2048 := (j 1).isLt
  have h2 : (j 2).val < 8 := (j 2).isLt
  have h3 : (j 3).val < 64 := (j 3).isLt
  rw [val_main_v5_apply, val_main_v4_apply, hX]
  congr 2 <;> (simp only [idx_main_v4, idx_main_v5]; omega)

include hg in
/-- A cumulative gate. -/
theorem c_at (j : S32x8x2048.Idx) : val_main_v7 (F := Ideal) x1 j = (g (2048 * (j 0).val + (j 2).val) (j 1).val : EReal) := by
  have h0 : (j 0).val < 32 := (j 0).isLt
  have h1 : (j 1).val < 8 := (j 1).isLt
  have h2 : (j 2).val < 2048 := (j 2).isLt
  rw [val_main_v7_apply, val_main_v6_apply, hg]
  congr 2 <;> (simp only [idx_main_v6, idx_main_v7]; omega)

include hX hg in
/-- The logits. -/
theorem logit_at (j : S32x8x2048x2048.Idx) :
    val_main_v16 (F := Ideal) x0 x1 j = (bias X g (j 0).val (j 1).val (j 2).val (j 3).val : EReal) := by
  have h8 : Ideal.ofBits .f32 1040187392#32 = ((8⁻¹ : ℝ) : EReal) := by simp [Ideal.ofBits, Ideal.ieee, -EReal.coe_mul]; norm_num
  have hs : val_main_v8 (F := Ideal) x0 j
      = ((∑ d ∈ Finset.range 64, X (2048 * (j 0).val + (j 2).val) (64 * (j 1).val + d) * X (2048 * (j 0).val + (j 3).val) (512 + (64 * (j 1).val + d)) : ℝ) : EReal) := by
    rw [val_main_v8_apply, ← Fin.sum_univ_eq_sum_range (fun d => X (2048 * (j 0).val + (j 2).val) (64 * (j 1).val + d) * X (2048 * (j 0).val + (j 3).val) (512 + (64 * (j 1).val + d))) 64, ← coe_sum]
    refine Finset.sum_congr rfl fun d _ => ?_
    rw [q_at x0 X hX, k_at x0 X hX, EReal.coe_mul]
  have h9 : val_main_v9 (F := Ideal) j = ((8⁻¹ : ℝ) : EReal) := by
    rw [val_main_v9_apply]
    exact h8
  have h12 : val_main_v12 (F := Ideal) x1 j = (g (2048 * (j 0).val + (j 2).val) (j 1).val : EReal) := by
    rw [val_main_v12_apply, val_main_v11_apply, c_at x1 g hg]
  have h15 : val_main_v15 (F := Ideal) x1 j = (g (2048 * (j 0).val + (j 3).val) (j 1).val : EReal) := by
    rw [val_main_v15_apply, val_main_v14_apply, c_at x1 g hg]
  rw [val_main_v16_apply, val_main_v13_apply, val_main_v10_apply, hs, h9, h12, h15]
  unfold bias
  rw [EReal.coe_sub, EReal.coe_add, EReal.coe_mul]
  rfl

/-- The causal mask at a pair of positions. -/
theorem mask_at (j : S32x8x2048x2048.Idx) : val_main_call0_v1 (F := Ideal) j = if (j 3).val ≤ (j 2).val then 1#1 else 0#1 := by
  have h2 : (j 2).val < 2048 := (j 2).isLt
  have h3 : (j 3).val < 2048 := (j 3).isLt
  rw [val_main_call0_v1_apply, val_main_v23_apply, val_main_v21_apply, val_main_v18_apply, val_main_v17_apply,
    val_main_v22_apply, val_main_v20_apply, val_main_v19_apply]
  simp only [idx_main_call0_v1, idx_main_v21, idx_main_v18, idx_main_v22, idx_main_v20]
  rw [WordCmp.cmpi_sge_ofNat (by omega) (by omega)]
  by_cases h : (j 3).val ≤ (j 2).val <;> simp [h]

/-- The word of minus infinity. -/
theorem bot_bits : Ideal.ofBits .f32 4286578688#32 = ⊥ := by simp [Ideal.ofBits, Ideal.ieee]

include hX hg in
/-- The masked logits. -/
theorem masked_at (j : S32x8x2048x2048.Idx) :
    val_main_v24 (F := Ideal) x0 x1 j = sc (bias X g (j 0).val (j 1).val (j 2).val) (j 2).val (j 3).val := by
  have hb : val_main_call0_v2 (F := Ideal) j = ⊥ := by
    rw [val_main_call0_v2_apply]
    exact bot_bits
  rw [val_main_v24_apply, mask_at, logit_at x0 x1 X g hX hg, hb]
  unfold sc
  split_ifs <;> rfl

/-- The largest logit of a position. -/
theorem max_at (j : S32x8x2048x2048.Idx) :
    val_main_v29 (F := Ideal) x0 x1 j = Finset.univ.fold max ⊥ fun s : Fin 2048 => val_main_v24 (F := Ideal) x0 x1 (idx_main_v32 (idx_main_v33 (idx_main_v34 j)) s) := by
  rw [val_main_v29_apply, val_main_v28_apply, val_main_v27_apply, val_main_v26_apply]
  have hb : val_main_cst_2 (F := Ideal) (idx_main_v26 (idx_main_v28 (idx_main_v29 j))) = ⊥ := bot_bits
  rw [hb]
  unfold val_main_v25
  rw [Host.reduce_eq_fold_single _ _ _ _ (by decide : S32x8x2048x2048.Reduces [3] S32x8x2048)]
  refine (max_eq_right bot_le).trans ?_
  have hi : val_main_cst_1 (F := Ideal) (Shape.Idx.first h_S_) = ⊥ := bot_bits
  rw [hi]
  refine congrArg (fun f => Finset.fold max ⊥ f (Finset.univ : Finset (Fin 2048))) (funext fun s => ?_)
  exact congrArg (val_main_v24 (F := Ideal) x0 x1) (funext fun a => Fin.ext (by match a with | ⟨0, _⟩ => rfl | ⟨1, _⟩ => rfl | ⟨2, _⟩ => rfl | ⟨3, _⟩ => rfl))

include hX hg in
/-- THE REFERENCE'S RESULT at an index is the attention of its arguments. -/
theorem result (j : S65536x512.Idx) : val_main_v39 (F := Ideal) x0 x1 j = (att X g (j 0).val (j 1).val : EReal) := by
  have h0 : (j 0).val < 65536 := (j 0).isLt
  have h1 : (j 1).val < 512 := (j 1).isLt
  have e : val_main_v39 (F := Ideal) x0 x1 j = val_main_v36 (F := Ideal) x0 x1 (idx_main_v37 (idx_main_v38 j)) := by
    rw [val_main_v39_apply, val_main_v38_apply, val_main_v37_apply]; rfl
  rw [e, val_main_v36_apply]
  have hs := softmax (bias X g ((j 0).val / 2048) ((j 1).val / 64) ((j 0).val % 2048)) (fun s => X (2048 * ((j 0).val / 2048) + s) (1024 + (j 1).val)) ((j 0).val % 2048)
    (fun s => val_main_v24 (F := Ideal) x0 x1 (ridx_main_v36 (idx_main_v37 (idx_main_v38 j)) s))
    (fun s => val_main_v5 (F := Ideal) x0 (lidx_main_v36 (idx_main_v37 (idx_main_v38 j)) s))
    (fun s => by
      rw [masked_at x0 x1 X g hX hg]
      simp only [ridx_main_v36, idx_main_v37, idx_main_v38]
      congr 2 <;> omega)
    (fun s => by
      rw [v_at x0 X hX]
      simp only [lidx_main_v36, idx_main_v37, idx_main_v38]
      congr 2 <;> omega)
  refine Eq.trans (Finset.sum_congr rfl fun s _ => ?_) hs
  rw [mul_comm]
  congr 1
  have hz : val_main_cst_3 (F := Ideal) (Shape.Idx.first h_S_) = 0 := by
    rw [val_main_cst_3_apply]
    simp [Ideal.ofBits, Ideal.ieee]
  have hexp : ∀ i, val_main_v31 (F := Ideal) x0 x1 i = Ideal.exp (val_main_v24 (F := Ideal) x0 x1 i - val_main_v29 (F := Ideal) x0 x1 i) := fun i => by
    rw [val_main_v31_apply, val_main_v30_apply]; rfl
  rw [val_main_v35_apply, val_main_v34_apply, val_main_v33_apply, val_main_v32_apply, hz, zero_add, hexp, max_at]
  simp only [hexp, max_at]
  rfl

end Cert.FoxRefIdeal.Val

end
-- ==== Proof.Real.lean ====
module

public import Idealize.ShloMosaic.PureOps.Ideal.Laws
public import Idealize.ShloMosaic.Lib.Pointwise
public import Idealize.ShloMosaic.Lib.ValueIdx

/-! Arrays whose entries are all smaller than infinity in magnitude are arrays of reals. -/

@[expose] public noncomputable section

namespace Cert.Online

open Idealize Idealize.ShloMosaic

/-- The word of positive infinity. -/
theorem top_bits : Ideal.ofBits .f32 2139095040#32 = ⊤ := by simp [Ideal.ofBits, Ideal.ieee]

/-- A magnitude below infinity is a real's. -/
theorem real_of_abs_lt (x : EReal) (h : max x (-x) < ⊤) : ((x.toReal : ℝ) : EReal) = x :=
  EReal.coe_toReal (fun e => by subst e; simp at h) (fun e => by subst e; simp at h)

/-- A comparison that gives the word one holds. -/
theorem of_cmp_lt (x y : EReal) (h : Ideal.cmp .olt x y = 1#1) : x < y := by
  by_contra hn
  simp [Ideal.cmp, hn] at h

/-- A table of reals read at two numbers. -/
def table {M N : ℕ} (x : Shape.Idx ⟨2, ![M, N]⟩ → EReal) (i k : ℕ) : ℝ :=
  if h : i < M ∧ k < N then (x (ix2 ⟨i, h.1⟩ ⟨k, h.2⟩)).toReal else 0

/-- An array of reals is its table. -/
theorem table_at {M N : ℕ} (x : Shape.Idx ⟨2, ![M, N]⟩ → EReal) (hx : ∀ j, ((x j).toReal : EReal) = x j) (j : Shape.Idx ⟨2, ![M, N]⟩) :
    x j = (table x (j 0).val (j 1).val : EReal) := by
  unfold table
  rw [dif_pos (show (j 0).val < M ∧ (j 1).val < N from ⟨(j 0).isLt, (j 1).isLt⟩)]
  have e : ix2 (⟨(j 0).val, (j 0).isLt⟩ : Fin M) (⟨(j 1).val, (j 1).isLt⟩ : Fin N) = j := by
    funext a
    match a with
    | ⟨0, _⟩ => rfl
    | ⟨1, _⟩ => rfl
  exact (congrArg (fun i => x i) e).symm ▸ (hx j).symm

end Cert.Online

end
-- ==== Proof.PostMath.lean ====
module

public import Idealize.ShloMosaic.Lib.Pointwise
public import proofs.«01_k».proof.Proof.Online
public import proofs.«01_k».proof.Proof.Real

/-! What follows a layer's mixer, for one token, over the extended reals: the normalisation, the attention over the memory, and
the feed-forward part with its squared rectifier. Vectors and matrices are functions of natural numbers. -/

@[expose] public noncomputable section

namespace Cert.Post

open Idealize.ShloMosaic Cert.Online

/-- The root mean square normalisation of a vector of 1024 entries with a gain. -/
def rms (x g : ℕ → EReal) (i : ℕ) : EReal :=
  x i * Ideal.rsqrt (Ideal.div (∑ k : Fin 1024, x k.val * x k.val) (Ideal.ofBits .f32 0x44800000#32) + Ideal.ofBits .f32 0x358637BD#32) * g i

/-- A vector of `n` entries times a matrix. -/
def dot (n : ℕ) (x : ℕ → EReal) (w : ℕ → ℕ → EReal) (j : ℕ) : EReal := ∑ k : Fin n, x k.val * w k.val j

/-- One over the square root of a head's width. -/
def scale : EReal := (((Real.sqrt 128)⁻¹ : ℝ) : EReal)

/-- The score of a head's query against memory position `t`. -/
def score (q : ℕ → EReal) (kv : ℕ → ℕ → EReal) (h t : ℕ) : EReal := (∑ d : Fin 128, q (128 * h + d.val) * kv t (128 * h + d.val)) * scale

/-- The largest of the scores against the 256 memory positions. -/
def peak (s : ℕ → EReal) : EReal := Finset.univ.fold max ⊥ fun t : Fin 256 => s t.val

/-- The values weighted by the exponentials of the scores, over the sum of these. -/
def mixed (s v : ℕ → EReal) : EReal :=
  Ideal.div (∑ t : Fin 256, Ideal.exp (s t.val - peak s) * v t.val) (∑ t : Fin 256, Ideal.exp (s t.val - peak s))

/-- The attention over the memory: feature `j` of the heads side by side. -/
def attend (q : ℕ → EReal) (kv : ℕ → ℕ → EReal) (j : ℕ) : EReal := mixed (score q kv (j / 128)) fun t => kv t (512 + j)

/-- The token after the attention over the memory. -/
def cross (x gx : ℕ → EReal) (wq kv wo : ℕ → ℕ → EReal) (j : ℕ) : EReal := x j + dot 512 (attend (dot 1024 (rms x gx) wq) kv) wo j

/-- The squared rectifier. -/
def relu2 (u : EReal) : EReal := max u 0 * max u 0

/-- The feed-forward part of the hidden features before `n`. -/
def hidden (n : ℕ) (hn : ℕ → EReal) (wu wd : ℕ → ℕ → EReal) (j : ℕ) : EReal := ∑ f : Fin n, relu2 (dot 1024 hn wu f.val) * wd f.val j

/-- The token after the feed-forward part. -/
def mlp (x gm : ℕ → EReal) (wu wd : ℕ → ℕ → EReal) (j : ℕ) : EReal := x j + hidden 4096 (rms x gm) wu wd j

/-- An extended real that is a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ k, IsReal (f k)) : IsReal (∑ k, f k) := by
  choose g hg using h
  exact ⟨∑ k, g k, by rw [Finset.sum_congr rfl fun k _ => hg k, coe_sum]⟩

/-- A vector of reals times a matrix of reals. -/
theorem dot_real {n : ℕ} {x : ℕ → EReal} {w : ℕ → ℕ → EReal} {j : ℕ} (hx : ∀ k, k < n → IsReal (x k)) (hw : ∀ k, k < n → IsReal (w k j)) :
    IsReal (dot n x w j) := IsReal.sum fun k => (hx _ k.isLt).mul (hw _ k.isLt)

/-- The word of 1024. -/
theorem bits_1024 : Ideal.ofBits .f32 0x44800000#32 = ((1024 : ℝ) : EReal) := by simp [Ideal.ofBits, Ideal.ieee, -EReal.coe_mul]; norm_num

/-- The word of the normalisation's small constant is a positive real. -/
theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The normalisation of a vector of reals with a real gain is real. -/
theorem rms_real {x g : ℕ → EReal} {i : ℕ} (hx : ∀ k, k < 1024 → IsReal (x k)) (hi : i < 1024) (hg : IsReal (g i)) : IsReal (rms x g i) := by
  refine ((hx i hi).mul ?_).mul hg
  obtain ⟨e, he, hb⟩ := bits_eps
  have hs : ∃ s : ℝ, 0 ≤ s ∧ (∑ k : Fin 1024, x k.val * x k.val) = (s : EReal) := by
    choose y hy using fun k : Fin 1024 => hx k.val k.isLt
    refine ⟨∑ k, y k * y k, Finset.sum_nonneg fun k _ => mul_self_nonneg _, ?_⟩
    rw [← coe_sum]
    exact Finset.sum_congr rfl fun k _ => by rw [hy, EReal.coe_mul]
  obtain ⟨s, hs0, hs⟩ := hs
  have hp : 0 < s / 1024 + e := by positivity
  rw [hs, hb, bits_1024, Ideal.div_coe (by norm_num), ← EReal.coe_mul, ← EReal.coe_add]
  show IsReal (if s * (1 / 1024) + e < 0 then ⊥ else if s * (1 / 1024) + e = 0 then ⊤ else (((Real.sqrt (s * (1 / 1024) + e))⁻¹ : ℝ) : EReal))
  rw [← div_eq_mul_one_div, if_neg hp.not_gt, if_neg hp.ne']
  exact ⟨_, rfl⟩

/-- A score of real queries against real keys is real. -/
theorem score_real {q : ℕ → EReal} {kv : ℕ → ℕ → EReal} {h t : ℕ} (hq : ∀ d, d < 128 → IsReal (q (128 * h + d)))
    (hk : ∀ d, d < 128 → IsReal (kv t (128 * h + d))) : IsReal (score q kv h t) :=
  (IsReal.sum fun d => (hq _ d.isLt).mul (hk _ d.isLt)).mul ⟨_, rfl⟩

/-- Of real scores and values, weighting by the softmax is weighting by the exponentials and then dividing. -/
theorem softmax_mixed (s v : ℕ → EReal) (hs : ∀ t, t < 256 → IsReal (s t)) (hv : ∀ t, t < 256 → IsReal (v t)) :
    ∑ t : Fin 256, Ideal.div (Ideal.exp (s t.val - peak s)) (∑ t : Fin 256, Ideal.exp (s t.val - peak s)) * v t.val = mixed s v := by
  choose a ha using fun t : Fin 256 => hs t.val t.isLt
  choose b hb using fun t : Fin 256 => hv t.val t.isLt
  obtain ⟨μ, hμ⟩ := fold_real (fun t : Fin 256 => s t.val) (fun t => by rw [ha]; exact EReal.coe_ne_top _) 0 (by rw [ha]; exact EReal.coe_ne_bot _)
  have hp : peak s = (μ : EReal) := hμ
  have he : ∀ t : Fin 256, Ideal.exp (s t.val - peak s) = (Real.exp (a t - μ) : EReal) := fun t => by
    rw [ha, hp, ← EReal.coe_sub, Ideal.exp_coe]
  unfold mixed
  simp only [he, hb]
  have hd : (∑ t : Fin 256, (Real.exp (a t - μ) : EReal)) = ((∑ t : Fin 256, Real.exp (a t - μ) : ℝ) : EReal) := coe_sum _ _
  have hpos : (∑ t : Fin 256, Real.exp (a t - μ)) ≠ 0 := (Finset.sum_pos (fun t _ => Real.exp_pos _) ⟨0, Finset.mem_univ _⟩).ne'
  rw [hd]
  simp only [Ideal.div_coe hpos, ← EReal.coe_mul, coe_sum]
  congr 1
  rw [Finset.sum_mul]
  exact Finset.sum_congr rfl fun t _ => by ring

/-- The feed-forward part grows by a tile of 1024 hidden features. -/
theorem hidden_add (n : ℕ) (hn : ℕ → EReal) (wu wd : ℕ → ℕ → EReal) (j : ℕ) :
    hidden (n + 1024) hn wu wd j = hidden n hn wu wd j + ∑ f : Fin 1024, relu2 (dot 1024 hn wu (n + f.val)) * wd (n + f.val) j := by
  unfold hidden
  rw [Fin.sum_univ_add]
  rfl

/-- A vector of two halves times a matrix. -/
theorem dot_add (n k : ℕ) (x : ℕ → EReal) (w : ℕ → ℕ → EReal) (j : ℕ) :
    dot (n + k) x w j = dot n x w j + ∑ i : Fin k, x (n + i.val) * w (n + i.val) j := by
  unfold dot
  rw [Fin.sum_univ_add]
  rfl

/-- An array of two axes read at two numbers. -/
def tab2 {M N : ℕ} (x : Shape.Idx ⟨2, ![M, N]⟩ → EReal) (i k : ℕ) : EReal := if h : i < M ∧ k < N then x (ix2 ⟨i, h.1⟩ ⟨k, h.2⟩) else 0

/-- An array of one axis read at a number. -/
def tab1 {M : ℕ} (x : Shape.Idx ⟨1, ![M]⟩ → EReal) (i : ℕ) : EReal := if h : i < M then x (ix1 ⟨i, h⟩) else 0

theorem tab2_at {M N : ℕ} (x : Shape.Idx ⟨2, ![M, N]⟩ → EReal) (i : Fin M) (k : Fin N) : x (ix2 i k) = tab2 x i.val k.val :=
  (dif_pos ⟨i.isLt, k.isLt⟩ : tab2 x i.val k.val = _).symm

theorem tab1_at {M : ℕ} (x : Shape.Idx ⟨1, ![M]⟩ → EReal) (i : Fin M) : x (ix1 i) = tab1 x i.val := (dif_pos i.isLt : tab1 x i.val = _).symm

theorem real_of_lt {x : EReal} (h : max x (-x) < ⊤) : IsReal x := ⟨_, (real_of_abs_lt x h).symm⟩

theorem tab2_real {M N : ℕ} (x : Shape.Idx ⟨2, ![M, N]⟩ → EReal) (h : ∀ j, IsReal (x j)) (i k : ℕ) : IsReal (tab2 x i k) := by
  unfold tab2
  split_ifs
  · exact h _
  · exact ⟨0, rfl⟩

theorem tab1_real {M : ℕ} (x : Shape.Idx ⟨1, ![M]⟩ → EReal) (h : ∀ j, IsReal (x j)) (i : ℕ) : IsReal (tab1 x i) := by
  unfold tab1
  split_ifs
  · exact h _
  · exact ⟨0, rfl⟩

/-- The rows after the mixer's output projection, its input in two halves. -/
def mix2 (h a b w : ℕ → ℕ → EReal) (r j : ℕ) : EReal := h r j + dot 512 (a r) w j + ∑ k : Fin 512, b r k.val * w (512 + k.val) j

theorem mix2_real {h a b w : ℕ → ℕ → EReal} (rh : ∀ i j, IsReal (h i j)) (ra : ∀ i j, IsReal (a i j)) (rb : ∀ i j, IsReal (b i j)) (rw : ∀ i j, IsReal (w i j)) (r j : ℕ) :
    IsReal (mix2 h a b w r j) := ((rh _ _).add (dot_real (fun _ _ => ra _ _) fun _ _ => rw _ _)).add (IsReal.sum fun _ => (rb _ _).mul (rw _ _))

/-- Normalised rows times a matrix. -/
def proj (x : ℕ → ℕ → EReal) (g : ℕ → EReal) (w : ℕ → ℕ → EReal) (r j : ℕ) : EReal := dot 1024 (rms (x r) g) w j

/-- The rows after the mixer's output projection, its input in one piece. -/
def mix1 (h y w : ℕ → ℕ → EReal) (r j : ℕ) : EReal := h r j + dot 2048 (y r) w j

theorem mix1_real {h y w : ℕ → ℕ → EReal} (rh : ∀ i j, IsReal (h i j)) (ry : ∀ i j, IsReal (y i j)) (rw : ∀ i j, IsReal (w i j)) (r j : ℕ) : IsReal (mix1 h y w r j) :=
  (rh _ _).add (dot_real (fun _ _ => ry _ _) fun _ _ => rw _ _)

/-- A layer's part after its mixer: the attention over the batch's memory, then the feed-forward part. -/
def layer (x : ℕ → ℕ → EReal) (gx : ℕ → EReal) (wq kv wo : ℕ → ℕ → EReal) (gm : ℕ → EReal) (wu wd : ℕ → ℕ → EReal) (r j : ℕ) : EReal :=
  mlp (cross (x r) gx wq (fun t => kv (256 * (r / 2048) + t)) wo) gm wu wd j

end Cert.Post

end
-- ==== Proof.PostOps.lean ====
module

public import proofs.«01_k».proof.Proof.PostMath
public import proofs.«01_k».proof.Proof.Gen.PostIdeal.Skeleton
public import Idealize.ShloMosaic.Lib.Pointwise
public import Idealize.ShloMosaic.Lib.Pipeline.ValueKit

/-! The values that the mixer's epilogue computes at a grid point, read at a row and a column. -/

set_option maxRecDepth 16384

@[expose] public noncomputable section

namespace Cert.PostIdeal.Val

open Idealize Idealize.ShloMosaic Idealize.SL.Sem Cert.PostIdeal Cert.PostIdeal.Gen Cert.Post

/-- The named constant is one over the square root of a head's width. -/
theorem scale_eq : (Named.named κ "scale" 0x3DB504F3#32 : Ideal .f32) = scale := IdealRules.named_const.ideal_named_scalar _ _ _ _ rfl

/-- The word of −∞ is `⊥`. -/
theorem bits_bot : Ideal.ofBits .f32 4286578688#32 = ⊥ := by simp [Ideal.ofBits, Ideal.ieee]

/-- The word of zero is zero. -/
theorem bits_zero : Ideal.ofBits .f32 0#32 = 0 := by simp [Ideal.ofBits, Ideal.ieee]

/-- One head's attention over a block's memory. -/
def head (q : FVec Ideal S1024x128 .bf16) (k v : FVec Ideal S256x128 .bf16) : FVec Ideal S1024x128 .bf16 :=
  let s : FVec Ideal S1024x256 .f32 := mulf (matmul dot_S1024x128_S256x128_S1024x256_1_1_0_0_n_n none q k (constant S1024x256 .f32 0x00000000#32))
    (broadcast S1024x256 (Named.named κ "scale" 0x3DB504F3#32))
  let e : FVec Ideal S1024x256 .f32 := exp (subf s (broadcastTo S1024x256 (shapeCast S1024x1 (multiReduction .maximumf [1] S1024 s 0xFF800000#32
    reduces_S1024x256_S1024 (.inl rfl) rfl) shapeCasts_S1024_S1024x1) broadcasts_S1024x1_S1024x256))
  truncf .bf16 (divf (matmul dot_S1024x256_S256x128_S1024x128_1_0_0_1_n_n none (truncf .bf16 e bitsLt_bf16_f32 : FVec Ideal S1024x256 .bf16) v (constant S1024x128 .f32 0x00000000#32))
    (broadcastTo S1024x128 (shapeCast S1024x1 (multiReduction .add [1] S1024 e 0x00000000#32 reduces_S1024x256_S1024 (.inl rfl) rfl) shapeCasts_S1024_S1024x1)
      broadcasts_S1024x1_S1024x128)) bitsLt_bf16_f32

/-- A head's attention at a row and a feature. -/
theorem head_at (q : FVec Ideal S1024x128 .bf16) (k v : FVec Ideal S256x128 .bf16) (r : Fin 1024) (d : Fin 128) (s w : ℕ → EReal)
    (hs : ∀ t : Fin 256, (∑ d : Fin 128, q (ix2 r d) * k (ix2 t d)) * scale = s t.val) (hw : ∀ t : Fin 256, v (ix2 t d) = w t.val) :
    head q k v (ix2 r d) = mixed s w := by
  pointwise [head, scale_eq, bits_bot, hs, hw]
  rfl

/-- The rows plus the two halves of the mixer's outputs times their weights. -/
theorem pay3_at (h : FVec Ideal S1024x1024 .f32) (a b : FVec Ideal S1024x512 .bf16) (wa wb : FVec Ideal S512x1024 .bf16) (r j : Fin 1024) :
    k0_pay3 h a wa b wb (ix2 r j) = h (ix2 r j) + (∑ k : Fin 512, a (ix2 r k) * wa (ix2 k j)) + ∑ k : Fin 512, b (ix2 r k) * wb (ix2 k j) := by
  pointwise [k0_pay3]

/-- The normalisation of a block's rows. -/
theorem pay1_at (x : FVec Ideal S1024x1024 .f32) (g : FVec Ideal S1x1024 .f32) (r j : Fin 1024) (X G : ℕ → EReal)
    (hx : ∀ j, x (ix2 r j) = X j.val) (hg : ∀ j, g (ix2 0 j) = G j.val) : k0_pay1 x g (ix2 r j) = rms X G j.val := by
  pointwise [k0_pay1, hx, hg]
  rfl

/-- The queries of a block's rows: normalised and projected. -/
def queries (x : FVec Ideal S1024x1024 .f32) (g : FVec Ideal S1x1024 .f32) (wq : FVec Ideal S1024x512 .bf16) : FVec Ideal S1024x512 .bf16 :=
  truncf .bf16 (matmul dot_S1024x1024_S1024x512_S1024x512_1_0_0_1_n_n none (k0_pay1 x (k0_pay13 g)) (shapeCast S1024x512 wq shapeCasts_S1024x512_S1024x512)
    (constant S1024x512 .f32 0x00000000#32)) bitsLt_bf16_f32

/-- The queries at a row and a feature. -/
theorem queries_at (x : FVec Ideal S1024x1024 .f32) (g : FVec Ideal S1x1024 .f32) (wq : FVec Ideal S1024x512 .bf16) (r : Fin 1024) (j : Fin 512)
    (X G : ℕ → EReal) (WQ : ℕ → ℕ → EReal)
    (hx : ∀ j, x (ix2 r j) = X j.val) (hg : ∀ j, g (ix2 0 j) = G j.val) (hw : ∀ i j, wq (ix2 i j) = WQ i.val j.val) :
    queries x g wq (ix2 r j) = dot 1024 (rms X G) WQ j.val := by
  have hp : ∀ j, k0_pay1 x (k0_pay13 g) (ix2 r j) = rms X G j.val := fun j =>
    pay1_at x (k0_pay13 g) r j X G hx fun j => by pointwise [k0_pay13, hg]
  pointwise [queries, hp, hw]
  rfl

/-- A tile of the feed-forward part added to the rows. -/
theorem pay2_at (hn wu wd : FVec Ideal S1024x1024 .bf16) (y : FVec Ideal S1024x1024 .f32) (r j : Fin 1024) :
    k0_pay2 hn wu y wd (ix2 r j) = y (ix2 r j) + ∑ f : Fin 1024, relu2 (∑ k : Fin 1024, hn (ix2 r k) * wu (ix2 k f)) * wd (ix2 f j) := by
  pointwise [k0_pay2, bits_zero]
  rfl

/-- Four heads side by side. -/
def cat4 (a b c d : FVec Ideal S1024x128 .bf16) : FVec Ideal S1024x512 .bf16 :=
  concatenate S1024x512 1 [⟨S1024x128, a⟩, ⟨S1024x128, b⟩, ⟨S1024x128, c⟩, ⟨S1024x128, d⟩] concatenates_S1024x128_S1024x128_S1024x128_S1024x128_S1024x512_d1

/-- The heads side by side at a row and a feature. -/
theorem cat4_at (a b c d : FVec Ideal S1024x128 .bf16) (r : Fin 1024) (j : Fin 512) (F : ℕ → EReal)
    (ha : ∀ l, a (ix2 r l) = F l.val) (hb : ∀ l, b (ix2 r l) = F (128 + l.val)) (hc : ∀ l, c (ix2 r l) = F (256 + l.val)) (hd : ∀ l, d (ix2 r l) = F (384 + l.val)) :
    cat4 a b c d (ix2 r j) = F j.val := by
  pointwise [cat4, ha, hb, hc, hd]
  split_ifs <;> congr 1 <;> omega

/-- A head's features of the queries. -/
def sl (o : ℕ) (h : S1024x512.Slices ![0, o] S1024x128) (q : FVec Ideal S1024x512 .bf16) : FVec Ideal S1024x128 .bf16 := extractStridedSlice S1024x128 ![0, o] q h

/-- The memory's features from an offset on. -/
def raw (o : ℕ) (h : ∀ a, (![0, o] : Fin 2 → Nat) a + S256x128.size a ≤ S256x1024.size a) (kv : FVec Ideal S256x1024 .bf16) : FVec Ideal S256x128 .bf16 :=
  View.ld (Val := Elt Ideal) (e' := .bf16) kv (Rect.unit (s := S256x1024) ![0, o] ![256, 128] h)

/-- A head's features of the memory's keys or values. -/
def ld (o : ℕ) (h : ∀ a, (![0, o] : Fin 2 → Nat) a + S256x128.size a ≤ S256x1024.size a) (kv : FVec Ideal S256x1024 .bf16) : FVec Ideal S256x128 .bf16 :=
  shapeCast S256x128 (raw o h kv) shapeCasts_S256x128_S256x128

/-- The attention over the memory added to a block's rows. -/
def crossed (x : FVec Ideal S1024x1024 .f32) (q : FVec Ideal S1024x512 .bf16) (kv : FVec Ideal S256x1024 .bf16) (wo : FVec Ideal S512x1024 .bf16) : FVec Ideal S1024x1024 .f32 :=
  addf x (matmul dot_S1024x512_S512x1024_S1024x1024_1_0_0_1_n_n none
    (cat4 (head (sl 0 slices_S1024x512_o0_0_S1024x128 q) (ld 0 inb_S256x1024_S256x128_0_0 kv) (ld 512 inb_S256x1024_S256x128_0_512 kv))
      (head (sl 128 slices_S1024x512_o0_128_S1024x128 q) (ld 128 inb_S256x1024_S256x128_0_128 kv) (ld 640 inb_S256x1024_S256x128_0_640 kv))
      (head (sl 256 slices_S1024x512_o0_256_S1024x128 q) (ld 256 inb_S256x1024_S256x128_0_256 kv) (ld 768 inb_S256x1024_S256x128_0_768 kv))
      (head (sl 384 slices_S1024x512_o0_384_S1024x128 q) (ld 384 inb_S256x1024_S256x128_0_384 kv) (ld 896 inb_S256x1024_S256x128_0_896 kv)))
    (shapeCast S512x1024 wo shapeCasts_S512x1024_S512x1024) (constant S1024x1024 .f32 0x00000000#32))

/-- The queries' slice at a row and a feature. -/
theorem sl_at (o : ℕ) (h : S1024x512.Slices ![0, o] S1024x128) (q : FVec Ideal S1024x512 .bf16) (r : Fin 1024) (d : Fin 128) (Q : ℕ → EReal)
    (hq : ∀ j, q (ix2 r j) = Q j.val) : sl o h q (ix2 r d) = Q (o + d.val) := by
  pointwise [sl, hq]

/-- The memory's slice at a position and a feature. -/
theorem ld_at (o : ℕ) (h : ∀ a, (![0, o] : Fin 2 → Nat) a + S256x128.size a ≤ S256x1024.size a) (kv : FVec Ideal S256x1024 .bf16) (t : Fin 256) (d : Fin 128) (KV : ℕ → ℕ → EReal)
    (hk : ∀ t j, kv (ix2 t j) = KV t.val j.val) : ld o h kv (ix2 t d) = KV t.val (o + d.val) := by
  pointwise [ld, raw, hk]

/-- A head of the attention over the memory, from the queries and the memory. -/
theorem headOf_at (n o o' : ℕ) (ho : o = 128 * n) (ho' : o' = 512 + o) (h : S1024x512.Slices ![0, o] S1024x128) (h1 : ∀ a, (![0, o] : Fin 2 → Nat) a + S256x128.size a ≤ S256x1024.size a)
    (h2 : ∀ a, (![0, o'] : Fin 2 → Nat) a + S256x128.size a ≤ S256x1024.size a) (q : FVec Ideal S1024x512 .bf16) (kv : FVec Ideal S256x1024 .bf16) (r : Fin 1024) (d : Fin 128)
    (Q : ℕ → EReal) (KV : ℕ → ℕ → EReal) (hq : ∀ j, q (ix2 r j) = Q j.val) (hk : ∀ t j, kv (ix2 t j) = KV t.val j.val) :
    head (sl o h q) (ld o h1 kv) (ld o' h2 kv) (ix2 r d) = attend Q KV (o + d.val) := by
  have hd := d.isLt
  subst ho ho'
  have e : (128 * n + d.val) / 128 = n := by omega
  unfold attend
  rw [e]
  refine head_at _ _ _ r d _ _ (fun t => ?_) fun t => ?_
  · simp only [sl_at _ h q r _ Q hq, ld_at _ h1 kv t _ KV hk]
    rfl
  · rw [ld_at _ h2 kv t d KV hk, Nat.add_assoc]

/-- The rows after the attention over the memory. -/
theorem crossed_at (x : FVec Ideal S1024x1024 .f32) (q : FVec Ideal S1024x512 .bf16) (kv : FVec Ideal S256x1024 .bf16) (wo : FVec Ideal S512x1024 .bf16)
    (r j : Fin 1024) (Q : ℕ → EReal) (KV WO : ℕ → ℕ → EReal)
    (hq : ∀ j, q (ix2 r j) = Q j.val) (hk : ∀ t j, kv (ix2 t j) = KV t.val j.val) (hw : ∀ i j, wo (ix2 i j) = WO i.val j.val) :
    crossed x q kv wo (ix2 r j) = x (ix2 r j) + dot 512 (attend Q KV) WO j.val := by
  have hc := fun k => cat4_at _ _ _ _ r k (attend Q KV)
    (fun d => (headOf_at 0 0 512 rfl rfl slices_S1024x512_o0_0_S1024x128 inb_S256x1024_S256x128_0_0 inb_S256x1024_S256x128_0_512 q kv r d Q KV hq hk).trans (by rw [Nat.zero_add]))
    (fun d => headOf_at 1 128 640 rfl rfl slices_S1024x512_o0_128_S1024x128 inb_S256x1024_S256x128_0_128 inb_S256x1024_S256x128_0_640 q kv r d Q KV hq hk)
    (fun d => headOf_at 2 256 768 rfl rfl slices_S1024x512_o0_256_S1024x128 inb_S256x1024_S256x128_0_256 inb_S256x1024_S256x128_0_768 q kv r d Q KV hq hk)
    (fun d => headOf_at 3 384 896 rfl rfl slices_S1024x512_o0_384_S1024x128 inb_S256x1024_S256x128_0_384 inb_S256x1024_S256x128_0_896 q kv r d Q KV hq hk)
  pointwise [crossed, hc, hw]
  rfl

/-- What the first point of a row tile computes from its mixed rows, in the program's own pieces. -/
theorem pay12_eq (x : FVec Ideal S1024x1024 .f32) (q : FVec Ideal S1024x512 .bf16) (kv : FVec Ideal S256x1024 .bf16) (wo : FVec Ideal S512x1024 .bf16) :
    k0_pay12 x q
      (k0_pay7 (extractStridedSlice S1024x128 ![0, 0] q slices_S1024x512_o0_0_S1024x128) (k0_pay6 (raw 0 inb_S256x1024_S256x128_0_0 kv))
        (raw 512 inb_S256x1024_S256x128_0_512 kv))
      (k0_pay8 q (raw 128 inb_S256x1024_S256x128_0_128 kv) (raw 640 inb_S256x1024_S256x128_0_640 kv))
      (k0_pay9 q) (k0_pay10 (raw 256 inb_S256x1024_S256x128_0_256 kv))
      (k0_pay11 (raw 768 inb_S256x1024_S256x128_0_768 kv)) (constant S1024x256 .f32 0x00000000#32)
      (raw 384 inb_S256x1024_S256x128_0_384 kv) (raw 896 inb_S256x1024_S256x128_0_896 kv) wo
      = crossed x q kv wo := rfl

/-- The queries, in the program's own pieces. -/
theorem pay4_eq (h : FVec Ideal S1024x1024 .f32) (a b : FVec Ideal S1024x512 .bf16) (wa wb : FVec Ideal S512x1024 .bf16)
    (g : FVec Ideal S1x1024 .f32) (wq : FVec Ideal S1024x512 .bf16) : k0_pay4 h a wa b wb g wq = queries (k0_pay3 h a wa b wb) g wq := by
  funext i
  pointwise [k0_pay4, queries, k0_pay1, k0_pay13]

/-- The rows after the attention over the memory, from the rows before it. -/
theorem rows_at (x : FVec Ideal S1024x1024 .f32) (g : FVec Ideal S1x1024 .f32) (wq : FVec Ideal S1024x512 .bf16) (kv : FVec Ideal S256x1024 .bf16) (wo : FVec Ideal S512x1024 .bf16)
    (r j : Fin 1024) (X G : ℕ → EReal) (WQ KV WO : ℕ → ℕ → EReal) (hx : ∀ j, x (ix2 r j) = X j.val) (hg : ∀ j, g (ix2 0 j) = G j.val) (hq : ∀ i j, wq (ix2 i j) = WQ i.val j.val)
    (hk : ∀ t j, kv (ix2 t j) = KV t.val j.val) (hw : ∀ i j, wo (ix2 i j) = WO i.val j.val) :
    crossed x (queries x g wq) kv wo (ix2 r j) = cross X G WQ KV WO j.val := by
  rw [crossed_at x _ kv wo r j _ KV WO (fun k => queries_at x g wq r k X G WQ hx hg hq) hk hw, hx]
  rfl

/-- What a grid point leaves, from what it found. -/
theorem tile_step (hn wu wd : FVec Ideal S1024x1024 .bf16) (y : FVec Ideal S1024x1024 .f32) (r j : Fin 1024) (f : ℕ) (Y HN : ℕ → EReal) (WU WD : ℕ → ℕ → EReal)
    (hh : ∀ k, hn (ix2 r k) = HN k.val) (hu : ∀ k f', wu (ix2 k f') = WU k.val (1024 * f + f'.val)) (hd : ∀ f' j, wd (ix2 f' j) = WD (1024 * f + f'.val) j.val)
    (hy : y (ix2 r j) = Y j.val + hidden (1024 * f) HN WU WD j.val) :
    k0_pay2 (F := Ideal) hn wu y wd (ix2 r j) = Y j.val + hidden (1024 * (f + 1)) HN WU WD j.val := by
  rw [pay2_at, hy, show 1024 * (f + 1) = 1024 * f + 1024 by omega, hidden_add, add_assoc]
  simp only [hh, hu, hd]
  rfl

/-- WHAT THE GRID POINTS LEAVE in general: a row tile's first point normalises its rows, and every point of the first `K` adds its hidden tile. -/
theorem grid_left (N K : ℕ) (kept : ∀ n, n < N → FVec Ideal S1024x1024 .bf16) (out : ∀ n, n < N → FVec Ideal S1024x1024 .f32) (wu wd : ∀ n, n < N → FVec Ideal S1024x1024 .bf16)
    (row : ℕ → ℕ → ℕ → EReal) (GM : ℕ → EReal) (WU WD : ℕ → ℕ → EReal)
    (hu : ∀ n hn (k f : Fin 1024), wu n hn (ix2 k f) = WU k.val (1024 * (n % 4) + f.val)) (hd : ∀ n hn (f j : Fin 1024), wd n hn (ix2 f j) = WD (1024 * (n % 4) + f.val) j.val)
    (first : ∀ n hn, n % 4 = 0 → ∃ (x : FVec Ideal S1024x1024 .f32) (g : FVec Ideal S1x1024 .f32), (∀ r j : Fin 1024, x (ix2 r j) = row (n / 4) r.val j.val) ∧ (∀ j : Fin 1024, g (ix2 0 j) = GM j.val)
      ∧ kept n hn = k0_pay1 x g ∧ out n hn = k0_pay2 (k0_pay1 x g) (wu n hn) x (wd n hn))
    (later : ∀ n hn, ¬ n % 4 = 0 → n % 4 < K → kept n hn = kept (n - 1) (Nat.lt_of_le_of_lt (Nat.sub_le _ _) hn)
      ∧ out n hn = k0_pay2 (kept (n - 1) (Nat.lt_of_le_of_lt (Nat.sub_le _ _) hn)) (wu n hn) (out (n - 1) (Nat.lt_of_le_of_lt (Nat.sub_le _ _) hn)) (wd n hn)) (n : ℕ) :
    ∀ hn : n < N, n % 4 < K → ∀ r j : Fin 1024, kept n hn (ix2 r j) = rms (row (n / 4) r.val) GM j.val
      ∧ out n hn (ix2 r j) = row (n / 4) r.val j.val + hidden (1024 * (n % 4 + 1)) (rms (row (n / 4) r.val) GM) WU WD j.val := by
  induction n using Nat.strong_induction_on with
  | _ n ih =>
    intro hn hK r j
    by_cases h : n % 4 = 0
    · obtain ⟨x, g, hx, hg, ek, eo⟩ := first n hn h
      have hk : ∀ k : Fin 1024, k0_pay1 x g (ix2 r k) = rms (row (n / 4) r.val) GM k.val := fun k => pay1_at _ _ r k _ _ (hx r) hg
      refine ⟨(congrFun ek _).trans (hk j), (congrFun eo _).trans ?_⟩
      exact tile_step _ _ _ _ r j (n % 4) _ _ _ _ hk (hu n hn) (hd n hn) (by
        rw [h, hx]
        simp [Post.hidden])
    · have e1 : (n - 1) / 4 = n / 4 := by omega
      have e2 : (n - 1) % 4 + 1 = n % 4 := by omega
      have p := ih (n - 1) (by omega) (by omega) (by omega) r
      rw [e1, e2] at p
      refine ⟨(congrFun (later n hn h hK).1 _).trans (p j).1, (congrFun (later n hn h hK).2 _).trans ?_⟩
      exact tile_step _ _ _ _ r j (n % 4) _ _ _ _ (fun k => (p k).1) (hu n hn) (hd n hn) (p j).2

end Cert.PostIdeal.Val

end
-- ==== Proof.PostPoint.lean ====
module

public import proofs.«01_k».proof.Proof.PostOps
public import proofs.«01_k».proof.Proof.Gen.PostIdeal.Value
public import Idealize.ShloMosaic.Lib.Pointwise
public import Idealize.ShloMosaic.Lib.Pipeline.ValueKit
public import Idealize.ShloMosaic.Lib.Pipeline.ReadBack

/-! The even layers' part after the mixer: the blocks it reads as entries of its arguments, what its grid points leave, and the array they fill. -/

set_option maxRecDepth 16384

@[expose] public noncomputable section

namespace Cert.PostIdeal.Val

open Idealize Idealize.ShloMosaic Idealize.ShloMosaic.TcCoe Idealize.SL.Sem Cert.PostIdeal Cert.PostIdeal.Gen Cert.Post

/-- Where each window's block lies at a grid point, the row tile being the point's quotient by four and the hidden tile its remainder. -/
theorem where_blk : ∀ t : Fin grid0.N, win0_0.index t = ![t.val / 4, 0] ∧ win0_1.index t = ![t.val / 4, 0]
    ∧ win0_2.index t = ![0, 0] ∧ win0_3.index t = ![0, 0] ∧ win0_4.index t = ![t.val / 4, 0]
    ∧ win0_5.index t = ![0, 0] ∧ win0_6.index t = ![0, 0] ∧ win0_7.index t = ![t.val / 4 / 2, 0] ∧ win0_8.index t = ![0, 0]
    ∧ win0_9.index t = ![0, 0] ∧ win0_10.index t = ![0, t.val % 4] ∧ win0_11.index t = ![t.val % 4, 0] ∧ win0_13.index t = ![t.val / 4, 0] := by decide +kernel

variable (m : (ℓ : Loc nD τ sig) → Buf (Elt Ideal) ℓ) (c : Dev nD)

/-! The arguments as tables. -/

def aH : ℕ → ℕ → EReal := tab2 (M := 65536) (N := 1024) (m ((c : Thread nD τ).loc main_arg0))
def aA : ℕ → ℕ → EReal := tab2 (M := 65536) (N := 512) (m ((c : Thread nD τ).loc main_arg1))
def aB : ℕ → ℕ → EReal := tab2 (M := 65536) (N := 512) (m ((c : Thread nD τ).loc main_arg2))
def aW : ℕ → ℕ → EReal := tab2 (M := 1024) (N := 1024) (m ((c : Thread nD τ).loc main_arg3))
def aGX : ℕ → EReal := tab1 (M := 1024) (m ((c : Thread nD τ).loc main_arg4))
def aWQ : ℕ → ℕ → EReal := tab2 (M := 1024) (N := 512) (m ((c : Thread nD τ).loc main_arg5))
def aKV : ℕ → ℕ → EReal := tab2 (M := 8192) (N := 1024) (m ((c : Thread nD τ).loc main_arg6))
def aWO : ℕ → ℕ → EReal := tab2 (M := 512) (N := 1024) (m ((c : Thread nD τ).loc main_arg7))
def aGM : ℕ → EReal := tab1 (M := 1024) (m ((c : Thread nD τ).loc main_arg8))
def aWU : ℕ → ℕ → EReal := tab2 (M := 1024) (N := 4096) (m ((c : Thread nD τ).loc main_arg9))
def aWD : ℕ → ℕ → EReal := tab2 (M := 4096) (N := 1024) (m ((c : Thread nD τ).loc main_arg10))

/-! The arrays the call gets, from the arguments. -/

theorem V_A (i : Fin 65536) (k : Fin 512) : V m c main_v1 (ix2 i k) = aA m c i.val k.val := by
  simp only [V, hostOps0, List.flatten_cons, List.flatten_nil, List.append_nil, List.cons_append, List.nil_append]
  after_results
  exact tab2_at _ i k

theorem V_B (i : Fin 65536) (k : Fin 512) : V m c main_v2 (ix2 i k) = aB m c i.val k.val := by
  simp only [V, hostOps0, List.flatten_cons, List.flatten_nil, List.append_nil, List.cons_append, List.nil_append]
  after_results
  exact tab2_at _ i k

theorem V_WQ (i : Fin 1024) (k : Fin 512) : V m c main_v5 (ix2 i k) = aWQ m c i.val k.val := by
  simp only [V, hostOps0, List.flatten_cons, List.flatten_nil, List.append_nil, List.cons_append, List.nil_append]
  after_results
  exact tab2_at _ i k

theorem V_KV (i : Fin 8192) (k : Fin 1024) : V m c main_v6 (ix2 i k) = aKV m c i.val k.val := by
  simp only [V, hostOps0, List.flatten_cons, List.flatten_nil, List.append_nil, List.cons_append, List.nil_append]
  after_results
  exact tab2_at _ i k

theorem V_WO (i : Fin 512) (k : Fin 1024) : V m c main_v7 (ix2 i k) = aWO m c i.val k.val := by
  simp only [V, hostOps0, List.flatten_cons, List.flatten_nil, List.append_nil, List.cons_append, List.nil_append]
  after_results
  exact tab2_at _ i k

theorem V_WU (i : Fin 1024) (k : Fin 4096) : V m c main_v8 (ix2 i k) = aWU m c i.val k.val := by
  simp only [V, hostOps0, List.flatten_cons, List.flatten_nil, List.append_nil, List.cons_append, List.nil_append]
  after_results
  exact tab2_at _ i k

theorem V_WD (i : Fin 4096) (k : Fin 1024) : V m c main_v9 (ix2 i k) = aWD m c i.val k.val := by
  simp only [V, hostOps0, List.flatten_cons, List.flatten_nil, List.append_nil, List.cons_append, List.nil_append]
  after_results
  exact tab2_at _ i k

theorem V_GX (k : Fin 1024) : V m c main_v10 (ix2 (0 : Fin 1) k) = aGX m c k.val := by
  simp only [V, hostOps0, List.flatten_cons, List.flatten_nil, List.append_nil, List.cons_append, List.nil_append]
  after_results
  pointwise []
  exact tab1_at _ k

theorem V_GM (k : Fin 1024) : V m c main_v11 (ix2 (0 : Fin 1) k) = aGM m c k.val := by
  simp only [V, hostOps0, List.flatten_cons, List.flatten_nil, List.append_nil, List.cons_append, List.nil_append]
  after_results
  pointwise []
  exact tab1_at _ k

theorem V_v3 (i : Fin 512) (k : Fin 1024) : V m c main_v3 (ix2 i k) = aW m c (0 + i.val) k.val := by
  simp only [V, hostOps0, List.flatten_cons, List.flatten_nil, List.append_nil, List.cons_append, List.nil_append]
  after_results
  pointwise []
  exact tab2_at _ _ _

theorem V_v4 (i : Fin 512) (k : Fin 1024) : V m c main_v4 (ix2 i k) = aW m c (512 + i.val) k.val := by
  simp only [V, hostOps0, List.flatten_cons, List.flatten_nil, List.append_nil, List.cons_append, List.nil_append]
  after_results
  pointwise []
  exact tab2_at _ _ _

variable (t : Fin cfg0.N)

/-! The blocks a grid point reads, from the arguments. -/

theorem blk0_at (i : Fin 1024) (k : Fin 512) : (iblk m c 0 t : Vec Ideal S1024x512 .bf16) (ix2 i k) = aA m c (1024 * (t.val / 4) + i.val) k.val := by
  have ht : t.val < 256 := t.isLt
  have e : (iblk m c 0 t : Vec Ideal S1024x512 .bf16) (ix2 i k) = V m c main_v1 (ix2 ⟨1024 * (t.val / 4) + i.val, by omega⟩ k) := by blk_ext [iblk, (where_blk t).1]
  rw [e, V_A]

theorem blk1_at (i : Fin 1024) (k : Fin 512) : (iblk m c 1 t : Vec Ideal S1024x512 .bf16) (ix2 i k) = aB m c (1024 * (t.val / 4) + i.val) k.val := by
  have ht : t.val < 256 := t.isLt
  have e : (iblk m c 1 t : Vec Ideal S1024x512 .bf16) (ix2 i k) = V m c main_v2 (ix2 ⟨1024 * (t.val / 4) + i.val, by omega⟩ k) := by blk_ext [iblk, (where_blk t).2.1]
  rw [e, V_B]

theorem blk2_at (i : Fin 512) (k : Fin 1024) : (iblk m c 2 t : Vec Ideal S512x1024 .bf16) (ix2 i k) = aW m c (0 + i.val) k.val := by
  have ht : t.val < 256 := t.isLt
  have e : (iblk m c 2 t : Vec Ideal S512x1024 .bf16) (ix2 i k) = V m c main_v3 (ix2 i k) := by blk_ext [iblk, (where_blk t).2.2.1]
  rw [e, V_v3]

theorem blk3_at (i : Fin 512) (k : Fin 1024) : (iblk m c 3 t : Vec Ideal S512x1024 .bf16) (ix2 i k) = aW m c (512 + i.val) k.val := by
  have ht : t.val < 256 := t.isLt
  have e : (iblk m c 3 t : Vec Ideal S512x1024 .bf16) (ix2 i k) = V m c main_v4 (ix2 i k) := by blk_ext [iblk, (where_blk t).2.2.2.1]
  rw [e, V_v4]

theorem blk4_at (i : Fin 1024) (k : Fin 1024) : (iblk m c 4 t : Vec Ideal S1024x1024 .f32) (ix2 i k) = aH m c (1024 * (t.val / 4) + i.val) k.val := by
  have ht : t.val < 256 := t.isLt
  have e : (iblk m c 4 t : Vec Ideal S1024x1024 .f32) (ix2 i k) = V m c main_arg0 (ix2 ⟨1024 * (t.val / 4) + i.val, by omega⟩ k) := by blk_ext [iblk, (where_blk t).2.2.2.2.1]
  rw [e, V_main_arg0]
  exact tab2_at _ _ _

theorem blk5_at (k : Fin 1024) : (iblk m c 5 t : Vec Ideal S1x1024 .f32) (ix2 (0 : Fin 1) k) = aGX m c k.val := by
  have e : (iblk m c 5 t : Vec Ideal S1x1024 .f32) (ix2 (0 : Fin 1) k) = V m c main_v10 (ix2 (0 : Fin 1) k) := by blk_ext [iblk, (where_blk t).2.2.2.2.2.1]
  rw [e, V_GX]

theorem blk9_at (k : Fin 1024) : (iblk m c 9 t : Vec Ideal S1x1024 .f32) (ix2 (0 : Fin 1) k) = aGM m c k.val := by
  have e : (iblk m c 9 t : Vec Ideal S1x1024 .f32) (ix2 (0 : Fin 1) k) = V m c main_v11 (ix2 (0 : Fin 1) k) := by blk_ext [iblk, (where_blk t).2.2.2.2.2.2.2.2.2.1]
  rw [e, V_GM]

theorem blk6_at (i : Fin 1024) (k : Fin 512) : (iblk m c 6 t : Vec Ideal S1024x512 .bf16) (ix2 i k) = aWQ m c i.val k.val := by
  have ht : t.val < 256 := t.isLt
  have e : (iblk m c 6 t : Vec Ideal S1024x512 .bf16) (ix2 i k) = V m c main_v5 (ix2 i k) := by blk_ext [iblk, (where_blk t).2.2.2.2.2.2.1]
  rw [e, V_WQ]

theorem blk7_at (i : Fin 256) (k : Fin 1024) : (iblk m c 7 t : Vec Ideal S256x1024 .bf16) (ix2 i k) = aKV m c (256 * (t.val / 4 / 2) + i.val) k.val := by
  have ht : t.val < 256 := t.isLt
  have e : (iblk m c 7 t : Vec Ideal S256x1024 .bf16) (ix2 i k) = V m c main_v6 (ix2 ⟨256 * (t.val / 4 / 2) + i.val, by omega⟩ k) := by blk_ext [iblk, (where_blk t).2.2.2.2.2.2.2.1]
  rw [e, V_KV]

theorem blk8_at (i : Fin 512) (k : Fin 1024) : (iblk m c 8 t : Vec Ideal S512x1024 .bf16) (ix2 i k) = aWO m c i.val k.val := by
  have ht : t.val < 256 := t.isLt
  have e : (iblk m c 8 t : Vec Ideal S512x1024 .bf16) (ix2 i k) = V m c main_v7 (ix2 i k) := by blk_ext [iblk, (where_blk t).2.2.2.2.2.2.2.2.1]
  rw [e, V_WO]

theorem blk10_at (i : Fin 1024) (k : Fin 1024) : (iblk m c 10 t : Vec Ideal S1024x1024 .bf16) (ix2 i k) = aWU m c i.val (1024 * (t.val % 4) + k.val) := by
  have ht : t.val < 256 := t.isLt
  have e : (iblk m c 10 t : Vec Ideal S1024x1024 .bf16) (ix2 i k) = V m c main_v8 (ix2 i ⟨1024 * (t.val % 4) + k.val, by omega⟩) := by blk_ext [iblk, (where_blk t).2.2.2.2.2.2.2.2.2.2.1]
  rw [e, V_WU]

theorem blk11_at (i : Fin 1024) (k : Fin 1024) : (iblk m c 11 t : Vec Ideal S1024x1024 .bf16) (ix2 i k) = aWD m c (1024 * (t.val % 4) + i.val) k.val := by
  have ht : t.val < 256 := t.isLt
  have e : (iblk m c 11 t : Vec Ideal S1024x1024 .bf16) (ix2 i k) = V m c main_v9 (ix2 ⟨1024 * (t.val % 4) + i.val, by omega⟩ k) := by blk_ext [iblk, (where_blk t).2.2.2.2.2.2.2.2.2.2.2.1]
  rw [e, V_WD]

/-- The rows of a row tile before the feed-forward part. -/
def rowY (b r j : ℕ) : EReal :=
  cross (mix2 (aH m c) (aA m c) (aB m c) (aW m c) (1024 * b + r)) (aGX m c) (aWQ m c) (fun t => aKV m c (256 * (b / 2) + t)) (aWO m c) j

/-- What a row tile's first point computes before the feed-forward part. -/
def tokens : FVec Ideal S1024x1024 .f32 :=
  crossed (k0_pay3 (iblk m c 4 t) (iblk m c 0 t) (iblk m c 2 t) (iblk m c 1 t) (iblk m c 3 t))
    (queries (k0_pay3 (iblk m c 4 t) (iblk m c 0 t) (iblk m c 2 t) (iblk m c 1 t) (iblk m c 3 t)) (iblk m c 5 t) (iblk m c 6 t)) (iblk m c 7 t) (iblk m c 8 t)

theorem tokens_at (r j : Fin 1024) : tokens m c t (ix2 r j) = rowY m c (t.val / 4) r.val j.val := by
  have hx : ∀ j : Fin 1024, k0_pay3 (F := Ideal) (iblk m c 4 t) (iblk m c 0 t) (iblk m c 2 t) (iblk m c 1 t) (iblk m c 3 t) (ix2 r j)
      = mix2 (aH m c) (aA m c) (aB m c) (aW m c) (1024 * (t.val / 4) + r.val) j.val := fun j => by
    rw [pay3_at]
    simp only [blk0_at, blk1_at, blk2_at, blk3_at, blk4_at, Nat.zero_add]
    rfl
  exact rows_at _ _ _ _ _ r j _ _ _ (fun s => aKV m c (256 * (t.val / 4 / 2) + s)) _ hx (blk5_at m c t) (blk6_at m c t) (blk7_at m c t) (blk8_at m c t)

/-- The tokens, in the program's own pieces. -/
theorem tokens_eq : k0_pay12 (k0_pay3 (iblk m c 4 t) (iblk m c 0 t) (iblk m c 2 t) (iblk m c 1 t) (iblk m c 3 t)) (k0_pay4 (iblk m c 4 t) (iblk m c 0 t) (iblk m c 2 t) (iblk m c 1 t) (iblk m c 3 t) (iblk m c 5 t) (iblk m c 6 t))
      (k0_pay7 (k0_pay5 (iblk m c 4 t) (iblk m c 0 t) (iblk m c 2 t) (iblk m c 1 t) (iblk m c 3 t) (iblk m c 5 t) (iblk m c 6 t)) (k0_pay6 (raw 0 inb_S256x1024_S256x128_0_0 (iblk m c 7 t)))
        (raw 512 inb_S256x1024_S256x128_0_512 (iblk m c 7 t)))
      (k0_pay8 (k0_pay4 (iblk m c 4 t) (iblk m c 0 t) (iblk m c 2 t) (iblk m c 1 t) (iblk m c 3 t) (iblk m c 5 t) (iblk m c 6 t)) (raw 128 inb_S256x1024_S256x128_0_128 (iblk m c 7 t)) (raw 640 inb_S256x1024_S256x128_0_640 (iblk m c 7 t)))
      (k0_pay9 (k0_pay4 (iblk m c 4 t) (iblk m c 0 t) (iblk m c 2 t) (iblk m c 1 t) (iblk m c 3 t) (iblk m c 5 t) (iblk m c 6 t))) (k0_pay10 (raw 256 inb_S256x1024_S256x128_0_256 (iblk m c 7 t)))
      (k0_pay11 (raw 768 inb_S256x1024_S256x128_0_768 (iblk m c 7 t))) (constant S1024x256 .f32 0x00000000#32)
      (raw 384 inb_S256x1024_S256x128_0_384 (iblk m c 7 t)) (raw 896 inb_S256x1024_S256x128_0_896 (iblk m c 7 t)) (iblk m c 8 t) = tokens m c t := by
  have e := pay4_eq (iblk m c 4 t) (iblk m c 0 t) (iblk m c 1 t) (iblk m c 2 t) (iblk m c 3 t) (iblk m c 5 t) (iblk m c 6 t)
  unfold k0_pay5
  dsimp only
  rw [e]
  exact pay12_eq _ _ _ _

theorem first_out (h : t.val % 4 = 0) : (outsAt0 m c t.val t.isLt).1
    = k0_pay2 (k0_pay1 (tokens m c t) (k0_pay13 (iblk m c 9 t))) (iblk m c 10 t) (tokens m c t) (iblk m c 11 t) := by
  rw [outsAt0_A m c t h]
  frame_out
  simp only [← tokens_eq]
  rfl

theorem first_kept (h : t.val % 4 = 0) : (outsAt0 m c t.val t.isLt).2 = k0_pay1 (tokens m c t) (k0_pay13 (iblk m c 9 t)) := by
  rw [outsAt0_A m c t h]
  frame_out
  simp only [← tokens_eq]
  rfl

theorem later_out (h : ¬ t.val % 4 = 0) : (outsAt0 m c t.val t.isLt).1
    = k0_pay2 (outsAt0 m c (t.val - 1) (Nat.lt_of_le_of_lt (Nat.sub_le _ _) t.isLt)).2 (iblk m c 10 t)
      (outsAt0 m c (t.val - 1) (Nat.lt_of_le_of_lt (Nat.sub_le _ _) t.isLt)).1 (iblk m c 11 t) := by
  rw [outsAt0_B m c t h]
  frame_out
  simp only [read_unread_whole]

theorem later_kept (h : ¬ t.val % 4 = 0) : (outsAt0 m c t.val t.isLt).2 = (outsAt0 m c (t.val - 1) (Nat.lt_of_le_of_lt (Nat.sub_le _ _) t.isLt)).2 := by
  rw [outsAt0_B m c t h]
  unfold sout0_B_0
  rfl

/-- WHAT THE GRID POINTS LEAVE: the normalised rows, and the rows with the feed-forward part of the hidden tiles so far. -/
theorem left (n : ℕ) (hn : n < cfg0.N) (r j : Fin 1024) :
    ((outsAt0 m c n hn).2 : FVec Ideal S1024x1024 .bf16) (ix2 r j) = rms (rowY m c (n / 4) r.val) (aGM m c) j.val
    ∧ ((outsAt0 m c n hn).1 : FVec Ideal S1024x1024 .f32) (ix2 r j)
      = rowY m c (n / 4) r.val j.val + hidden (1024 * (n % 4 + 1)) (rms (rowY m c (n / 4) r.val) (aGM m c)) (aWU m c) (aWD m c) j.val :=
  grid_left cfg0.N 4 (fun n hn => (outsAt0 m c n hn).2) (fun n hn => (outsAt0 m c n hn).1) (fun n hn => iblk m c 10 ⟨n, hn⟩) (fun n hn => iblk m c 11 ⟨n, hn⟩)
    (rowY m c) _ _ _ (fun n hn => blk10_at m c ⟨n, hn⟩) (fun n hn => blk11_at m c ⟨n, hn⟩)
    (fun n hn h => ⟨tokens m c ⟨n, hn⟩, k0_pay13 (iblk m c 9 ⟨n, hn⟩), tokens_at m c ⟨n, hn⟩, fun k => by pointwise [k0_pay13, blk9_at], first_kept m c ⟨n, hn⟩ h, first_out m c ⟨n, hn⟩ h⟩)
    (fun n hn h _ => ⟨later_kept m c ⟨n, hn⟩ h, later_out m c ⟨n, hn⟩ h⟩) n hn (Nat.mod_lt _ (by decide)) r j

/-- The layer's part as an array. -/
def layerArr : S65536x1024.Idx → EReal := fun i =>
  layer (mix2 (aH m c) (aA m c) (aB m c) (aW m c)) (aGX m c) (aWQ m c) (aKV m c) (aWO m c) (aGM m c) (aWU m c) (aWD m c) (i 0).val (i 1).val

/-- THE KERNEL'S RESULT is the layer's part after the mixer, of the arguments. -/
theorem result : (dats m 0 c).arrAt 13 cfg0.N = layerArr m c := by
  refine (dats m 0 c).arrAt_eq_of_covers 13 _ (by decide +kernel) fun t hf y => ?_
  have hf := (flush0_13 t).mp hf
  blk_simp
  rw [after0_13]
  obtain ⟨r, j, rfl⟩ : ∃ (r j : Fin 1024), y = ix2 r j := ⟨y 0, y 1, by funext a; match a with | ⟨0, _⟩ => rfl | ⟨1, _⟩ => rfl⟩
  refine (left m c t.val t.isLt r j).2.trans ?_
  have ht : t.val < 256 := t.isLt
  have hr := r.isLt
  rw [hf]
  unfold layerArr layer rowY mlp
  blk_simp [(where_blk t).2.2.2.2.2.2.2.2.2.2.2.2]
  rw [mul_comm (t.val / 4), show (1024 * (t.val / 4) + r.val) / 2048 = t.val / 4 / 2 by omega]

end Cert.PostIdeal.Val

end
-- ==== Proof.PostRef.lean ====
module

public import proofs.«01_k».proof.Proof.PostMath
public import proofs.«01_k».proof.Proof.Gen.PostRefIdeal.Read
public import Idealize.ShloMosaic.Lib.Pointwise
public import Idealize.ShloMosaic.Lib.Pipeline.ValueKit

/-! The reference of a layer's part after the mixer, at an index. -/

set_option maxRecDepth 16384

@[expose] public noncomputable section

namespace Cert.PostRefIdeal.Val

open Idealize Idealize.ShloMosaic Idealize.SL.Sem Cert.PostRefIdeal Cert.PostRefIdeal.Gen Cert.PostRefIdeal.Read Cert.Post

/-- The word of −∞ is `⊥`. -/
theorem bits_bot : Ideal.ofBits .f32 4286578688#32 = ⊥ := by simp [Ideal.ofBits, Ideal.ieee]

/-- The word of zero is zero. -/
theorem bits_zero : Ideal.ofBits .f32 0#32 = 0 := by simp [Ideal.ofBits, Ideal.ieee]

/-- The normalisation of the rows. -/
def rmsR (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf
    (broadcastInDim S65536x1 ![0] bcast_S65536_S65536x1_0 (Host.reduceAdd (mulf x x) (constant S_ .f32 0x00000000#32) reducesTo_S65536x1024_S65536_d1 h_S_))
    (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

theorem rmsR_at (x : FVec Ideal S65536x1024 .f32) (g : FVec Ideal S1024 .f32) (r : Fin 65536) (j : Fin 1024) (X G : ℕ → EReal)
    (hx : ∀ j, x (ix2 r j) = X j.val) (hg : ∀ j, g (ix1 j) = G j.val) : rmsR x g (ix2 r j) = rms X G j.val := by
  pointwise [rmsR, hx, hg, bits_zero]
  rfl

/-- The scores of the queries against the batch's memory. -/
def scoreR (q : FVec Ideal S65536x512 .f32) (kv : FVec Ideal S8192x1024 .f32) : FVec Ideal S32x4x2048x256 .f32 :=
  Host.divf (Host.dotGeneral dot_S32x2048x4x128_S32x256x4x128_S32x4x2048x256_3_3_1_1_02_02 none (shapeCast S32x2048x4x128 q shapeCasts_S65536x512_S32x2048x4x128)
    (shapeCast S32x256x4x128 (extractStridedSlice S8192x512 ![0, 0] kv slices_S8192x1024_S8192x512_0_0) shapeCasts_S8192x512_S32x256x4x128))
    (broadcastInDim S32x4x2048x256 ![] bcast_S_S32x4x2048x256 (Host.sqrt (constant S_ .f32 0x43000000#32)))

/-- Dividing by the square root of a head's width is multiplying by its inverse. -/
theorem div_width (x : EReal) : Ideal.div x (Ideal.sqrt (Ideal.ofBits .f32 1124073472#32)) = x * scale := by
  have e : Ideal.ofBits .f32 1124073472#32 = ((128 : ℝ) : EReal) := by simp [Ideal.ofBits, Ideal.ieee, -EReal.coe_mul]; norm_num
  have h : (0 : ℝ) < Real.sqrt 128 := Real.sqrt_pos.mpr (by norm_num)
  rw [e, Ideal.sqrt_coe, if_neg (by norm_num)]
  unfold Ideal.div scale
  rw [if_neg (by exact_mod_cast h.ne'), EReal.coe_inv]

theorem scoreR_at (q : FVec Ideal S65536x512 .f32) (kv : FVec Ideal S8192x1024 .f32) (b : Fin 32) (h : Fin 4) (s : Fin 2048) (t : Fin 256) (Q : ℕ → EReal) (KV : ℕ → ℕ → EReal)
    (hq : ∀ j, q (ix2 ⟨b.val * 2048 + s.val, by omega⟩ j) = Q j.val) (hk : ∀ t j, kv (ix2 t j) = KV t.val j.val) :
    scoreR q kv (ix4 b h s t) = score Q (fun t => KV (256 * b.val + t)) h.val t.val := by
  pointwise [scoreR, hq, hk]
  rw [div_width]
  unfold score
  simp only [mul_comm b.val, mul_comm h.val]

/-- The largest score of each query. -/
def peakR (s : FVec Ideal S32x4x2048x256 .f32) : FVec Ideal S32x4x2048 .f32 :=
  maximumf (broadcastInDim S32x4x2048 ![] bcast_S_S32x4x2048 (constant S_ .f32 0xFF800000#32))
    (Host.reduce FloatOps.maximumf s (constant S_ .f32 0xFF800000#32) reducesTo_S32x4x2048x256_S32x4x2048_d3 h_S_)

theorem peakR_at (s : FVec Ideal S32x4x2048x256 .f32) (b : Fin 32) (h : Fin 4) (i : Fin 2048) (S : ℕ → EReal) (hs : ∀ t, s (ix4 b h i t) = S t.val) :
    peakR s (ix3 b h i) = peak S := by
  have e : Host.reduce FloatOps.maximumf s (constant S_ .f32 0xFF800000#32) reducesTo_S32x4x2048x256_S32x4x2048_d3 h_S_ (ix3 b h i)
      = Finset.univ.fold max ⊥ fun t : Fin 256 => s (ix4 b h i t) := by
    rw [Host.reduce_eq_fold_single _ _ _ _ (by decide : S32x4x2048x256.Reduces [3] S32x4x2048)]
    have hb : (constant S_ .f32 0xFF800000#32 : FVec Ideal S_ .f32) (Shape.Idx.first h_S_) = ⊥ := bits_bot
    rw [hb]
    refine congrArg (fun f => Finset.fold max ⊥ f (Finset.univ : Finset (Fin 256))) (funext fun t => ?_)
    exact congrArg s (funext fun a => Fin.ext (by match a with | ⟨0, _⟩ => rfl | ⟨1, _⟩ => rfl | ⟨2, _⟩ => rfl | ⟨3, _⟩ => rfl))
  have f : broadcastInDim S32x4x2048 ![] bcast_S_S32x4x2048 (constant S_ .f32 0xFF800000#32 : FVec Ideal S_ .f32) (ix3 b h i) = ⊥ := bits_bot
  have g : ∀ A B : FVec Ideal S32x4x2048 .f32, ∀ j, maximumf A B j = max (A j) (B j) := fun _ _ _ => rfl
  unfold peakR
  rw [g, e, f, max_eq_right bot_le]
  unfold peak
  simp only [hs]

/-- The softmax's exponentials. -/
def expR (s : FVec Ideal S32x4x2048x256 .f32) : FVec Ideal S32x4x2048x256 .f32 :=
  Host.exp (subf s (broadcastInDim S32x4x2048x256 ![0, 1, 2, 3] bcast_S32x4x2048x1_S32x4x2048x256_0_1_2_3
    (broadcastInDim S32x4x2048x1 ![0, 1, 2] bcast_S32x4x2048_S32x4x2048x1_0_1_2 (peakR s))))

theorem expR_at (s : FVec Ideal S32x4x2048x256 .f32) (b : Fin 32) (h : Fin 4) (i : Fin 2048) (t : Fin 256) (S : ℕ → EReal) (hs : ∀ t, s (ix4 b h i t) = S t.val) :
    expR s (ix4 b h i t) = Ideal.exp (S t.val - peak S) := by
  pointwise [expR, peakR_at s b h i S hs, hs]

/-- The attention over the memory: the softmax's weights times the values, the heads side by side. -/
def attR (s : FVec Ideal S32x4x2048x256 .f32) (kv : FVec Ideal S8192x1024 .f32) : FVec Ideal S65536x512 .f32 :=
  shapeCast S65536x512 (transpose S32x2048x4x128 [0, 3, 1, 2] (Host.dotGeneral dot_S32x256x4x128_S32x4x2048x256_S32x4x128x2048_1_3_3_2_02_01 none
    (shapeCast S32x256x4x128 (extractStridedSlice S8192x512 ![0, 512] kv slices_S8192x1024_S8192x512_0_512) shapeCasts_S8192x512_S32x256x4x128)
    (Host.divf (expR s) (broadcastInDim S32x4x2048x256 ![0, 1, 2, 3] bcast_S32x4x2048x1_S32x4x2048x256_0_1_2_3
      (broadcastInDim S32x4x2048x1 ![0, 1, 2] bcast_S32x4x2048_S32x4x2048x1_0_1_2
        (Host.reduceAdd (expR s) (constant S_ .f32 0x00000000#32) reducesTo_S32x4x2048x256_S32x4x2048_d3 h_S_)))))
    transposes_S32x4x128x2048_S32x2048x4x128_0_3_1_2) shapeCasts_S32x2048x4x128_S65536x512

theorem attR_at (s : FVec Ideal S32x4x2048x256 .f32) (kv : FVec Ideal S8192x1024 .f32) (r : Fin 65536) (j : Fin 512) (S : ℕ → EReal) (KV : ℕ → ℕ → EReal)
    (hs : ∀ t, s (ix4 ⟨r.val / 2048, by omega⟩ ⟨j.val / 128, by omega⟩ ⟨r.val % 2048, by omega⟩ t) = S t.val) (hk : ∀ t j, kv (ix2 t j) = KV t.val j.val)
    (rs : ∀ t, t < 256 → IsReal (S t)) (rv : ∀ t j, IsReal (KV t j)) :
    attR s kv (ix2 r j) = mixed S fun t => KV (256 * (r.val / 2048) + t) (512 + j.val) := by
  have he := fun t => expR_at s ⟨r.val / 2048, by omega⟩ ⟨j.val / 128, by omega⟩ ⟨r.val % 2048, by omega⟩ t S hs
  pointwise [attR, he, hk, bits_zero]
  rw [← softmax_mixed S _ rs fun t _ => rv _ _]
  simp only [mul_comm (r.val / 2048)]
  exact Finset.sum_congr rfl fun t _ => mul_comm _ _

/-- The feed-forward part. -/
def mlpR (x : FVec Ideal S65536x1024 .f32) (g : FVec Ideal S1024 .f32) (wu : FVec Ideal S1024x4096 .f32) (wd : FVec Ideal S4096x1024 .f32) : FVec Ideal S65536x1024 .f32 :=
  let u : FVec Ideal S65536x4096 .f32 := maximumf (Host.dotGeneral dot_S65536x1024_S1024x4096_S65536x4096_1_0_0_1_n_n none (rmsR x g) wu)
    (broadcastInDim S65536x4096 ![] bcast_S_S65536x4096 (constant S_ .f32 0x00000000#32))
  addf x (Host.dotGeneral dot_S65536x4096_S4096x1024_S65536x1024_1_0_0_1_n_n none (mulf u u) wd)

theorem mlpR_at (x : FVec Ideal S65536x1024 .f32) (g : FVec Ideal S1024 .f32) (wu : FVec Ideal S1024x4096 .f32) (wd : FVec Ideal S4096x1024 .f32)
    (r : Fin 65536) (j : Fin 1024) (X G : ℕ → EReal) (WU WD : ℕ → ℕ → EReal)
    (hx : ∀ j, x (ix2 r j) = X j.val) (hg : ∀ j, g (ix1 j) = G j.val) (hu : ∀ i j, wu (ix2 i j) = WU i.val j.val) (hd : ∀ i j, wd (ix2 i j) = WD i.val j.val) :
    mlpR x g wu wd (ix2 r j) = mlp X G WU WD j.val := by
  have hr := fun j => rmsR_at x g r j X G hx hg
  pointwise [mlpR, hr, hx, hu, hd, bits_zero]
  rfl

/-- The queries of the rows. -/
def queriesR (x : FVec Ideal S65536x1024 .f32) (gx : FVec Ideal S1024 .f32) (wq : FVec Ideal S1024x512 .f32) : FVec Ideal S65536x512 .f32 :=
  Host.dotGeneral dot_S65536x1024_S1024x512_S65536x512_1_0_0_1_n_n none (rmsR x gx) wq

/-- A layer's part after its mixer. -/
def layerR (x : FVec Ideal S65536x1024 .f32) (gx : FVec Ideal S1024 .f32) (wq : FVec Ideal S1024x512 .f32) (kv : FVec Ideal S8192x1024 .f32) (wo : FVec Ideal S512x1024 .f32)
    (gm : FVec Ideal S1024 .f32) (wu : FVec Ideal S1024x4096 .f32) (wd : FVec Ideal S4096x1024 .f32) : FVec Ideal S65536x1024 .f32 :=
  mlpR (addf x (Host.dotGeneral dot_S65536x512_S512x1024_S65536x1024_1_0_0_1_n_n none
    (attR (scoreR (queriesR x gx wq) kv) kv) wo)) gm wu wd

/-- THE REFERENCE'S part after the mixer, at an index, for reals where the softmax needs them. -/
theorem layerR_at (x : FVec Ideal S65536x1024 .f32) (gx : FVec Ideal S1024 .f32) (wq : FVec Ideal S1024x512 .f32) (kv : FVec Ideal S8192x1024 .f32) (wo : FVec Ideal S512x1024 .f32)
    (gm : FVec Ideal S1024 .f32) (wu : FVec Ideal S1024x4096 .f32) (wd : FVec Ideal S4096x1024 .f32) (r : Fin 65536) (j : Fin 1024)
    (X : ℕ → ℕ → EReal) (GX : ℕ → EReal) (WQ KV WO : ℕ → ℕ → EReal) (GM : ℕ → EReal) (WU WD : ℕ → ℕ → EReal)
    (hx : ∀ r j, x (ix2 r j) = X r.val j.val) (hgx : ∀ j, gx (ix1 j) = GX j.val) (hwq : ∀ i j, wq (ix2 i j) = WQ i.val j.val) (hkv : ∀ i j, kv (ix2 i j) = KV i.val j.val)
    (hwo : ∀ i j, wo (ix2 i j) = WO i.val j.val) (hgm : ∀ j, gm (ix1 j) = GM j.val) (hwu : ∀ i j, wu (ix2 i j) = WU i.val j.val) (hwd : ∀ i j, wd (ix2 i j) = WD i.val j.val)
    (rx : ∀ j, j < 1024 → IsReal (X r.val j)) (rg : ∀ j, IsReal (GX j)) (rq : ∀ i j, IsReal (WQ i j)) (rk : ∀ i j, IsReal (KV i j)) :
    layerR x gx wq kv wo gm wu wd (ix2 r j) = layer X GX WQ KV WO GM WU WD r.val j.val := by
  have hr := fun j => rmsR_at x gx r j (X r.val) GX (hx r) hgx
  have hq : ∀ j : Fin 512, queriesR x gx wq (ix2 r j) = dot 1024 (rms (X r.val) GX) WQ j.val := fun j => by
    pointwise [queriesR, hr, hwq]
    rfl
  have rQ : ∀ j, IsReal (dot 1024 (rms (X r.val) GX) WQ j) := fun j => dot_real (fun k hk => rms_real rx hk (rg k)) fun k _ => rq k j
  have ha : ∀ k : Fin 512, attR (scoreR (queriesR x gx wq) kv) kv (ix2 r k)
      = attend (dot 1024 (rms (X r.val) GX) WQ) (fun t => KV (256 * (r.val / 2048) + t)) k.val := fun k => by
    refine attR_at _ kv r k _ KV (fun t => scoreR_at _ kv _ _ _ t _ KV (fun j => ?_) hkv) hkv (fun t _ => score_real (fun d _ => rQ _) fun d _ => rk _ _) rk
    rw [← hq j]
    congr 1
    congr 1
    exact Fin.ext (by show r.val / 2048 * 2048 + r.val % 2048 = r.val; omega)
  refine mlpR_at _ gm wu wd r j _ GM WU WD (fun j => ?_) hgm hwu hwd
  pointwise [ha, hx, hwo]
  rfl

/-- The rows after the mixer's output projection. -/
theorem mix_at (h : FVec Ideal S65536x1024 .f32) (a b : FVec Ideal S65536x512 .f32) (w : FVec Ideal S1024x1024 .f32) (r : Fin 65536) (j : Fin 1024)
    (H A B W : ℕ → ℕ → EReal) (hh : ∀ i j, h (ix2 i j) = H i.val j.val) (ha : ∀ i j, a (ix2 i j) = A i.val j.val) (hb : ∀ i j, b (ix2 i j) = B i.val j.val)
    (hw : ∀ i j, w (ix2 i j) = W i.val j.val) : val_main_v2 (F := Ideal) h a b w (ix2 r j) = mix2 H A B W r.val j.val := by
  have hc : ∀ k : Fin 1024, val_main_v0 (F := Ideal) a b (ix2 r k) = if k.val < 512 then A r.val k.val else B r.val (k.val - 512) := fun k => by
    pointwise [val_main_v0, ha, hb]
    split_ifs <;> rfl
  pointwise [val_main_v2, val_main_v1, hc, hh, hw]
  unfold mix2
  rw [add_assoc]
  rfl

theorem val_eq (x0 : FVec Ideal S65536x1024 .f32) (x1 x2 : FVec Ideal S65536x512 .f32) (x3 : FVec Ideal S1024x1024 .f32) (x4 : FVec Ideal S1024 .f32) (x5 : FVec Ideal S1024x512 .f32)
    (x6 : FVec Ideal S8192x1024 .f32) (x7 : FVec Ideal S512x1024 .f32) (x8 : FVec Ideal S1024 .f32) (x9 : FVec Ideal S1024x4096 .f32) (x10 : FVec Ideal S4096x1024 .f32) :
    val_main_v59 (F := Ideal) x0 x1 x2 x3 x4 x5 x6 x7 x8 x9 x10 = layerR (val_main_v2 (F := Ideal) x0 x1 x2 x3) x4 x5 x6 x7 x8 x9 x10 := rfl

end Cert.PostRefIdeal.Val

end
-- ==== Proof.LastPoint.lean ====
module

public import proofs.«01_k».proof.Proof.PostOps
public import proofs.«01_k».proof.Proof.Gen.LastIdeal.Value
public import Idealize.ShloMosaic.Lib.Pointwise
public import Idealize.ShloMosaic.Lib.Pipeline.ValueKit
public import Idealize.ShloMosaic.Lib.Pipeline.ReadBack

/-! The last layer's part after the mixer, with the final normalisation: the blocks it reads as entries of its arguments, what its grid points leave, and the array they fill. -/

set_option maxRecDepth 16384

@[expose] public noncomputable section

namespace Cert.LastIdeal.Val

open Idealize Idealize.ShloMosaic Idealize.ShloMosaic.TcCoe Idealize.SL.Sem Cert.LastIdeal Cert.LastIdeal.Gen Cert.Post
open Cert.PostIdeal.Val (crossed queries raw rows_at grid_left tile_step)

/-- Where each window's block lies at a grid point, the row tile being the point's quotient by four and the hidden tile its remainder. -/
theorem where_blk : ∀ t : Fin grid0.N, win0_0.index t = ![t.val / 4, 0] ∧ win0_1.index t = ![0, 0] ∧ win0_2.index t = ![t.val / 4, 0]
    ∧ win0_3.index t = ![0, 0] ∧ win0_4.index t = ![0, 0] ∧ win0_5.index t = ![t.val / 4 / 2, 0] ∧ win0_6.index t = ![0, 0]
    ∧ win0_7.index t = ![0, 0] ∧ win0_8.index t = ![0, t.val % 4] ∧ win0_9.index t = ![t.val % 4, 0] ∧ win0_10.index t = ![0, 0] ∧ win0_11.index t = ![t.val / 4, 0] := by decide +kernel

variable (m : (ℓ : Loc nD τ sig) → Buf (Elt Ideal) ℓ) (c : Dev nD)

/-! The arguments as tables. -/

def aH : ℕ → ℕ → EReal := tab2 (M := 65536) (N := 1024) (m ((c : Thread nD τ).loc main_arg0))
def aY : ℕ → ℕ → EReal := tab2 (M := 65536) (N := 2048) (m ((c : Thread nD τ).loc main_arg1))
def aW : ℕ → ℕ → EReal := tab2 (M := 2048) (N := 1024) (m ((c : Thread nD τ).loc main_arg2))
def aWQ : ℕ → ℕ → EReal := tab2 (M := 1024) (N := 512) (m ((c : Thread nD τ).loc main_arg4))
def aKV : ℕ → ℕ → EReal := tab2 (M := 8192) (N := 1024) (m ((c : Thread nD τ).loc main_arg5))
def aWO : ℕ → ℕ → EReal := tab2 (M := 512) (N := 1024) (m ((c : Thread nD τ).loc main_arg6))
def aWU : ℕ → ℕ → EReal := tab2 (M := 1024) (N := 4096) (m ((c : Thread nD τ).loc main_arg8))
def aWD : ℕ → ℕ → EReal := tab2 (M := 4096) (N := 1024) (m ((c : Thread nD τ).loc main_arg9))
def aGX : ℕ → EReal := tab1 (M := 1024) (m ((c : Thread nD τ).loc main_arg3))
def aGM : ℕ → EReal := tab1 (M := 1024) (m ((c : Thread nD τ).loc main_arg7))
def aGF : ℕ → EReal := tab1 (M := 1024) (m ((c : Thread nD τ).loc main_arg10))

variable (t : Fin cfg0.N)

/-! The blocks a grid point reads, from the arguments. -/

theorem blk0_at (i : Fin 1024) (k : Fin 2048) : (iblk m c 0 t : Vec Ideal S1024x2048 .bf16) (ix2 i k) = aY m c (1024 * (t.val / 4) + i.val) (k.val) := by
  have ht : t.val < 256 := t.isLt
  have e : (iblk m c 0 t : Vec Ideal S1024x2048 .bf16) (ix2 i k) = V m c main_v0 (ix2 ⟨1024 * (t.val / 4) + i.val, by omega⟩ k) := by blk_ext [iblk, (where_blk t).1]
  rw [e]
  simp only [V, hostOps0, List.flatten_cons, List.flatten_nil, List.append_nil, List.cons_append, List.nil_append]
  after_results
  exact tab2_at _ _ _

theorem blk1_at (i : Fin 2048) (k : Fin 1024) : (iblk m c 1 t : Vec Ideal S2048x1024 .bf16) (ix2 i k) = aW m c (i.val) (k.val) := by
  have ht : t.val < 256 := t.isLt
  have e : (iblk m c 1 t : Vec Ideal S2048x1024 .bf16) (ix2 i k) = V m c main_v1 (ix2 i k) := by blk_ext [iblk, (where_blk t).2.1]
  rw [e]
  simp only [V, hostOps0, List.flatten_cons, List.flatten_nil, List.append_nil, List.cons_append, List.nil_append]
  after_results
  exact tab2_at _ _ _

theorem blk2_at (i : Fin 1024) (k : Fin 1024) : (iblk m c 2 t : Vec Ideal S1024x1024 .f32) (ix2 i k) = aH m c (1024 * (t.val / 4) + i.val) (k.val) := by
  have ht : t.val < 256 := t.isLt
  have e : (iblk m c 2 t : Vec Ideal S1024x1024 .f32) (ix2 i k) = V m c main_arg0 (ix2 ⟨1024 * (t.val / 4) + i.val, by omega⟩ k) := by blk_ext [iblk, (where_blk t).2.2.1]
  rw [e]
  rw [V_main_arg0]
  exact tab2_at _ _ _

theorem blk4_at (i : Fin 1024) (k : Fin 512) : (iblk m c 4 t : Vec Ideal S1024x512 .bf16) (ix2 i k) = aWQ m c (i.val) (k.val) := by
  have ht : t.val < 256 := t.isLt
  have e : (iblk m c 4 t : Vec Ideal S1024x512 .bf16) (ix2 i k) = V m c main_v2 (ix2 i k) := by blk_ext [iblk, (where_blk t).2.2.2.2.1]
  rw [e]
  simp only [V, hostOps0, List.flatten_cons, List.flatten_nil, List.append_nil, List.cons_append, List.nil_append]
  after_results
  exact tab2_at _ _ _

theorem blk5_at (i : Fin 256) (k : Fin 1024) : (iblk m c 5 t : Vec Ideal S256x1024 .bf16) (ix2 i k) = aKV m c (256 * (t.val / 4 / 2) + i.val) (k.val) := by
  have ht : t.val < 256 := t.isLt
  have e : (iblk m c 5 t : Vec Ideal S256x1024 .bf16) (ix2 i k) = V m c main_v3 (ix2 ⟨256 * (t.val / 4 / 2) + i.val, by omega⟩ k) := by blk_ext [iblk, (where_blk t).2.2.2.2.2.1]
  rw [e]
  simp only [V, hostOps0, List.flatten_cons, List.flatten_nil, List.append_nil, List.cons_append, List.nil_append]
  after_results
  exact tab2_at _ _ _

theorem blk6_at (i : Fin 512) (k : Fin 1024) : (iblk m c 6 t : Vec Ideal S512x1024 .bf16) (ix2 i k) = aWO m c (i.val) (k.val) := by
  have ht : t.val < 256 := t.isLt
  have e : (iblk m c 6 t : Vec Ideal S512x1024 .bf16) (ix2 i k) = V m c main_v4 (ix2 i k) := by blk_ext [iblk, (where_blk t).2.2.2.2.2.2.1]
  rw [e]
  simp only [V, hostOps0, List.flatten_cons, List.flatten_nil, List.append_nil, List.cons_append, List.nil_append]
  after_results
  exact tab2_at _ _ _

theorem blk8_at (i : Fin 1024) (k : Fin 1024) : (iblk m c 8 t : Vec Ideal S1024x1024 .bf16) (ix2 i k) = aWU m c (i.val) (1024 * (t.val % 4) + k.val) := by
  have ht : t.val < 256 := t.isLt
  have e : (iblk m c 8 t : Vec Ideal S1024x1024 .bf16) (ix2 i k) = V m c main_v5 (ix2 i ⟨1024 * (t.val % 4) + k.val, by omega⟩) := by blk_ext [iblk, (where_blk t).2.2.2.2.2.2.2.2.1]
  rw [e]
  simp only [V, hostOps0, List.flatten_cons, List.flatten_nil, List.append_nil, List.cons_append, List.nil_append]
  after_results
  exact tab2_at _ _ _

theorem blk9_at (i : Fin 1024) (k : Fin 1024) : (iblk m c 9 t : Vec Ideal S1024x1024 .bf16) (ix2 i k) = aWD m c (1024 * (t.val % 4) + i.val) (k.val) := by
  have ht : t.val < 256 := t.isLt
  have e : (iblk m c 9 t : Vec Ideal S1024x1024 .bf16) (ix2 i k) = V m c main_v6 (ix2 ⟨1024 * (t.val % 4) + i.val, by omega⟩ k) := by blk_ext [iblk, (where_blk t).2.2.2.2.2.2.2.2.2.1]
  rw [e]
  simp only [V, hostOps0, List.flatten_cons, List.flatten_nil, List.append_nil, List.cons_append, List.nil_append]
  after_results
  exact tab2_at _ _ _

theorem blk3_at (k : Fin 1024) : (iblk m c 3 t : Vec Ideal S1x1024 .f32) (ix2 (0 : Fin 1) k) = aGX m c k.val := by
  have e : (iblk m c 3 t : Vec Ideal S1x1024 .f32) (ix2 (0 : Fin 1) k) = V m c main_v7 (ix2 (0 : Fin 1) k) := by blk_ext [iblk, (where_blk t).2.2.2.1]
  rw [e]
  simp only [V, hostOps0, List.flatten_cons, List.flatten_nil, List.append_nil, List.cons_append, List.nil_append]
  after_results
  pointwise []
  exact tab1_at _ k

theorem blk7_at (k : Fin 1024) : (iblk m c 7 t : Vec Ideal S1x1024 .f32) (ix2 (0 : Fin 1) k) = aGM m c k.val := by
  have e : (iblk m c 7 t : Vec Ideal S1x1024 .f32) (ix2 (0 : Fin 1) k) = V m c main_v8 (ix2 (0 : Fin 1) k) := by blk_ext [iblk, (where_blk t).2.2.2.2.2.2.2.1]
  rw [e]
  simp only [V, hostOps0, List.flatten_cons, List.flatten_nil, List.append_nil, List.cons_append, List.nil_append]
  after_results
  pointwise []
  exact tab1_at _ k

theorem blk10_at (k : Fin 1024) : (iblk m c 10 t : Vec Ideal S1x1024 .f32) (ix2 (0 : Fin 1) k) = aGF m c k.val := by
  have e : (iblk m c 10 t : Vec Ideal S1x1024 .f32) (ix2 (0 : Fin 1) k) = V m c main_v9 (ix2 (0 : Fin 1) k) := by blk_ext [iblk, (where_blk t).2.2.2.2.2.2.2.2.2.2.1]
  rw [e]
  simp only [V, hostOps0, List.flatten_cons, List.flatten_nil, List.append_nil, List.cons_append, List.nil_append]
  after_results
  pointwise []
  exact tab1_at _ k

/-- The rows of a row tile before the feed-forward part. -/
def rowY (b r j : ℕ) : EReal :=
  cross (mix1 (aH m c) (aY m c) (aW m c) (1024 * b + r)) (aGX m c) (aWQ m c) (fun t => aKV m c (256 * (b / 2) + t)) (aWO m c) j

/-- The rows plus the mixer's output times its weights. -/
theorem mix_at (h : FVec Ideal S1024x1024 .f32) (y : FVec Ideal S1024x2048 .bf16) (w : FVec Ideal S2048x1024 .bf16) (r j : Fin 1024) :
    k0_pay4 h y w (ix2 r j) = h (ix2 r j) + ∑ k : Fin 2048, y (ix2 r k) * w (ix2 k j) := by
  pointwise [k0_pay4]

/-- What a row tile's first point computes before the feed-forward part. -/
def tokens : FVec Ideal S1024x1024 .f32 :=
  crossed (k0_pay4 (iblk m c 2 t) (iblk m c 0 t) (iblk m c 1 t)) (queries (k0_pay4 (iblk m c 2 t) (iblk m c 0 t) (iblk m c 1 t)) (iblk m c 3 t) (iblk m c 4 t)) (iblk m c 5 t) (iblk m c 6 t)

theorem tokens_at (r j : Fin 1024) : tokens m c t (ix2 r j) = rowY m c (t.val / 4) r.val j.val := by
  have hx : ∀ j : Fin 1024, k0_pay4 (F := Ideal) (iblk m c 2 t) (iblk m c 0 t) (iblk m c 1 t) (ix2 r j) = mix1 (aH m c) (aY m c) (aW m c) (1024 * (t.val / 4) + r.val) j.val := fun j => by
    rw [mix_at]
    simp only [blk0_at, blk1_at, blk2_at]
    rfl
  exact rows_at _ _ _ _ _ r j _ _ _ (fun s => aKV m c (256 * (t.val / 4 / 2) + s)) _ hx (blk3_at m c t) (blk4_at m c t) (blk5_at m c t) (blk6_at m c t)

/-- The queries, in the program's own pieces. -/
theorem queries_eq (h : FVec Ideal S1024x1024 .f32) (y : FVec Ideal S1024x2048 .bf16) (w : FVec Ideal S2048x1024 .bf16) (g : FVec Ideal S1x1024 .f32) (wq : FVec Ideal S1024x512 .bf16) :
    k0_pay5 h y w g wq = queries (k0_pay4 h y w) g wq := by
  funext i
  pointwise [k0_pay5, queries, Cert.PostIdeal.Gen.k0_pay1, Cert.PostIdeal.Gen.k0_pay13]

/-- The rows after the attention over the memory, in the program's own pieces. -/
theorem tokens_eq (h : FVec Ideal S1024x1024 .f32) (y : FVec Ideal S1024x2048 .bf16) (w : FVec Ideal S2048x1024 .bf16) (g : FVec Ideal S1x1024 .f32) (wq : FVec Ideal S1024x512 .bf16)
    (kv : FVec Ideal S256x1024 .bf16) (wo : FVec Ideal S512x1024 .bf16) :
    k0_pay12 (k0_pay4 h y w) (k0_pay5 h y w g wq)
      (k0_pay8 (k0_pay6 (raw 512 inb_S256x1024_S256x128_0_512 kv)) (k0_pay7 h y w g wq (raw 0 inb_S256x1024_S256x128_0_0 kv)))
      (k0_pay9 (k0_pay5 h y w g wq) (raw 128 inb_S256x1024_S256x128_0_128 kv) (raw 640 inb_S256x1024_S256x128_0_640 kv))
      (k0_pay10 (raw 768 inb_S256x1024_S256x128_0_768 kv)) (k0_pay11 (k0_pay5 h y w g wq) (raw 256 inb_S256x1024_S256x128_0_256 kv))
      (raw 384 inb_S256x1024_S256x128_0_384 kv) (raw 896 inb_S256x1024_S256x128_0_896 kv) wo
      = crossed (k0_pay4 h y w) (queries (k0_pay4 h y w) g wq) kv wo := by
  unfold k0_pay7
  dsimp only
  rw [queries_eq]
  rfl

theorem first_out (h : t.val % 4 = 0) : (outsAt0 m c t.val t.isLt).1
    = Cert.PostIdeal.Gen.k0_pay2 (Cert.PostIdeal.Gen.k0_pay1 (tokens m c t) (Cert.PostIdeal.Gen.k0_pay13 (iblk m c 7 t))) (iblk m c 8 t) (tokens m c t) (iblk m c 9 t) := by
  rw [outsAt0_A m c t h (by omega)]
  frame_out
  unfold tokens
  simp only [← tokens_eq]
  rfl

theorem first_kept (h : t.val % 4 = 0) : (outsAt0 m c t.val t.isLt).2 = Cert.PostIdeal.Gen.k0_pay1 (tokens m c t) (Cert.PostIdeal.Gen.k0_pay13 (iblk m c 7 t)) := by
  rw [outsAt0_A m c t h (by omega)]
  frame_out
  unfold tokens
  simp only [← tokens_eq]
  rfl

theorem later_out (h : ¬ t.val % 4 = 0) (h' : ¬ t.val % 4 = 3) : (outsAt0 m c t.val t.isLt).1
    = Cert.PostIdeal.Gen.k0_pay2 (outsAt0 m c (t.val - 1) (Nat.lt_of_le_of_lt (Nat.sub_le _ _) t.isLt)).2 (iblk m c 8 t) (outsAt0 m c (t.val - 1) (Nat.lt_of_le_of_lt (Nat.sub_le _ _) t.isLt)).1 (iblk m c 9 t) := by
  rw [outsAt0_B m c t h h']
  frame_out
  simp only [read_unread_whole]
  rfl

theorem later_kept (h : ¬ t.val % 4 = 0) (h' : ¬ t.val % 4 = 3) : (outsAt0 m c t.val t.isLt).2 = (outsAt0 m c (t.val - 1) (Nat.lt_of_le_of_lt (Nat.sub_le _ _) t.isLt)).2 := by
  rw [outsAt0_B m c t h h']
  unfold sout0_B_0
  rfl

/-- WHAT THE GRID POINTS LEAVE before the last of a row tile: the normalised rows, and the rows with the feed-forward part of the hidden tiles so far. -/
theorem left (n : ℕ) (hn : n < cfg0.N) (h : n % 4 < 3) (r j : Fin 1024) :
    ((outsAt0 m c n hn).2 : FVec Ideal S1024x1024 .bf16) (ix2 r j) = rms (rowY m c (n / 4) r.val) (aGM m c) j.val
    ∧ ((outsAt0 m c n hn).1 : FVec Ideal S1024x1024 .f32) (ix2 r j)
      = rowY m c (n / 4) r.val j.val + hidden (1024 * (n % 4 + 1)) (rms (rowY m c (n / 4) r.val) (aGM m c)) (aWU m c) (aWD m c) j.val :=
  grid_left cfg0.N 3 (fun n hn => (outsAt0 m c n hn).2) (fun n hn => (outsAt0 m c n hn).1) (fun n hn => iblk m c 8 ⟨n, hn⟩) (fun n hn => iblk m c 9 ⟨n, hn⟩)
    (rowY m c) _ _ _ (fun n hn => blk8_at m c ⟨n, hn⟩) (fun n hn => blk9_at m c ⟨n, hn⟩)
    (fun n hn h => ⟨tokens m c ⟨n, hn⟩, Cert.PostIdeal.Gen.k0_pay13 (iblk m c 7 ⟨n, hn⟩), tokens_at m c ⟨n, hn⟩, fun k => by pointwise [Cert.PostIdeal.Gen.k0_pay13, blk7_at],
      first_kept m c ⟨n, hn⟩ h, first_out m c ⟨n, hn⟩ h⟩)
    (fun n hn h h' => ⟨later_kept m c ⟨n, hn⟩ h (by show ¬ n % 4 = 3; omega), later_out m c ⟨n, hn⟩ h (by show ¬ n % 4 = 3; omega)⟩) n hn h r j

/-- The final normalisation of a block's rows. -/
theorem norm_at (x : FVec Ideal S1024x1024 .f32) (g : FVec Ideal S1x1024 .f32) (r j : Fin 1024) (X G : ℕ → EReal)
    (hx : ∀ j, x (ix2 r j) = X j.val) (hg : ∀ j, g (ix2 0 j) = G j.val) : (k0_pay3 x g : FVec Ideal S1024x1024 .f32) (ix2 r j) = rms X G j.val := by
  pointwise [k0_pay3, hx, hg]
  rfl

theorem last_out (h : t.val % 4 = 3) : (outsAt0 m c t.val t.isLt).1
    = k0_pay3 (Cert.PostIdeal.Gen.k0_pay2 (outsAt0 m c (t.val - 1) (Nat.lt_of_le_of_lt (Nat.sub_le _ _) t.isLt)).2 (iblk m c 8 t) (outsAt0 m c (t.val - 1) (Nat.lt_of_le_of_lt (Nat.sub_le _ _) t.isLt)).1 (iblk m c 9 t)) (iblk m c 10 t) := by
  rw [outsAt0_C m c t (by omega) h]
  frame_out
  simp only [read_unread_whole]
  rfl

/-- What the last point of a row tile leaves: the layer's rows, normalised once more. -/
theorem last_left (h : t.val % 4 = 3) (r j : Fin 1024) : ((outsAt0 m c t.val t.isLt).1 : FVec Ideal S1024x1024 .f32) (ix2 r j)
    = rms (mlp (rowY m c (t.val / 4) r.val) (aGM m c) (aWU m c) (aWD m c)) (aGF m c) j.val := by
  have e1 : (t.val - 1) / 4 = t.val / 4 := by omega
  have e2 : (t.val - 1) % 4 + 1 = t.val % 4 := by omega
  have p := left m c (t.val - 1) (Nat.lt_of_le_of_lt (Nat.sub_le _ _) t.isLt) (by omega) r
  rw [e1, e2] at p
  refine (congrFun (last_out m c t h) _).trans (norm_at _ _ r j _ _ (fun j => ?_) (blk10_at m c t))
  refine (tile_step _ _ _ _ r j (t.val % 4) _ _ _ _ (fun k => (p k).1) (blk8_at m c t) (blk9_at m c t) (p j).2).trans ?_
  rw [h]
  rfl

/-- The layer's part as an array. -/
def layerArr : S65536x1024.Idx → EReal := fun i =>
  rms (layer (mix1 (aH m c) (aY m c) (aW m c)) (aGX m c) (aWQ m c) (aKV m c) (aWO m c) (aGM m c) (aWU m c) (aWD m c) (i 0).val) (aGF m c) (i 1).val

/-- THE KERNEL'S RESULT is the layer's part after the mixer, normalised, of the arguments. -/
theorem result : (dats m 0 c).arrAt 11 cfg0.N = layerArr m c := by
  refine (dats m 0 c).arrAt_eq_of_covers 11 _ (by decide +kernel) fun t hf y => ?_
  have hf := (flush0_11 t).mp hf
  blk_simp
  rw [after0_11]
  obtain ⟨r, j, rfl⟩ : ∃ (r j : Fin 1024), y = ix2 r j := ⟨y 0, y 1, by funext a; match a with | ⟨0, _⟩ => rfl | ⟨1, _⟩ => rfl⟩
  refine (last_left m c t hf r j).trans ?_
  have ht : t.val < 256 := t.isLt
  have hr := r.isLt
  unfold layerArr layer rowY
  blk_simp [(where_blk t).2.2.2.2.2.2.2.2.2.2.2]
  rw [mul_comm (t.val / 4), show (1024 * (t.val / 4) + r.val) / 2048 = t.val / 4 / 2 by omega]

end Cert.LastIdeal.Val

end
-- ==== Proof.OddPoint.lean ====
module

public import proofs.«01_k».proof.Proof.PostOps
public import proofs.«01_k».proof.Proof.Gen.OddIdeal.Value
public import Idealize.ShloMosaic.Lib.Pointwise
public import Idealize.ShloMosaic.Lib.Pipeline.ValueKit
public import Idealize.ShloMosaic.Lib.Pipeline.ReadBack

/-! An odd layer's part after the mixer: the blocks it reads as entries of its arguments, what its grid points leave, and the array they fill. -/

set_option maxRecDepth 16384

@[expose] public noncomputable section

namespace Cert.OddIdeal.Val

open Idealize Idealize.ShloMosaic Idealize.ShloMosaic.TcCoe Idealize.SL.Sem Cert.OddIdeal Cert.OddIdeal.Gen Cert.Post
open Cert.PostIdeal.Val (crossed queries raw rows_at grid_left tile_step)

/-- Where each window's block lies at a grid point, the row tile being the point's quotient by four and the hidden tile its remainder. -/
theorem where_blk : ∀ t : Fin grid0.N, win0_0.index t = ![t.val / 4, 0] ∧ win0_1.index t = ![0, 0] ∧ win0_2.index t = ![t.val / 4, 0]
    ∧ win0_3.index t = ![0, 0] ∧ win0_4.index t = ![0, 0] ∧ win0_5.index t = ![t.val / 4 / 2, 0] ∧ win0_6.index t = ![0, 0]
    ∧ win0_7.index t = ![0, 0] ∧ win0_8.index t = ![0, t.val % 4] ∧ win0_9.index t = ![t.val % 4, 0] ∧ win0_10.index t = ![0, 0] ∧ win0_11.index t = ![t.val / 4, 0] := by decide +kernel

variable (m : (ℓ : Loc nD τ sig) → Buf (Elt Ideal) ℓ) (c : Dev nD)

/-! The arguments as tables. -/

def aH : ℕ → ℕ → EReal := tab2 (M := 65536) (N := 1024) (m ((c : Thread nD τ).loc main_arg0))
def aY : ℕ → ℕ → EReal := tab2 (M := 65536) (N := 2048) (m ((c : Thread nD τ).loc main_arg1))
def aW : ℕ → ℕ → EReal := tab2 (M := 2048) (N := 1024) (m ((c : Thread nD τ).loc main_arg2))
def aWQ : ℕ → ℕ → EReal := tab2 (M := 1024) (N := 512) (m ((c : Thread nD τ).loc main_arg4))
def aKV : ℕ → ℕ → EReal := tab2 (M := 8192) (N := 1024) (m ((c : Thread nD τ).loc main_arg5))
def aWO : ℕ → ℕ → EReal := tab2 (M := 512) (N := 1024) (m ((c : Thread nD τ).loc main_arg6))
def aWU : ℕ → ℕ → EReal := tab2 (M := 1024) (N := 4096) (m ((c : Thread nD τ).loc main_arg8))
def aWD : ℕ → ℕ → EReal := tab2 (M := 4096) (N := 1024) (m ((c : Thread nD τ).loc main_arg9))
def aGX : ℕ → EReal := tab1 (M := 1024) (m ((c : Thread nD τ).loc main_arg3))
def aGM : ℕ → EReal := tab1 (M := 1024) (m ((c : Thread nD τ).loc main_arg7))

variable (t : Fin cfg0.N)

/-! The blocks a grid point reads, from the arguments. -/

theorem blk0_at (i : Fin 1024) (k : Fin 2048) : (iblk m c 0 t : Vec Ideal S1024x2048 .bf16) (ix2 i k) = aY m c (1024 * (t.val / 4) + i.val) (k.val) := by
  have ht : t.val < 256 := t.isLt
  have e : (iblk m c 0 t : Vec Ideal S1024x2048 .bf16) (ix2 i k) = V m c main_v0 (ix2 ⟨1024 * (t.val / 4) + i.val, by omega⟩ k) := by blk_ext [iblk, (where_blk t).1]
  rw [e]
  simp only [V, hostOps0, List.flatten_cons, List.flatten_nil, List.append_nil, List.cons_append, List.nil_append]
  after_results
  exact tab2_at _ _ _

theorem blk1_at (i : Fin 2048) (k : Fin 1024) : (iblk m c 1 t : Vec Ideal S2048x1024 .bf16) (ix2 i k) = aW m c (i.val) (k.val) := by
  have ht : t.val < 256 := t.isLt
  have e : (iblk m c 1 t : Vec Ideal S2048x1024 .bf16) (ix2 i k) = V m c main_v1 (ix2 i k) := by blk_ext [iblk, (where_blk t).2.1]
  rw [e]
  simp only [V, hostOps0, List.flatten_cons, List.flatten_nil, List.append_nil, List.cons_append, List.nil_append]
  after_results
  exact tab2_at _ _ _

theorem blk2_at (i : Fin 1024) (k : Fin 1024) : (iblk m c 2 t : Vec Ideal S1024x1024 .f32) (ix2 i k) = aH m c (1024 * (t.val / 4) + i.val) (k.val) := by
  have ht : t.val < 256 := t.isLt
  have e : (iblk m c 2 t : Vec Ideal S1024x1024 .f32) (ix2 i k) = V m c main_arg0 (ix2 ⟨1024 * (t.val / 4) + i.val, by omega⟩ k) := by blk_ext [iblk, (where_blk t).2.2.1]
  rw [e]
  rw [V_main_arg0]
  exact tab2_at _ _ _

theorem blk4_at (i : Fin 1024) (k : Fin 512) : (iblk m c 4 t : Vec Ideal S1024x512 .bf16) (ix2 i k) = aWQ m c (i.val) (k.val) := by
  have ht : t.val < 256 := t.isLt
  have e : (iblk m c 4 t : Vec Ideal S1024x512 .bf16) (ix2 i k) = V m c main_v2 (ix2 i k) := by blk_ext [iblk, (where_blk t).2.2.2.2.1]
  rw [e]
  simp only [V, hostOps0, List.flatten_cons, List.flatten_nil, List.append_nil, List.cons_append, List.nil_append]
  after_results
  exact tab2_at _ _ _

theorem blk5_at (i : Fin 256) (k : Fin 1024) : (iblk m c 5 t : Vec Ideal S256x1024 .bf16) (ix2 i k) = aKV m c (256 * (t.val / 4 / 2) + i.val) (k.val) := by
  have ht : t.val < 256 := t.isLt
  have e : (iblk m c 5 t : Vec Ideal S256x1024 .bf16) (ix2 i k) = V m c main_v3 (ix2 ⟨256 * (t.val / 4 / 2) + i.val, by omega⟩ k) := by blk_ext [iblk, (where_blk t).2.2.2.2.2.1]
  rw [e]
  simp only [V, hostOps0, List.flatten_cons, List.flatten_nil, List.append_nil, List.cons_append, List.nil_append]
  after_results
  exact tab2_at _ _ _

theorem blk6_at (i : Fin 512) (k : Fin 1024) : (iblk m c 6 t : Vec Ideal S512x1024 .bf16) (ix2 i k) = aWO m c (i.val) (k.val) := by
  have ht : t.val < 256 := t.isLt
  have e : (iblk m c 6 t : Vec Ideal S512x1024 .bf16) (ix2 i k) = V m c main_v4 (ix2 i k) := by blk_ext [iblk, (where_blk t).2.2.2.2.2.2.1]
  rw [e]
  simp only [V, hostOps0, List.flatten_cons, List.flatten_nil, List.append_nil, List.cons_append, List.nil_append]
  after_results
  exact tab2_at _ _ _

theorem blk8_at (i : Fin 1024) (k : Fin 1024) : (iblk m c 8 t : Vec Ideal S1024x1024 .bf16) (ix2 i k) = aWU m c (i.val) (1024 * (t.val % 4) + k.val) := by
  have ht : t.val < 256 := t.isLt
  have e : (iblk m c 8 t : Vec Ideal S1024x1024 .bf16) (ix2 i k) = V m c main_v5 (ix2 i ⟨1024 * (t.val % 4) + k.val, by omega⟩) := by blk_ext [iblk, (where_blk t).2.2.2.2.2.2.2.2.1]
  rw [e]
  simp only [V, hostOps0, List.flatten_cons, List.flatten_nil, List.append_nil, List.cons_append, List.nil_append]
  after_results
  exact tab2_at _ _ _

theorem blk9_at (i : Fin 1024) (k : Fin 1024) : (iblk m c 9 t : Vec Ideal S1024x1024 .bf16) (ix2 i k) = aWD m c (1024 * (t.val % 4) + i.val) (k.val) := by
  have ht : t.val < 256 := t.isLt
  have e : (iblk m c 9 t : Vec Ideal S1024x1024 .bf16) (ix2 i k) = V m c main_v6 (ix2 ⟨1024 * (t.val % 4) + i.val, by omega⟩ k) := by blk_ext [iblk, (where_blk t).2.2.2.2.2.2.2.2.2.1]
  rw [e]
  simp only [V, hostOps0, List.flatten_cons, List.flatten_nil, List.append_nil, List.cons_append, List.nil_append]
  after_results
  exact tab2_at _ _ _

theorem blk3_at (k : Fin 1024) : (iblk m c 3 t : Vec Ideal S1x1024 .f32) (ix2 (0 : Fin 1) k) = aGX m c k.val := by
  have e : (iblk m c 3 t : Vec Ideal S1x1024 .f32) (ix2 (0 : Fin 1) k) = V m c main_v7 (ix2 (0 : Fin 1) k) := by blk_ext [iblk, (where_blk t).2.2.2.1]
  rw [e]
  simp only [V, hostOps0, List.flatten_cons, List.flatten_nil, List.append_nil, List.cons_append, List.nil_append]
  after_results
  pointwise []
  exact tab1_at _ k

theorem blk7_at (k : Fin 1024) : (iblk m c 7 t : Vec Ideal S1x1024 .f32) (ix2 (0 : Fin 1) k) = aGM m c k.val := by
  have e : (iblk m c 7 t : Vec Ideal S1x1024 .f32) (ix2 (0 : Fin 1) k) = V m c main_v8 (ix2 (0 : Fin 1) k) := by blk_ext [iblk, (where_blk t).2.2.2.2.2.2.2.1]
  rw [e]
  simp only [V, hostOps0, List.flatten_cons, List.flatten_nil, List.append_nil, List.cons_append, List.nil_append]
  after_results
  pointwise []
  exact tab1_at _ k

/-- The rows of a row tile before the feed-forward part. -/
def rowY (b r j : ℕ) : EReal :=
  cross (mix1 (aH m c) (aY m c) (aW m c) (1024 * b + r)) (aGX m c) (aWQ m c) (fun t => aKV m c (256 * (b / 2) + t)) (aWO m c) j

/-- The rows plus the mixer's output times its weights. -/
theorem mix_at (h : FVec Ideal S1024x1024 .f32) (y : FVec Ideal S1024x2048 .bf16) (w : FVec Ideal S2048x1024 .bf16) (r j : Fin 1024) :
    k0_pay3 h y w (ix2 r j) = h (ix2 r j) + ∑ k : Fin 2048, y (ix2 r k) * w (ix2 k j) := by
  pointwise [k0_pay3]

/-- What a row tile's first point computes before the feed-forward part. -/
def tokens : FVec Ideal S1024x1024 .f32 :=
  crossed (k0_pay3 (iblk m c 2 t) (iblk m c 0 t) (iblk m c 1 t)) (queries (k0_pay3 (iblk m c 2 t) (iblk m c 0 t) (iblk m c 1 t)) (iblk m c 3 t) (iblk m c 4 t)) (iblk m c 5 t) (iblk m c 6 t)

theorem tokens_at (r j : Fin 1024) : tokens m c t (ix2 r j) = rowY m c (t.val / 4) r.val j.val := by
  have hx : ∀ j : Fin 1024, k0_pay3 (F := Ideal) (iblk m c 2 t) (iblk m c 0 t) (iblk m c 1 t) (ix2 r j) = mix1 (aH m c) (aY m c) (aW m c) (1024 * (t.val / 4) + r.val) j.val := fun j => by
    rw [mix_at]
    simp only [blk0_at, blk1_at, blk2_at]
    rfl
  exact rows_at _ _ _ _ _ r j _ _ _ (fun s => aKV m c (256 * (t.val / 4 / 2) + s)) _ hx (blk3_at m c t) (blk4_at m c t) (blk5_at m c t) (blk6_at m c t)

/-- The queries, in the program's own pieces. -/
theorem queries_eq (h : FVec Ideal S1024x1024 .f32) (y : FVec Ideal S1024x2048 .bf16) (w : FVec Ideal S2048x1024 .bf16) (g : FVec Ideal S1x1024 .f32) (wq : FVec Ideal S1024x512 .bf16) :
    k0_pay4 h y w g wq = queries (k0_pay3 h y w) g wq := by
  funext i
  pointwise [k0_pay4, queries, Cert.PostIdeal.Gen.k0_pay1, Cert.PostIdeal.Gen.k0_pay13]

/-- The rows after the attention over the memory, in the program's own pieces. -/
theorem tokens_eq (h : FVec Ideal S1024x1024 .f32) (y : FVec Ideal S1024x2048 .bf16) (w : FVec Ideal S2048x1024 .bf16) (g : FVec Ideal S1x1024 .f32) (wq : FVec Ideal S1024x512 .bf16)
    (kv : FVec Ideal S256x1024 .bf16) (wo : FVec Ideal S512x1024 .bf16) :
    k0_pay11 (k0_pay3 h y w) (k0_pay4 h y w g wq)
      (k0_pay7 (k0_pay5 (raw 512 inb_S256x1024_S256x128_0_512 kv)) (k0_pay6 h y w g wq (raw 0 inb_S256x1024_S256x128_0_0 kv)))
      (k0_pay8 (k0_pay4 h y w g wq) (raw 128 inb_S256x1024_S256x128_0_128 kv) (raw 640 inb_S256x1024_S256x128_0_640 kv))
      (k0_pay9 (raw 768 inb_S256x1024_S256x128_0_768 kv)) (k0_pay10 (k0_pay4 h y w g wq) (raw 256 inb_S256x1024_S256x128_0_256 kv))
      (raw 384 inb_S256x1024_S256x128_0_384 kv) (raw 896 inb_S256x1024_S256x128_0_896 kv) wo
      = crossed (k0_pay3 h y w) (queries (k0_pay3 h y w) g wq) kv wo := by
  unfold k0_pay6
  dsimp only
  rw [queries_eq]
  rfl

theorem first_out (h : t.val % 4 = 0) : (outsAt0 m c t.val t.isLt).1
    = Cert.PostIdeal.Gen.k0_pay2 (Cert.PostIdeal.Gen.k0_pay1 (tokens m c t) (Cert.PostIdeal.Gen.k0_pay13 (iblk m c 7 t))) (iblk m c 8 t) (tokens m c t) (iblk m c 9 t) := by
  rw [outsAt0_A m c t h]
  frame_out
  unfold tokens
  simp only [← tokens_eq]
  rfl

theorem first_kept (h : t.val % 4 = 0) : (outsAt0 m c t.val t.isLt).2 = Cert.PostIdeal.Gen.k0_pay1 (tokens m c t) (Cert.PostIdeal.Gen.k0_pay13 (iblk m c 7 t)) := by
  rw [outsAt0_A m c t h]
  frame_out
  unfold tokens
  simp only [← tokens_eq]
  rfl

theorem later_out (h : ¬ t.val % 4 = 0) : (outsAt0 m c t.val t.isLt).1
    = Cert.PostIdeal.Gen.k0_pay2 (outsAt0 m c (t.val - 1) (Nat.lt_of_le_of_lt (Nat.sub_le _ _) t.isLt)).2 (iblk m c 8 t) (outsAt0 m c (t.val - 1) (Nat.lt_of_le_of_lt (Nat.sub_le _ _) t.isLt)).1 (iblk m c 9 t) := by
  rw [outsAt0_B m c t h]
  frame_out
  simp only [read_unread_whole]
  rfl

theorem later_kept (h : ¬ t.val % 4 = 0) : (outsAt0 m c t.val t.isLt).2 = (outsAt0 m c (t.val - 1) (Nat.lt_of_le_of_lt (Nat.sub_le _ _) t.isLt)).2 := by
  rw [outsAt0_B m c t h]
  unfold sout0_B_0
  rfl

/-- WHAT THE GRID POINTS LEAVE: the normalised rows, and the rows with the feed-forward part of the hidden tiles so far. -/
theorem left (n : ℕ) (hn : n < cfg0.N) (r j : Fin 1024) :
    ((outsAt0 m c n hn).2 : FVec Ideal S1024x1024 .bf16) (ix2 r j) = rms (rowY m c (n / 4) r.val) (aGM m c) j.val
    ∧ ((outsAt0 m c n hn).1 : FVec Ideal S1024x1024 .f32) (ix2 r j)
      = rowY m c (n / 4) r.val j.val + hidden (1024 * (n % 4 + 1)) (rms (rowY m c (n / 4) r.val) (aGM m c)) (aWU m c) (aWD m c) j.val :=
  grid_left cfg0.N 4 (fun n hn => (outsAt0 m c n hn).2) (fun n hn => (outsAt0 m c n hn).1) (fun n hn => iblk m c 8 ⟨n, hn⟩) (fun n hn => iblk m c 9 ⟨n, hn⟩)
    (rowY m c) _ _ _ (fun n hn => blk8_at m c ⟨n, hn⟩) (fun n hn => blk9_at m c ⟨n, hn⟩)
    (fun n hn h => ⟨tokens m c ⟨n, hn⟩, Cert.PostIdeal.Gen.k0_pay13 (iblk m c 7 ⟨n, hn⟩), tokens_at m c ⟨n, hn⟩, fun k => by pointwise [Cert.PostIdeal.Gen.k0_pay13, blk7_at],
      first_kept m c ⟨n, hn⟩ h, first_out m c ⟨n, hn⟩ h⟩)
    (fun n hn h _ => ⟨later_kept m c ⟨n, hn⟩ h, later_out m c ⟨n, hn⟩ h⟩) n hn (Nat.mod_lt _ (by decide)) r j

/-- The layer's part as an array. -/
def layerArr : S65536x1024.Idx → EReal := fun i =>
  layer (mix1 (aH m c) (aY m c) (aW m c)) (aGX m c) (aWQ m c) (aKV m c) (aWO m c) (aGM m c) (aWU m c) (aWD m c) (i 0).val (i 1).val

/-- THE KERNEL'S RESULT is the layer's part after the mixer, of the arguments. -/
theorem result : (dats m 0 c).arrAt 11 cfg0.N = layerArr m c := by
  refine (dats m 0 c).arrAt_eq_of_covers 11 _ (by decide +kernel) fun t hf y => ?_
  have hf := (flush0_11 t).mp hf
  blk_simp
  rw [after0_11]
  obtain ⟨r, j, rfl⟩ : ∃ (r j : Fin 1024), y = ix2 r j := ⟨y 0, y 1, by funext a; match a with | ⟨0, _⟩ => rfl | ⟨1, _⟩ => rfl⟩
  refine (left m c t.val t.isLt r j).2.trans ?_
  have ht : t.val < 256 := t.isLt
  have hr := r.isLt
  rw [hf]
  unfold layerArr layer mlp rowY
  blk_simp [(where_blk t).2.2.2.2.2.2.2.2.2.2.2]
  rw [mul_comm (t.val / 4), show (1024 * (t.val / 4) + r.val) / 2048 = t.val / 4 / 2 by omega]

end Cert.OddIdeal.Val

end
-- ==== Proof.OddRef.lean ====
module

public import proofs.«01_k».proof.Proof.PostRef
public import proofs.«01_k».proof.Proof.Gen.OddRefIdeal.Read
public import proofs.«01_k».proof.Proof.Gen.LastRefIdeal.Read

/-! The references of an odd layer's part after the mixer and of the last layer's, at an index. -/

set_option maxRecDepth 16384

@[expose] public noncomputable section

namespace Cert.OddRefIdeal.Val

open Idealize Idealize.ShloMosaic Idealize.SL.Sem Cert.OddRefIdeal Cert.OddRefIdeal.Gen Cert.Post
open Cert.PostRefIdeal.Val (layerR layerR_at rmsR rmsR_at)

/-- The rows plus the mixer's output times its weights. -/
def mixR (h : FVec Ideal S65536x1024 .f32) (y : FVec Ideal S65536x2048 .f32) (w : FVec Ideal S2048x1024 .f32) : FVec Ideal S65536x1024 .f32 :=
  addf h (Host.dotGeneral dot_S65536x2048_S2048x1024_S65536x1024_1_0_0_1_n_n none y w)

theorem mixR_at (h : FVec Ideal S65536x1024 .f32) (y : FVec Ideal S65536x2048 .f32) (w : FVec Ideal S2048x1024 .f32) (r : Fin 65536) (j : Fin 1024)
    (H Y W : ℕ → ℕ → EReal) (hh : ∀ i j, h (ix2 i j) = H i.val j.val) (hy : ∀ i j, y (ix2 i j) = Y i.val j.val) (hw : ∀ i j, w (ix2 i j) = W i.val j.val) :
    mixR h y w (ix2 r j) = mix1 H Y W r.val j.val := by
  pointwise [mixR, hh, hy, hw]
  rfl

variable (x0 : FVec Ideal S65536x1024 .f32) (x1 : FVec Ideal S65536x2048 .f32) (x2 : FVec Ideal S2048x1024 .f32) (x3 : FVec Ideal S1024 .f32) (x4 : FVec Ideal S1024x512 .f32)
  (x5 : FVec Ideal S8192x1024 .f32) (x6 : FVec Ideal S512x1024 .f32) (x7 : FVec Ideal S1024 .f32) (x8 : FVec Ideal S1024x4096 .f32) (x9 : FVec Ideal S4096x1024 .f32) (x10 : FVec Ideal S1024 .f32)

theorem odd_eq : Cert.OddRefIdeal.Read.val_main_v58 (F := Ideal) x0 x1 x2 x3 x4 x5 x6 x7 x8 x9 = layerR (mixR x0 x1 x2) x3 x4 x5 x6 x7 x8 x9 := rfl

theorem last_eq : Cert.LastRefIdeal.Read.val_main_v71 (F := Ideal) x0 x1 x2 x3 x4 x5 x6 x7 x8 x9 x10 = rmsR (layerR (mixR x0 x1 x2) x3 x4 x5 x6 x7 x8 x9) x10 := rfl

/-- An odd layer's part after the mixer, from tables of the arguments. -/
def oddT : ℕ → ℕ → EReal := layer (mix1 (tab2 x0) (tab2 x1) (tab2 x2)) (tab1 x3) (tab2 x4) (tab2 x5) (tab2 x6) (tab1 x7) (tab2 x8) (tab2 x9)

/-- The reference of an odd layer's part after the mixer, for reals where the softmax needs them. -/
theorem odd_at (h0 : ∀ j, IsReal (x0 j)) (h1 : ∀ j, IsReal (x1 j)) (h2 : ∀ j, IsReal (x2 j)) (h3 : ∀ j, IsReal (x3 j)) (h4 : ∀ j, IsReal (x4 j)) (h5 : ∀ j, IsReal (x5 j))
    (r : Fin 65536) (j : Fin 1024) : layerR (mixR x0 x1 x2) x3 x4 x5 x6 x7 x8 x9 (ix2 r j) = oddT x0 x1 x2 x3 x4 x5 x6 x7 x8 x9 r.val j.val :=
  layerR_at _ _ _ _ _ _ _ _ r j _ _ _ _ _ _ _ _ (fun r j => mixR_at _ _ _ r j _ _ _ (tab2_at _) (tab2_at _) (tab2_at _))
    (tab1_at _) (tab2_at _) (tab2_at _) (tab2_at _) (tab1_at _) (tab2_at _) (tab2_at _)
    (fun j _ => mix1_real (tab2_real _ h0) (tab2_real _ h1) (tab2_real _ h2) r.val j) (tab1_real _ h3) (tab2_real _ h4) (tab2_real _ h5)

/-- The reference of the last layer's part after the mixer, normalised. -/
theorem last_at (h0 : ∀ j, IsReal (x0 j)) (h1 : ∀ j, IsReal (x1 j)) (h2 : ∀ j, IsReal (x2 j)) (h3 : ∀ j, IsReal (x3 j)) (h4 : ∀ j, IsReal (x4 j)) (h5 : ∀ j, IsReal (x5 j))
    (r : Fin 65536) (j : Fin 1024) : rmsR (layerR (mixR x0 x1 x2) x3 x4 x5 x6 x7 x8 x9) x10 (ix2 r j) = rms (oddT x0 x1 x2 x3 x4 x5 x6 x7 x8 x9 r.val) (tab1 x10) j.val :=
  rmsR_at _ _ r j _ _ (odd_at x0 x1 x2 x3 x4 x5 x6 x7 x8 x9 h0 h1 h2 h3 h4 h5 r) (tab1_at _)

end Cert.OddRefIdeal.Val

end
-- ==== Proof.MemPoint.lean ====
module

public import proofs.«01_k».proof.Proof.PostOps
public import proofs.«01_k».proof.Proof.Gen.MemInIdeal.Value
public import proofs.«01_k».proof.Proof.Gen.MemInRefIdeal.Read
public import Idealize.ShloMosaic.Lib.Pointwise
public import Idealize.ShloMosaic.Lib.Pipeline.ValueKit
public import Idealize.ShloMosaic.Lib.Pipeline.ReadBack

/-! The memory's keys and values: the blocks the kernel reads, the array its grid points fill, and the reference at an index. -/

set_option maxRecDepth 16384

@[expose] public noncomputable section

namespace Cert.MemInIdeal.Val

open Idealize Idealize.ShloMosaic Idealize.ShloMosaic.TcCoe Idealize.SL.Sem Cert.MemInIdeal Cert.MemInIdeal.Gen Cert.Post
open Cert.PostIdeal.Val (bits_zero)

/-- Where each window's block lies at a grid point, a point being a row tile. -/
theorem where_blk : ∀ t : Fin grid0.N, win0_0.index t = ![t.val, 0] ∧ win0_1.index t = ![0, 0] ∧ win0_2.index t = ![0, 0] ∧ win0_3.index t = ![t.val, 0] := by decide +kernel

variable (m : (ℓ : Loc nD τ sig) → Buf (Elt Ideal) ℓ) (c : Dev nD)

/-- The keys and values as an array. -/
def projArr : S8192x1024.Idx → EReal := fun i =>
  proj (tab2 (M := 8192) (N := 1024) (m ((c : Thread nD τ).loc main_arg0))) (tab1 (M := 1024) (m ((c : Thread nD τ).loc main_arg1)))
    (tab2 (M := 1024) (N := 1024) (m ((c : Thread nD τ).loc main_arg2))) (i 0).val (i 1).val

variable (t : Fin cfg0.N)

theorem blk0_at (i k : Fin 1024) : (iblk m c 0 t : Vec Ideal S1024x1024 .f32) (ix2 i k) = tab2 (M := 8192) (N := 1024) (m ((c : Thread nD τ).loc main_arg0)) (1024 * t.val + i.val) k.val := by
  have ht : t.val < 8 := t.isLt
  have e : (iblk m c 0 t : Vec Ideal S1024x1024 .f32) (ix2 i k) = V m c main_arg0 (ix2 ⟨1024 * t.val + i.val, by omega⟩ k) := by blk_ext [iblk, (where_blk t).1]
  rw [e, V_main_arg0]
  exact tab2_at _ _ _

theorem blk1_at (k : Fin 1024) : (iblk m c 1 t : Vec Ideal S1x1024 .f32) (ix2 (0 : Fin 1) k) = tab1 (M := 1024) (m ((c : Thread nD τ).loc main_arg1)) k.val := by
  have e : (iblk m c 1 t : Vec Ideal S1x1024 .f32) (ix2 (0 : Fin 1) k) = V m c main_v1 (ix2 (0 : Fin 1) k) := by blk_ext [iblk, (where_blk t).2.1]
  rw [e]
  simp only [V, hostOps0, List.flatten_cons, List.flatten_nil, List.append_nil, List.cons_append, List.nil_append]
  after_results
  pointwise []
  exact tab1_at _ k

theorem blk2_at (i k : Fin 1024) : (iblk m c 2 t : Vec Ideal S1024x1024 .bf16) (ix2 i k) = tab2 (M := 1024) (N := 1024) (m ((c : Thread nD τ).loc main_arg2)) i.val k.val := by
  have e : (iblk m c 2 t : Vec Ideal S1024x1024 .bf16) (ix2 i k) = V m c main_v0 (ix2 i k) := by blk_ext [iblk, (where_blk t).2.2.1]
  rw [e]
  simp only [V, hostOps0, List.flatten_cons, List.flatten_nil, List.append_nil, List.cons_append, List.nil_append]
  after_results
  exact tab2_at _ _ _

/-- A block's normalised rows. -/
theorem norm_at (x : FVec Ideal S1024x1024 .f32) (g : FVec Ideal S1x1024 .f32) (r j : Fin 1024) (X G : ℕ → EReal)
    (hx : ∀ j, x (ix2 r j) = X j.val) (hg : ∀ j, g (ix2 0 j) = G j.val) : (k0_pay1 x g : FVec Ideal S1024x1024 .bf16) (ix2 r j) = rms X G j.val := by
  pointwise [k0_pay1, hx, hg]
  rfl

/-- THE KERNEL'S RESULT is the normalised memory times the weights. -/
theorem result : (dats m 0 c).arrAt 3 cfg0.N = projArr m c := by
  refine (dats m 0 c).arrAt_eq_of_covers 3 _ (by decide +kernel) fun t hf y => ?_
  blk_simp
  rw [after0_3]
  obtain ⟨r, j, rfl⟩ : ∃ (r j : Fin 1024), y = ix2 r j := ⟨y 0, y 1, by funext a; match a with | ⟨0, _⟩ => rfl | ⟨1, _⟩ => rfl⟩
  have e : outsAt0 m c t = k0_pay2 (k0_pay1 (iblk m c 0 t) (iblk m c 1 t)) (iblk m c 2 t) := by
    unfold outsAt0
    frame_out
  have hn := fun k => norm_at (iblk m c 0 t) (iblk m c 1 t) r k _ _ (blk0_at m c t r) (blk1_at m c t)
  rw [e]
  have hp : (k0_pay2 (k0_pay1 (iblk m c 0 t) (iblk m c 1 t)) (iblk m c 2 t) : FVec Ideal S1024x1024 .bf16) (ix2 r j)
      = proj (tab2 (M := 8192) (N := 1024) (m ((c : Thread nD τ).loc main_arg0))) (tab1 (M := 1024) (m ((c : Thread nD τ).loc main_arg1)))
        (tab2 (M := 1024) (N := 1024) (m ((c : Thread nD τ).loc main_arg2))) (1024 * t.val + r.val) j.val := by
    pointwise [k0_pay2, hn, blk2_at]
    rfl
  refine hp.trans ?_
  unfold projArr
  blk_simp [(where_blk t).2.2.2]
  rw [mul_comm]

/-- The reference at an index. -/
theorem ref_at (x : FVec Ideal S8192x1024 .f32) (g : FVec Ideal S1024 .f32) (w : FVec Ideal S1024x1024 .f32) (r : Fin 8192) (j : Fin 1024) :
    (Cert.MemInRefIdeal.Read.val_main_v14 (F := Ideal) x g w : FVec Ideal S8192x1024 .bf16) (ix2 r j) = proj (tab2 x) (tab1 g) (tab2 w) r.val j.val := by
  have hx := fun i k => tab2_at x i k
  have hg := fun k => tab1_at g k
  have hw := fun i k => tab2_at w i k
  have hn : ∀ k : Fin 1024, (Cert.MemInRefIdeal.Read.val_main_v12 (F := Ideal) x g : FVec Ideal S8192x1024 .f32) (ix2 r k) = rms (tab2 x r.val) (tab1 g) k.val := fun k => by
    pointwise [Cert.MemInRefIdeal.Read.val_main_v12, Cert.MemInRefIdeal.Read.val_main_v11, Cert.MemInRefIdeal.Read.val_main_v10, Cert.MemInRefIdeal.Read.val_main_v9,
      Cert.MemInRefIdeal.Read.val_main_v8, Cert.MemInRefIdeal.Read.val_main_v7, Cert.MemInRefIdeal.Read.val_main_v6, Cert.MemInRefIdeal.Read.val_main_v5,
      Cert.MemInRefIdeal.Read.val_main_v4, Cert.MemInRefIdeal.Read.val_main_v3, Cert.MemInRefIdeal.Read.val_main_v2, Cert.MemInRefIdeal.Read.val_main_v1,
      Cert.MemInRefIdeal.Read.val_main_v0, Cert.MemInRefIdeal.Read.val_main_cst, Cert.MemInRefIdeal.Read.val_main_cst_0, Cert.MemInRefIdeal.Read.val_main_cst_1, hx, hg, bits_zero]
    rfl
  pointwise [Cert.MemInRefIdeal.Read.val_main_v14, Cert.MemInRefIdeal.Read.val_main_v13, hn, hw]
  rfl

end Cert.MemInIdeal.Val

end
-- ==== Proof.SsmFrame.lean ====
module
public import proofs.«01_k».proof.Proof.Gen.SsmIn.Launch
public import proofs.«01_k».proof.Proof.Gen.SsmIn.Skeleton
public import proofs.«01_k».proof.Proof.Gen.SsmIn.Points
public import proofs.«01_k».proof.Proof.Gen.SsmIn.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

/-! # The run of the state-space layer's input projection

The kernel normalises a row tile at the tile's first column step, keeps it in scratch memory and writes the gates
there; the later column steps leave the gates' buffer as they found it.  So after every step the scratch memory and
the gates' buffer hold functions of the row tile alone, and the main result's buffer the product of the kept rows with
the step's columns.  These closed forms are the proof data of the pipeline. -/

set_option maxRecDepth 16384

@[expose] public noncomputable section

namespace Cert.SsmIn.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SsmIn Cert.SsmIn.Gen

variable {F : FTy → Type} [FloatOps F]

/-- The resource algebra of the run. -/
local notation "𝕄" => MT nD τ sig Unit (Elt F) ℕ (UR sig nD τ) ℕ

variable (m : (ℓ : Loc nD τ sig) → Buf (Elt F) ℓ) (ρ : Dev nD → PrngReg)

/-! ## The body in its two cases -/

/-- The body at a row tile's first column step: it stores the normalised rows, the gates and the product. -/
theorem first (c : Dev nD) (i : grid0.Coords)
    (h : Memref sig .tc .vmem S1024x1024 .f32) (hh : h.IsWhole) (g : Memref sig .tc .vmem S1x1024 .f32) (hg : g.IsWhole)
    (w : Memref sig .tc .vmem S1024x2048 .bf16) (hw : w.IsWhole) (v : Memref sig .tc .vmem S1024x128 .bf16) (hv : v.IsWhole)
    (o : Memref sig .tc .vmem S1024x2048 .bf16) (ho : o.IsWhole) (og : Memref sig .tc .vmem S1024x128 .f32) (hog : og.IsWhole)
    (s : Memref sig .tc .vmem S1024x1024 .bf16) (hs : s.IsWhole) (hc : k0_cond1 i = 1#1)
    (x0 : Vec F S1024x1024 .f32) (x1 : Vec F S1x1024 .f32) (x2 : Vec F S1024x2048 .bf16) (x3 : Vec F S1024x128 .bf16)
    (E : Set ℕ) (K : PUnit → sProp 𝕄) :
    iprop(owns (c : Thread nD τ) h fullShare x0 ∗ owns (c : Thread nD τ) g fullShare x1 ∗ owns (c : Thread nD τ) w fullShare x2
        ∗ owns (c : Thread nD τ) v fullShare x3 ∗ (∃ d, owns (c : Thread nD τ) o fullShare d) ∗ (∃ d, owns (c : Thread nD τ) og fullShare d)
        ∗ (∃ d, owns (c : Thread nD τ) s fullShare d)
        ∗ (iprop(owns (c : Thread nD τ) h fullShare x0 ∗ owns (c : Thread nD τ) g fullShare x1 ∗ owns (c : Thread nD τ) w fullShare x2
            ∗ owns (c : Thread nD τ) v fullShare x3 ∗ owns (c : Thread nD τ) o fullShare (k0_pay4 (k0_pay2 x0 x1) x2)
            ∗ owns (c : Thread nD τ) og fullShare (k0_pay3 x0 x1 x3) ∗ owns (c : Thread nD τ) s fullShare (k0_pay2 x0 x1)) -∗ K ⟨⟩))
      ⊢ wp frame (wpE (defs₀ (F := F)) Variants.none c none) E (cc0_norm_proj i h hh g hg w hw v hv o ho og hog s hs) K := by
  simp only [cc0_norm_proj_eq_skeleton]; unfold cc0_norm_proj_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, Hk⟩
  obtain rfl := hh.eq_unread e0; obtain rfl := hg.eq_unread e1; obtain rfl := hw.eq_unread e2; obtain rfl := hv.eq_unread e3
  sl_exec (disch := first | sl_exact hc)
  sl_step
  iapply Hk
  isplitl [H0]
  · iexists _; isplitr; · ipureintro; exact hh.read_unread _
    iexact H0
  isplitl [H1]
  · iexists _; isplitr; · ipureintro; exact hg.read_unread _
    iexact H1
  isplitl [H2]
  · iexists _; isplitr; · ipureintro; exact hw.read_unread _
    iexact H2
  isplitl [H3]
  · iexists _; isplitr; · ipureintro; exact hv.read_unread _
    iexact H3
  isplitl [H4]
  · iexists _; isplitr
    swap; · iexact H4
    ipureintro
    refine (View.read_writes_of_cover _ _ o.view o.view.junk _ (View.cover_of_tiledL _ S1024x2048.size (by sl_kernel_rfl))).trans ?_
    frame_out
  isplitl [H5]
  · iexists _; isplitr
    swap; · iexact H5
    ipureintro
    refine (View.read_writes_of_cover _ _ og.view og.view.junk _ (View.cover_of_tiledL _ S1024x128.size (by sl_kernel_rfl))).trans ?_
    frame_out
  · iexists _; isplitr
    swap; · iexact H6
    ipureintro
    refine (View.read_writes_of_cover _ _ s.view s.view.junk _ (View.cover_of_tiledL _ S1024x1024.size (by sl_kernel_rfl))).trans ?_
    frame_out

/-- The body at a later column step: it stores the product with the kept rows and leaves the gates alone. -/
theorem later (c : Dev nD) (i : grid0.Coords)
    (h : Memref sig .tc .vmem S1024x1024 .f32) (hh : h.IsWhole) (g : Memref sig .tc .vmem S1x1024 .f32) (hg : g.IsWhole)
    (w : Memref sig .tc .vmem S1024x2048 .bf16) (hw : w.IsWhole) (v : Memref sig .tc .vmem S1024x128 .bf16) (hv : v.IsWhole)
    (o : Memref sig .tc .vmem S1024x2048 .bf16) (ho : o.IsWhole) (og : Memref sig .tc .vmem S1024x128 .f32) (hog : og.IsWhole)
    (s : Memref sig .tc .vmem S1024x1024 .bf16) (hs : s.IsWhole) (hc : ¬ k0_cond1 i = 1#1)
    (x2 : Vec F S1024x2048 .bf16) (k : Vec F S1024x1024 .bf16) (E : Set ℕ) (K : PUnit → sProp 𝕄) :
    iprop(owns (c : Thread nD τ) w fullShare x2 ∗ (∃ d, owns (c : Thread nD τ) o fullShare d) ∗ owns (c : Thread nD τ) s fullShare k
        ∗ (iprop(owns (c : Thread nD τ) w fullShare x2 ∗ owns (c : Thread nD τ) o fullShare (k0_pay4 k x2)
            ∗ owns (c : Thread nD τ) s fullShare k) -∗ K ⟨⟩))
      ⊢ wp frame (wpE (defs₀ (F := F)) Variants.none c none) E (cc0_norm_proj i h hh g hg w hw v hv o ho og hog s hs) K := by
  simp only [cc0_norm_proj_eq_skeleton]; unfold cc0_norm_proj_skel
  unfold owns
  iintro ⟨⟨%f2, %e2, H2⟩, ⟨%d4, %f4, -, H4⟩, ⟨%f6, %e6, H6⟩, Hk⟩
  obtain rfl := hw.eq_unread e2; obtain rfl := hs.eq_unread e6
  sl_exec (disch := first | sl_exact hc)
  sl_step
  iapply Hk
  isplitl [H2]
  · iexists _; isplitr; · ipureintro; exact hw.read_unread _
    iexact H2
  isplitl [H4]
  · iexists _; isplitr
    swap; · iexact H4
    ipureintro
    refine (View.read_writes_of_cover _ _ o.view o.view.junk _ (View.cover_of_tiledL _ S1024x2048.size (by sl_kernel_rfl))).trans ?_
    frame_out
  · iexists _; isplitr; · ipureintro; exact hs.read_unread _
    iexact H6

/-! ## What the buffers hold after each point -/

/-- The first point of the row tile of point `t`. -/
def base (t : Fin cfg0.N) : Fin cfg0.N := ⟨t.val - t.val % 3, lt_of_le_of_lt (Nat.sub_le _ _) t.isLt⟩

/-- At a row tile's first point the tile's first point is the point. -/
theorem base_first (t : Fin cfg0.N) (h : t.val % 3 = 0) : base t = t := Fin.ext (by simp only [base]; omega)

/-- A later point of a row tile has the first point of the point before it. -/
theorem base_later (t s : Fin cfg0.N) (h : ¬ t.val % 3 = 0) (hs : s.val = t.val - 1) : base s = base t :=
  Fin.ext (by simp only [base, hs]; omega)

/-- The normalised rows the scratch memory keeps at point `t`. -/
def kept (c : Dev nD) (t : Fin cfg0.N) : Vec F S1024x1024 .bf16 :=
  k0_pay2 (iblk m c 0 (base t) : Vec F S1024x1024 .f32) (iblk m c 1 (base t) : Vec F S1x1024 .f32)

/-- The gates' buffer after point `t`. -/
def gates (c : Dev nD) (t : Fin cfg0.N) : Vec F S1024x128 .f32 :=
  k0_pay3 (iblk m c 0 (base t) : Vec F S1024x1024 .f32) (iblk m c 1 (base t) : Vec F S1x1024 .f32)
    (iblk m c 3 (base t) : Vec F S1024x128 .bf16)

/-- The main result's buffer after point `t`. -/
def cols (c : Dev nD) (t : Fin cfg0.N) : Vec F S1024x2048 .bf16 :=
  k0_pay4 (kept m c t) (iblk m c 2 t : Vec F S1024x2048 .bf16)

/-- The scratch memory. -/
abbrev keep : Memref sig .tc .vmem S1024x1024 .bf16 := Memref.whole cc0_scratch0

/-- The invariant before point `n`: the scratch memory at what the point before left, or anything at the start. -/
def inv (c : Dev nD) : (n : ℕ) → n ≤ cfg0.N → sProp 𝕄
  | 0, _ => Pipeline.ΦA spec0 c
  | n + 1, hn => iprop(iprop(owns (c : Thread nD τ) keep fullShare (kept m c ⟨n, hn⟩)) ∗ (∃ r, prngReg c r))

/-- The scratch memory is all of the program's scoped memory that the pipeline does not stage. -/
theorem scoped_eq (c : Dev nD) : (Pipeline.ΦA spec0 c : sProp 𝕄)
    = iprop(iprop((∃ d, owns (c : Thread nD τ) keep fullShare d)) ∗ (∃ r, prngReg c r)) := by
  unfold Pipeline.ΦA; rw [scopedRest0_eq]; simp only [keep, owns_whole]; rfl

theorem inv_pos (c : Dev nD) (n : ℕ) (h : n ≤ cfg0.N) (hz : n ≠ 0) :
    inv m c n h = iprop(iprop(owns (c : Thread nD τ) keep fullShare (kept m c ⟨n - 1, by omega⟩)) ∗ (∃ r, prngReg c r)) := by
  cases n with
  | zero => exact absurd rfl hz
  | succ n => rfl

/-- At any point the invariant gives the scratch memory at some contents. -/
theorem inv_some (c : Dev nD) (n : ℕ) (h : n ≤ cfg0.N) : inv m c n h ⊢ (Pipeline.ΦA spec0 c : sProp 𝕄) := by
  by_cases hz : n = 0
  · subst hz; exact .rfl
  · rw [inv_pos m c n h hz, scoped_eq]
    iintro ⟨HS, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols m c t
    | ⟨5, _⟩ => gates m c t
  Φ t := inv m c t.val (Nat.le_of_lt_succ t.isLt)
  q _ := fullShare
  owed _ := 0

theorem arrays (c : Dev nD) (w : Fin cfg0.W) : (dats m 0 c).A w = V m c (Pipeline.arrRef spec0 w) := by dsimp only [dats]
theorem inv_at (c : Dev nD) (t : Fin cfg0.N) : (dats m 0 c).Φ t.castSucc = inv m c t.val (Nat.le_of_lt t.isLt) := by
  dsimp only [dats]; exact Pipeline.Dat.Φ_castSucc (inv m c) t
theorem after_h (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_v (c : Dev nD) (t : Fin cfg0.N) : (dats m 0 c).after 3 t = iblk m c 3 t := by dsimp only [dats]
theorem after_o (c : Dev nD) (t : Fin cfg0.N) : (dats m 0 c).after 4 t = cols m c t := by dsimp only [dats]
theorem after_og (c : Dev nD) (t : Fin cfg0.N) : (dats m 0 c).after 5 t = gates m c t := by dsimp only [dats]
theorem before_h (c : Dev nD) (t : Fin cfg0.N) (d) : (dats m 0 c).before 0 t d = iblk m c 0 t :=
  before0_0_of m (dats m 0 c) (arrays m c 0) (after_h m c) t d
theorem before_g (c : Dev nD) (t : Fin cfg0.N) (d) : (dats m 0 c).before 1 t d = iblk m c 1 t :=
  before0_1_of m (dats m 0 c) (arrays m c 1) (after_g m c) t d
theorem before_w (c : Dev nD) (t : Fin cfg0.N) (d) : (dats m 0 c).before 2 t d = iblk m c 2 t :=
  before0_2_of m (dats m 0 c) (arrays m c 2) (after_w m c) t d
theorem before_v (c : Dev nD) (t : Fin cfg0.N) (d) : (dats m 0 c).before 3 t d = iblk m c 3 t :=
  before0_3_of m (dats m 0 c) (arrays m c 3) (after_v m c) t d

/-- The branch is taken at the first column step of a row tile. -/
theorem cond_iff : ∀ t : Fin cfg0.N, k0_cond1 (grid0.coords t) = 1#1 ↔ t.val % 3 = 0 :=
  (fun t => by
    have ht : t.val < 192 := Nat.lt_of_lt_of_eq t.isLt N_0
    have e1 : (grid0.coords t 1).val = t.val / 1 % 3 := Pipeline.Grid.coords_val t 1 (by decide) rfl
    simp only [k0_cond1, e1]
    word_cmp
   : ∀ t : Fin grid0.N, k0_cond1 (grid0.coords t) = 1#1 ↔ t.val % 3 = 0)

/-- The body stores no gates at the later column steps. -/
theorem idle_iff (t : Fin cfg0.N) : cfg0.idle 5 (cfg0.grid.coords t) = !decide (t.val % 3 = 0) := by
  have h := cond_iff t
  show (!(k0_cond1 (grid0.coords t) == 1#1)) = _
  by_cases e : t.val % 3 = 0
  · simp [e, h.mpr e]
  · have k : ¬ k0_cond1 (grid0.coords t) = 1#1 := fun k => e (h.mp k)
    simp [e, k]

/-- The gates' contents are the same all through a row tile. -/
theorem gates_later (c : Dev nD) (t s : Fin cfg0.N) (h : ¬ t.val % 3 = 0) (hs : s.val = t.val - 1) : gates m c s = gates m c t := by
  unfold gates; rw [base_later t s h hs]

/-- So are the kept rows. -/
theorem kept_later (c : Dev nD) (t s : Fin cfg0.N) (h : ¬ t.val % 3 = 0) (hs : s.val = t.val - 1) : kept m c s = kept m c t := by
  unfold kept; rw [base_later t s h hs]

/-- At a later column step the gates' buffer holds the row tile's gates. -/
theorem before_og (c : Dev nD) (n : ℕ) : ∀ (t : Fin cfg0.N), t.val % 3 = n + 1 → ∀ d, (dats m 0 c).before 5 t d = gates m c t := by
  induction n with
  | zero =>
    intro t h d
    rw [Dat.before_of_pos _ 5 t (by omega) ((cfg0.win 5).fetch_out rfl t), if_neg (fun k => by have := (flush0_5 _).mp k; dsimp only at this; omega)]
    unfold Dat.left
    rw [idle_iff, decide_eq_true (by dsimp only; omega)]
    show Dat.kept _ _ _ _ = _
    unfold Dat.kept
    rw [Pipeline.fill_of_clip_none 5 _ (fun _ => rfl) d ((dats m 0 c).after 5 _), Window.fill_cut, after_og]
    exact gates_later m c t _ (by omega) rfl
  | succ n ih =>
    intro t h d
    rw [Dat.before_of_pos _ 5 t (by omega) ((cfg0.win 5).fetch_out rfl t), if_neg (fun k => by have := (flush0_5 _).mp k; dsimp only at this; omega)]
    unfold Dat.left
    rw [idle_iff, decide_eq_false (by dsimp only; omega)]
    show (dats m 0 c).before 5 _ d = _
    rw [ih _ (by dsimp only; omega)]
    exact gates_later m c t _ (by omega) rfl

/-- At any later column step the gates' buffer holds the row tile's gates. -/
theorem before_og' (c : Dev nD) (t : Fin cfg0.N) (h : ¬ t.val % 3 = 0) (d) : (dats m 0 c).before 5 t d = gates m c t :=
  before_og m c (t.val % 3 - 1) t (by omega) d

/-- The row tile's gates are what the pipeline wants of the gates' buffer after a point. -/
theorem leave_og (c : Dev nD) (t : Fin cfg0.N) :
    owns (c : Thread nD τ) ((cfg0.win 5).stage (cfg0.slots t 5)) fullShare (gates m c t) ⊢ (dats m 0 c).leavesExact 5 t := by
  unfold Dat.leavesExact
  rw [idle_iff]
  by_cases h : t.val % 3 = 0
  · rw [decide_eq_true h, ← after_og m c t]; exact .rfl
  · rw [decide_eq_false h]
    cases (cfg0.win 5).flush t with
    | true => rw [← after_og m c t]; exact .rfl
    | false =>
      show _ ⊢ iprop(∃ d, owns (c : Thread nD τ) ((cfg0.win 5).stage (cfg0.slots t 5)) fullShare ((dats m 0 c).before 5 t d))
      simp only [before_og' m c t h]
      iintro H; iexists (gates m c t); iexact H

/-! ## The body at a point -/

/-- What the pipeline calls the body with. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 4000000 in
/-- The body at any point. -/
theorem body (c : Dev nD) (t : Fin cfg0.N) :
    pre m c t ⊢ wp frame (wpE (defs₀ (F := F)) Variants.none c none) Set.univ (bodyAt0 t) (fun _ => post m c t) := by
  unfold pre post bodyAt0
  simp only [before_h, before_g, before_w, before_v]
  rw [show (dats m 0 c).owesAt () t.succ = (dats m 0 c).owesAt () t.castSucc from rfl, after_h, after_g, after_w, after_v, after_o,
    show (dats m 0 c).Φ t.succ = iprop(iprop(owns (c : Thread nD τ) keep fullShare (kept m c t)) ∗ (∃ r, prngReg c r)) from rfl, inv_at]
  have hN : t.val < 192 := lt_of_lt_of_eq t.isLt (show cfg0.N = 192 from N_0)
  by_cases h0 : t.val % 3 = 0
  · refine (sep_mono_left (inv_some m c _ _)).trans ?_
    rw [scoped_eq]
    iintro ⟨⟨HS, Hg⟩, Ho, ⟨%d0, H0⟩, ⟨%d1, H1⟩, ⟨%d2, H2⟩, ⟨%d3, H3⟩, ⟨%d4, H4⟩, ⟨%d5, H5⟩⟩
    iapply (first c (grid0.coords t) _ _ _ _ _ _ _ _ _ _ _ _ _ _ ((cond_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    rw [cols, kept, base_first t h0]
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leave_og m c t)
    rw [gates, base_first t h0]
    iexact H5
  · rw [inv_pos m c _ _ (by omega), kept_later m c t _ h0 rfl]
    simp only [before_og' m c t h0]
    iintro ⟨⟨HS, Hg⟩, Ho, ⟨%d0, H0⟩, ⟨%d1, H1⟩, ⟨%d2, H2⟩, ⟨%d3, H3⟩, ⟨%d4, H4⟩, ⟨%d5, H5⟩⟩
    iapply (later c (grid0.coords t) _ _ _ _ _ _ _ _ _ _ _ _ _ _ (fun k => h0 ((cond_iff t).mp k)) (iblk m c 2 t) (kept m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leave_og m c t)
    iexact H5

/-- The pipeline's label runs the body. -/
theorem row (t : Fin cfg0.N) : defs₀ (F := F) .tc cfg0.body (cfg0.bodyArgs t (cfg0.slots t)) = bodyAt0 t := by
  unfold defs₀; rw [Defs.onTc_tc]

/-- The body obligation of the pipeline. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-! ## The run -/

set_option backward.isDefEq.respectTransparency.types false in
/-- Every execution ends with the arrays at what the proof data say and every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun c => .rfl) (hout := fun c => inv_some m c cfg0.N le_rfl)

/-- The frame: the argument arrays end unchanged and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) ((θ_run defs _ _).mono (fun _ h => h.1) (launch m ρ)))
    ((θ_run defs _ _).mono (fun _ h => h.2) (launch m ρ))

end Cert.SsmIn.Hand

end
-- ==== Proof.SsmSame.lean ====
module
public import proofs.«01_k».proof.Proof.SsmFrame
public import proofs.«01_k».proof.Proof.Gen.SsmInIdeal

/-! # The idealised input projection is the input projection

No replacement is made in the state-space layer's input projection, so its idealised program is the program itself, and
what is proved of a run of the one is proved of the other. -/

set_option maxRecDepth 16384

@[expose] public noncomputable section

namespace Cert.SsmIn.Hand

open Idealize Idealize.ShloMosaic Idealize.ShloMosaic.TcCoe Idealize.SL.Sem

variable {F : FTy → Type} [FloatOps F]

/-- The two programs' bodies are the same. -/
theorem bodies : Cert.SsmIn.defs₀ (F := F) = Cert.SsmInIdeal.defs₀ (F := F) := by
  unfold Cert.SsmIn.defs₀ Cert.SsmInIdeal.defs₀
  refine congrArg Defs.onTc ?_
  funext k x
  match k, x with
  | 0, (t, s) => rfl

/-- The two programs' definitions are the same. -/
theorem same : Cert.SsmIn.defs (F := F) = Cert.SsmInIdeal.defs (F := F) := by
  unfold Cert.SsmIn.defs Cert.SsmInIdeal.defs
  exact congrArg (Pipeline.defs Cert.SsmIn.pcfgs) bodies

/-- A run of the program is a run of the idealised program. -/
theorem carry (s : MemSt Cert.SsmIn.nD Cert.SsmIn.τ Cert.SsmIn.sig (Elt F))
    (post : PUnit × MemSt Cert.SsmIn.nD Cert.SsmIn.τ Cert.SsmIn.sig (Elt F) → Prop)
    (h : θ_run (Cert.SsmIn.defs (F := F)) (onTc (τ := Cert.SsmIn.τ) (Cert.SsmIn.main (F := F))) s post) :
    θ_run (Cert.SsmInIdeal.defs (F := F)) (onTc (τ := Cert.SsmInIdeal.τ) (Cert.SsmInIdeal.main (F := F))) s post := by
  rw [same] at h
  exact h

end Cert.SsmIn.Hand

end
-- ==== Proof.SsmPoint.lean ====
module

public import proofs.«01_k».proof.Proof.PostOps
public import proofs.«01_k».proof.Proof.SsmFrame
public import proofs.«01_k».proof.Proof.Gen.SsmInRefIdeal.Read
public import Idealize.ShloMosaic.Lib.Pointwise
public import Idealize.ShloMosaic.Lib.Pipeline.ValueKit
public import Idealize.ShloMosaic.Lib.Pipeline.ReadBack

/-! The state-space layer's input projection: the blocks the kernel reads, the arrays its grid points fill, and the reference at an index. -/

set_option maxRecDepth 16384

@[expose] public noncomputable section

namespace Cert.SsmIn.Val

open Idealize Idealize.ShloMosaic Idealize.ShloMosaic.TcCoe Idealize.SL.Sem Cert.SsmIn Cert.SsmIn.Gen Cert.SsmIn.Hand Cert.Post
open Cert.PostIdeal.Val (bits_zero)

/-- Where each window's block lies at a grid point, a point being a row tile and a column tile. -/
theorem where_blk : ∀ t : Fin grid0.N, win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![t.val / 3, 0] := by decide +kernel

/-- The padding value is zero. -/
theorem pad_zero : (FloatOps.sitofp .f32 (0#32) : Ideal .f32) = (0 : EReal) := by
  show (((0#32).toInt : ℝ) : EReal) = 0
  simp

/-- An array's entry past its last column. -/
theorem tab2_past {M N : ℕ} (x : Shape.Idx ⟨2, ![M, N]⟩ → EReal) (i k : ℕ) (h : N ≤ k) : tab2 x i k = 0 := dif_neg fun hk => by omega

/-- A product's entry past the weights' last column. -/
theorem proj_past {N : ℕ} (x : ℕ → ℕ → EReal) (g : ℕ → EReal) (w : Shape.Idx ⟨2, ![1024, N]⟩ → EReal) (i k : ℕ) (h : N ≤ k) : proj x g (tab2 w) i k = 0 := by
  unfold proj dot
  exact Finset.sum_eq_zero fun a _ => by rw [tab2_past w _ _ h, mul_zero]

variable (m : (ℓ : Loc nD τ sig) → Buf (Elt Ideal) ℓ) (c : Dev nD)

/-- The tokens. -/
abbrev tok : ℕ → ℕ → EReal := tab2 (M := 65536) (N := 1024) (m ((c : Thread nD τ).loc main_arg0))
/-- The gain. -/
abbrev gain : ℕ → EReal := tab1 (M := 1024) (m ((c : Thread nD τ).loc main_arg1))
/-- The weights. -/
abbrev wts : ℕ → ℕ → EReal := tab2 (M := 1024) (N := 6176) (m ((c : Thread nD τ).loc main_arg2))

/-- The main columns as an array. -/
def mainArr : S65536x6144.Idx → EReal := fun i => proj (tok m c) (gain m c) (wts m c) (i 0).val (i 1).val

/-- The gates as an array, zero past the last gate. -/
def gateArr : S65536x128.Idx → EReal := fun i => proj (tok m c) (gain m c) (wts m c) (i 0).val (6144 + (i 1).val)

variable (t : Fin cfg0.N)

theorem blk0_at (i k : Fin 1024) : (iblk m c 0 t : Vec Ideal S1024x1024 .f32) (ix2 i k) = tok m c (1024 * (t.val / 3) + i.val) k.val := by
  have ht : t.val < 192 := t.isLt
  have e : (iblk m c 0 t : Vec Ideal S1024x1024 .f32) (ix2 i k) = V m c main_arg0 (ix2 ⟨1024 * (t.val / 3) + i.val, by omega⟩ k) := by blk_ext [iblk, (where_blk t).1]
  rw [e, V_main_arg0]
  exact tab2_at _ _ _

theorem blk1_at (k : Fin 1024) : (iblk m c 1 t : Vec Ideal S1x1024 .f32) (ix2 (0 : Fin 1) k) = gain m c k.val := by
  have e : (iblk m c 1 t : Vec Ideal S1x1024 .f32) (ix2 (0 : Fin 1) k) = V m c main_v5 (ix2 (0 : Fin 1) k) := by blk_ext [iblk, (where_blk t).2.1]
  rw [e]
  simp only [V, hostOps0, hostOps0_1, hostOps0_2, List.flatten_cons, List.flatten_nil, List.append_nil, List.cons_append, List.nil_append]
  after_results
  pointwise []
  exact tab1_at _ k

theorem blk2_at (i : Fin 1024) (k : Fin 2048) : (iblk m c 2 t : Vec Ideal S1024x2048 .bf16) (ix2 i k) = wts m c i.val (2048 * (t.val % 3) + k.val) := by
  have e : (iblk m c 2 t : Vec Ideal S1024x2048 .bf16) (ix2 i k) = V m c main_v1 (ix2 i ⟨2048 * (t.val % 3) + k.val, by omega⟩) := by blk_ext [iblk, (where_blk t).2.2.1]
  rw [e]
  simp only [V, hostOps0, hostOps0_1, hostOps0_2, List.flatten_cons, List.flatten_nil, List.append_nil, List.cons_append, List.nil_append]
  after_results
  pointwise []
  exact tab2_at _ _ _

theorem blk3_at (i : Fin 1024) (k : Fin 128) : (iblk m c 3 t : Vec Ideal S1024x128 .bf16) (ix2 i k) = wts m c i.val (6144 + k.val) := by
  have e : (iblk m c 3 t : Vec Ideal S1024x128 .bf16) (ix2 i k) = V m c main_v4 (ix2 i k) := by blk_ext [iblk, (where_blk t).2.2.2.1]
  rw [e]
  simp only [V, hostOps0, hostOps0_1, hostOps0_2, List.flatten_cons, List.flatten_nil, List.append_nil, List.cons_append, List.nil_append]
  after_results
  change (truncf .bf16 (pad S1024x128 ![0, 0] ![0, 96] ![0, 0] (extractStridedSlice S1024x32 ![0, 6144] (m ((c : Thread nD τ).loc main_arg2) : FVec Ideal S1024x6176 .f32) slices_S1024x6176_S1024x32_0_6144)
    (sitofp .f32 (constantI S_ 32 0#32)) pads_S1024x32_S1024x128_000_0960 h_S_) bitsLt_bf16_f32 : FVec Ideal S1024x128 .bf16) (ix2 i k) = _
  pointwise []
  split_ifs with h
  · exact tab2_at _ _ _
  · rw [pad_zero]; exact (tab2_past _ _ _ (by omega)).symm

/-- The reference's normalised rows at an index. -/
theorem ref_norm (x : FVec Ideal S65536x1024 .f32) (g : FVec Ideal S1024 .f32) (r : Fin 65536) (k : Fin 1024) :
    (Cert.SsmInRefIdeal.Read.val_main_v12 (F := Ideal) x g : FVec Ideal S65536x1024 .f32) (ix2 r k) = rms (tab2 x r.val) (tab1 g) k.val := by
  have hx := fun i k => tab2_at x i k
  have hg := fun k => tab1_at g k
  pointwise [Cert.SsmInRefIdeal.Read.val_main_v12, Cert.SsmInRefIdeal.Read.val_main_v11, Cert.SsmInRefIdeal.Read.val_main_v10, Cert.SsmInRefIdeal.Read.val_main_v9,
    Cert.SsmInRefIdeal.Read.val_main_v8, Cert.SsmInRefIdeal.Read.val_main_v7, Cert.SsmInRefIdeal.Read.val_main_v6, Cert.SsmInRefIdeal.Read.val_main_v5,
    Cert.SsmInRefIdeal.Read.val_main_v4, Cert.SsmInRefIdeal.Read.val_main_v3, Cert.SsmInRefIdeal.Read.val_main_v2, Cert.SsmInRefIdeal.Read.val_main_v1,
    Cert.SsmInRefIdeal.Read.val_main_v0, Cert.SsmInRefIdeal.Read.val_main_cst, Cert.SsmInRefIdeal.Read.val_main_cst_0, Cert.SsmInRefIdeal.Read.val_main_cst_1, hx, hg, bits_zero]
  rfl

/-- The reference's columns at an index. -/
theorem ref_col (x : FVec Ideal S65536x1024 .f32) (g : FVec Ideal S1024 .f32) (w : FVec Ideal S1024x6176 .f32) (r : Fin 65536) (j : Fin 6176) :
    (Cert.SsmInRefIdeal.Read.val_main_v13 (F := Ideal) x g w : FVec Ideal Cert.SsmInRefIdeal.S65536x6176 .f32) (ix2 r j) = proj (tab2 x) (tab1 g) (tab2 w) r.val j.val := by
  have hn := fun k => ref_norm x g r k
  have hw := fun i k => tab2_at w i k
  pointwise [Cert.SsmInRefIdeal.Read.val_main_v13, hn, hw]
  rfl

/-- The reference's main columns at an index. -/
theorem ref_main (x : FVec Ideal S65536x1024 .f32) (g : FVec Ideal S1024 .f32) (w : FVec Ideal S1024x6176 .f32) (r : Fin 65536) (j : Fin 6144) :
    (Cert.SsmInRefIdeal.Read.val_main_v15 (F := Ideal) x g w : FVec Ideal S65536x6144 .bf16) (ix2 r j) = proj (tab2 x) (tab1 g) (tab2 w) r.val j.val := by
  have h := fun r j => ref_col x g w r j
  pointwise [Cert.SsmInRefIdeal.Read.val_main_v15, Cert.SsmInRefIdeal.Read.val_main_v14, h]

/-- The reference's gates at an index. -/
theorem ref_gate (x : FVec Ideal S65536x1024 .f32) (g : FVec Ideal S1024 .f32) (w : FVec Ideal S1024x6176 .f32) (r : Fin 65536) (j : Fin 128) :
    (Cert.SsmInRefIdeal.Read.val_main_v17 (F := Ideal) x g w : FVec Ideal S65536x128 .f32) (ix2 r j) = proj (tab2 x) (tab1 g) (tab2 w) r.val (6144 + j.val) := by
  have h := fun r j => ref_col x g w r j
  pointwise [Cert.SsmInRefIdeal.Read.val_main_v17, Cert.SsmInRefIdeal.Read.val_main_v16, Cert.SsmInRefIdeal.Read.val_main_call0_v0, Cert.SsmInRefIdeal.Read.val_main_c, h]
  split_ifs with h
  · rfl
  · rw [pad_zero, proj_past (tab2 x) (tab1 g) w r.val (6144 + j.val) (by omega)]

/-- A block's normalised rows. -/
theorem norm_at (x : FVec Ideal S1024x1024 .f32) (g : FVec Ideal S1x1024 .f32) (r j : Fin 1024) (X G : ℕ → EReal)
    (hx : ∀ j, x (ix2 r j) = X j.val) (hg : ∀ j, g (ix2 0 j) = G j.val) : (k0_pay1 x g : FVec Ideal S1024x1024 .bf16) (ix2 r j) = rms X G j.val := by
  pointwise [k0_pay1, hx, hg]
  rfl

/-- The normalised rows of a point's row tile. -/
theorem rows_at (r k : Fin 1024) :
    (k0_pay1 (iblk m c 0 (base t)) (iblk m c 1 (base t)) : FVec Ideal S1024x1024 .bf16) (ix2 r k) = rms (tok m c (1024 * (t.val / 3) + r.val)) (gain m c) k.val := by
  have e : (base t).val / 3 = t.val / 3 := by simp only [base]; omega
  rw [← e]
  exact norm_at (iblk m c 0 (base t)) (iblk m c 1 (base t)) r k _ _ (blk0_at m c (base t) r) (blk1_at m c (base t))

/-- THE MAIN COLUMNS the kernel leaves. -/
theorem result_main : (dats m 0 c).arrAt 4 cfg0.N = mainArr m c := by
  refine (dats m 0 c).arrAt_eq_of_covers 4 _ (by decide +kernel) fun t hf y => ?_
  blk_simp
  rw [after_o]
  obtain ⟨r, j, rfl⟩ : ∃ (r : Fin 1024) (j : Fin 2048), y = ix2 r j := ⟨y 0, y 1, by funext a; match a with | ⟨0, _⟩ => rfl | ⟨1, _⟩ => rfl⟩
  have hn := fun k => rows_at m c t r k
  have hp : (cols m c t : FVec Ideal S1024x2048 .bf16) (ix2 r j)
      = proj (tok m c) (gain m c) (wts m c) (1024 * (t.val / 3) + r.val) (2048 * (t.val % 3) + j.val) := by
    pointwise [cols, kept, k0_pay2, k0_pay4, hn, blk2_at]
    rfl
  refine hp.trans ?_
  unfold mainArr
  blk_simp [(where_blk t).2.2.2.2.1]
  simp only [mul_comm]

/-- THE GATES the kernel leaves. -/
theorem result_gate : (dats m 0 c).arrAt 5 cfg0.N = gateArr m c := by
  refine (dats m 0 c).arrAt_eq_of_covers 5 _ (by decide +kernel) fun t hf y => ?_
  blk_simp
  rw [after_og]
  obtain ⟨r, j, rfl⟩ : ∃ (r : Fin 1024) (j : Fin 128), y = ix2 r j := ⟨y 0, y 1, by funext a; match a with | ⟨0, _⟩ => rfl | ⟨1, _⟩ => rfl⟩
  have hn := fun k => rows_at m c t r k
  have hp : (gates m c t : FVec Ideal S1024x128 .f32) (ix2 r j)
      = proj (tok m c) (gain m c) (wts m c) (1024 * (t.val / 3) + r.val) (6144 + j.val) := by
    pointwise [gates, k0_pay3, hn, blk3_at]
    rfl
  refine hp.trans ?_
  unfold gateArr
  blk_simp [(where_blk t).2.2.2.2.2]
  simp only [mul_comm]

/-- The arrays every execution of the kernel leaves. -/
theorem results (ρ : Dev nD → PrngReg) : θ_run defs (onTc (τ := τ) (main (F := Ideal))) ⟨m, fun _ => 0, ρ⟩ (fun r => ∀ c : Dev nD,
      r.2.mem ((c.tc : Thread nD τ).loc main_v6_0) = mainArr m c
      ∧ r.2.mem ((c.tc : Thread nD τ).loc main_v6_1) = gateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 4).trans (result_main m c), ((h.1.1 c).1 5).trans (result_gate m c), h.2.1 c⟩)
    (θ_run_and (launch m ρ) (run m ρ))

end Cert.SsmIn.Val

end
-- ==== Proof.EvenFrame.lean ====
module
public import proofs.«01_k».proof.Proof.Gen.EvenIn.Launch
public import proofs.«01_k».proof.Proof.Gen.EvenIn.Skeleton
public import proofs.«01_k».proof.Proof.Gen.EvenIn.Points
public import proofs.«01_k».proof.Proof.Gen.EvenIn.Frame
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

/-! # The run of an even layer's input projection

As for the state-space layer, with two column steps to a row tile: the first normalises the row tile into scratch memory
and writes the gates, the second leaves the gates' buffer as it found it and writes it back.  The proof data are again
functions of the row tile and of the step's columns. -/

set_option maxRecDepth 16384

@[expose] public noncomputable section

namespace Cert.EvenIn.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIn Cert.EvenIn.Gen

variable {F : FTy → Type} [FloatOps F]

/-- The resource algebra of the run. -/
local notation "𝕄" => MT nD τ sig Unit (Elt F) ℕ (UR sig nD τ) ℕ

variable (m : (ℓ : Loc nD τ sig) → Buf (Elt F) ℓ) (ρ : Dev nD → PrngReg)

/-! ## The body in its two cases -/

/-- The body at a row tile's first column step: it stores the normalised rows, the gates and the product. -/
theorem first (c : Dev nD) (i : grid0.Coords)
    (h : Memref sig .tc .vmem S1024x1024 .f32) (hh : h.IsWhole) (g : Memref sig .tc .vmem S1x1024 .f32) (hg : g.IsWhole)
    (w : Memref sig .tc .vmem S1024x1536 .bf16) (hw : w.IsWhole) (v : Memref sig .tc .vmem S1024x640 .bf16) (hv : v.IsWhole)
    (o : Memref sig .tc .vmem S1024x1536 .bf16) (ho : o.IsWhole) (og : Memref sig .tc .vmem S1024x640 .f32) (hog : og.IsWhole)
    (s : Memref sig .tc .vmem S1024x1024 .bf16) (hs : s.IsWhole) (hc : k0_cond1 i = 1#1)
    (x0 : Vec F S1024x1024 .f32) (x1 : Vec F S1x1024 .f32) (x2 : Vec F S1024x1536 .bf16) (x3 : Vec F S1024x640 .bf16)
    (E : Set ℕ) (K : PUnit → sProp 𝕄) :
    iprop(owns (c : Thread nD τ) h fullShare x0 ∗ owns (c : Thread nD τ) g fullShare x1 ∗ owns (c : Thread nD τ) w fullShare x2
        ∗ owns (c : Thread nD τ) v fullShare x3 ∗ (∃ d, owns (c : Thread nD τ) o fullShare d) ∗ (∃ d, owns (c : Thread nD τ) og fullShare d)
        ∗ (∃ d, owns (c : Thread nD τ) s fullShare d)
        ∗ (iprop(owns (c : Thread nD τ) h fullShare x0 ∗ owns (c : Thread nD τ) g fullShare x1 ∗ owns (c : Thread nD τ) w fullShare x2
            ∗ owns (c : Thread nD τ) v fullShare x3 ∗ owns (c : Thread nD τ) o fullShare (k0_pay4 (k0_pay2 x0 x1) x2)
            ∗ owns (c : Thread nD τ) og fullShare (k0_pay3 x0 x1 x3) ∗ owns (c : Thread nD τ) s fullShare (k0_pay2 x0 x1)) -∗ K ⟨⟩))
      ⊢ wp frame (wpE (defs₀ (F := F)) Variants.none c none) E (cc0_norm_proj i h hh g hg w hw v hv o ho og hog s hs) K := by
  simp only [cc0_norm_proj_eq_skeleton]; unfold cc0_norm_proj_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, Hk⟩
  obtain rfl := hh.eq_unread e0; obtain rfl := hg.eq_unread e1; obtain rfl := hw.eq_unread e2; obtain rfl := hv.eq_unread e3
  sl_exec (disch := first | sl_exact hc)
  sl_step
  iapply Hk
  isplitl [H0]
  · iexists _; isplitr; · ipureintro; exact hh.read_unread _
    iexact H0
  isplitl [H1]
  · iexists _; isplitr; · ipureintro; exact hg.read_unread _
    iexact H1
  isplitl [H2]
  · iexists _; isplitr; · ipureintro; exact hw.read_unread _
    iexact H2
  isplitl [H3]
  · iexists _; isplitr; · ipureintro; exact hv.read_unread _
    iexact H3
  isplitl [H4]
  · iexists _; isplitr
    swap; · iexact H4
    ipureintro
    refine (View.read_writes_of_cover _ _ o.view o.view.junk _ (View.cover_of_tiledL _ S1024x1536.size (by sl_kernel_rfl))).trans ?_
    frame_out
  isplitl [H5]
  · iexists _; isplitr
    swap; · iexact H5
    ipureintro
    refine (View.read_writes_of_cover _ _ og.view og.view.junk _ (View.cover_of_tiledL _ S1024x640.size (by sl_kernel_rfl))).trans ?_
    frame_out
  · iexists _; isplitr
    swap; · iexact H6
    ipureintro
    refine (View.read_writes_of_cover _ _ s.view s.view.junk _ (View.cover_of_tiledL _ S1024x1024.size (by sl_kernel_rfl))).trans ?_
    frame_out

/-- The body at a later column step: it stores the product with the kept rows and leaves the gates alone. -/
theorem later (c : Dev nD) (i : grid0.Coords)
    (h : Memref sig .tc .vmem S1024x1024 .f32) (hh : h.IsWhole) (g : Memref sig .tc .vmem S1x1024 .f32) (hg : g.IsWhole)
    (w : Memref sig .tc .vmem S1024x1536 .bf16) (hw : w.IsWhole) (v : Memref sig .tc .vmem S1024x640 .bf16) (hv : v.IsWhole)
    (o : Memref sig .tc .vmem S1024x1536 .bf16) (ho : o.IsWhole) (og : Memref sig .tc .vmem S1024x640 .f32) (hog : og.IsWhole)
    (s : Memref sig .tc .vmem S1024x1024 .bf16) (hs : s.IsWhole) (hc : ¬ k0_cond1 i = 1#1)
    (x2 : Vec F S1024x1536 .bf16) (k : Vec F S1024x1024 .bf16) (E : Set ℕ) (K : PUnit → sProp 𝕄) :
    iprop(owns (c : Thread nD τ) w fullShare x2 ∗ (∃ d, owns (c : Thread nD τ) o fullShare d) ∗ owns (c : Thread nD τ) s fullShare k
        ∗ (iprop(owns (c : Thread nD τ) w fullShare x2 ∗ owns (c : Thread nD τ) o fullShare (k0_pay4 k x2)
            ∗ owns (c : Thread nD τ) s fullShare k) -∗ K ⟨⟩))
      ⊢ wp frame (wpE (defs₀ (F := F)) Variants.none c none) E (cc0_norm_proj i h hh g hg w hw v hv o ho og hog s hs) K := by
  simp only [cc0_norm_proj_eq_skeleton]; unfold cc0_norm_proj_skel
  unfold owns
  iintro ⟨⟨%f2, %e2, H2⟩, ⟨%d4, %f4, -, H4⟩, ⟨%f6, %e6, H6⟩, Hk⟩
  obtain rfl := hw.eq_unread e2; obtain rfl := hs.eq_unread e6
  sl_exec (disch := first | sl_exact hc)
  sl_step
  iapply Hk
  isplitl [H2]
  · iexists _; isplitr; · ipureintro; exact hw.read_unread _
    iexact H2
  isplitl [H4]
  · iexists _; isplitr
    swap; · iexact H4
    ipureintro
    refine (View.read_writes_of_cover _ _ o.view o.view.junk _ (View.cover_of_tiledL _ S1024x1536.size (by sl_kernel_rfl))).trans ?_
    frame_out
  · iexists _; isplitr; · ipureintro; exact hs.read_unread _
    iexact H6

/-! ## What the buffers hold after each point -/

/-- The first point of the row tile of point `t`. -/
def base (t : Fin cfg0.N) : Fin cfg0.N := ⟨t.val - t.val % 2, lt_of_le_of_lt (Nat.sub_le _ _) t.isLt⟩

/-- At a row tile's first point the tile's first point is the point. -/
theorem base_first (t : Fin cfg0.N) (h : t.val % 2 = 0) : base t = t := Fin.ext (by simp only [base]; omega)

/-- A later point of a row tile has the first point of the point before it. -/
theorem base_later (t s : Fin cfg0.N) (h : ¬ t.val % 2 = 0) (hs : s.val = t.val - 1) : base s = base t :=
  Fin.ext (by simp only [base, hs]; omega)

/-- The normalised rows the scratch memory keeps at point `t`. -/
def kept (c : Dev nD) (t : Fin cfg0.N) : Vec F S1024x1024 .bf16 :=
  k0_pay2 (iblk m c 0 (base t) : Vec F S1024x1024 .f32) (iblk m c 1 (base t) : Vec F S1x1024 .f32)

/-- The gates' buffer after point `t`. -/
def gates (c : Dev nD) (t : Fin cfg0.N) : Vec F S1024x640 .f32 :=
  k0_pay3 (iblk m c 0 (base t) : Vec F S1024x1024 .f32) (iblk m c 1 (base t) : Vec F S1x1024 .f32)
    (iblk m c 3 (base t) : Vec F S1024x640 .bf16)

/-- The main result's buffer after point `t`. -/
def cols (c : Dev nD) (t : Fin cfg0.N) : Vec F S1024x1536 .bf16 :=
  k0_pay4 (kept m c t) (iblk m c 2 t : Vec F S1024x1536 .bf16)

/-- The scratch memory. -/
abbrev keep : Memref sig .tc .vmem S1024x1024 .bf16 := Memref.whole cc0_scratch0

/-- The invariant before point `n`: the scratch memory at what the point before left, or anything at the start. -/
def inv (c : Dev nD) : (n : ℕ) → n ≤ cfg0.N → sProp 𝕄
  | 0, _ => Pipeline.ΦA spec0 c
  | n + 1, hn => iprop(iprop(owns (c : Thread nD τ) keep fullShare (kept m c ⟨n, hn⟩)) ∗ (∃ r, prngReg c r))

/-- The scratch memory is all of the program's scoped memory that the pipeline does not stage. -/
theorem scoped_eq (c : Dev nD) : (Pipeline.ΦA spec0 c : sProp 𝕄)
    = iprop(iprop((∃ d, owns (c : Thread nD τ) keep fullShare d)) ∗ (∃ r, prngReg c r)) := by
  unfold Pipeline.ΦA; rw [scopedRest0_eq]; simp only [keep, owns_whole]; rfl

theorem inv_pos (c : Dev nD) (n : ℕ) (h : n ≤ cfg0.N) (hz : n ≠ 0) :
    inv m c n h = iprop(iprop(owns (c : Thread nD τ) keep fullShare (kept m c ⟨n - 1, by omega⟩)) ∗ (∃ r, prngReg c r)) := by
  cases n with
  | zero => exact absurd rfl hz
  | succ n => rfl

/-- At any point the invariant gives the scratch memory at some contents. -/
theorem inv_some (c : Dev nD) (n : ℕ) (h : n ≤ cfg0.N) : inv m c n h ⊢ (Pipeline.ΦA spec0 c : sProp 𝕄) := by
  by_cases hz : n = 0
  · subst hz; exact .rfl
  · rw [inv_pos m c n h hz, scoped_eq]
    iintro ⟨HS, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols m c t
    | ⟨5, _⟩ => gates m c t
  Φ t := inv m c t.val (Nat.le_of_lt_succ t.isLt)
  q _ := fullShare
  owed _ := 0

theorem arrays (c : Dev nD) (w : Fin cfg0.W) : (dats m 0 c).A w = V m c (Pipeline.arrRef spec0 w) := by dsimp only [dats]
theorem inv_at (c : Dev nD) (t : Fin cfg0.N) : (dats m 0 c).Φ t.castSucc = inv m c t.val (Nat.le_of_lt t.isLt) := by
  dsimp only [dats]; exact Pipeline.Dat.Φ_castSucc (inv m c) t
theorem after_h (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_v (c : Dev nD) (t : Fin cfg0.N) : (dats m 0 c).after 3 t = iblk m c 3 t := by dsimp only [dats]
theorem after_o (c : Dev nD) (t : Fin cfg0.N) : (dats m 0 c).after 4 t = cols m c t := by dsimp only [dats]
theorem after_og (c : Dev nD) (t : Fin cfg0.N) : (dats m 0 c).after 5 t = gates m c t := by dsimp only [dats]
theorem before_h (c : Dev nD) (t : Fin cfg0.N) (d) : (dats m 0 c).before 0 t d = iblk m c 0 t :=
  before0_0_of m (dats m 0 c) (arrays m c 0) (after_h m c) t d
theorem before_g (c : Dev nD) (t : Fin cfg0.N) (d) : (dats m 0 c).before 1 t d = iblk m c 1 t :=
  before0_1_of m (dats m 0 c) (arrays m c 1) (after_g m c) t d
theorem before_w (c : Dev nD) (t : Fin cfg0.N) (d) : (dats m 0 c).before 2 t d = iblk m c 2 t :=
  before0_2_of m (dats m 0 c) (arrays m c 2) (after_w m c) t d
theorem before_v (c : Dev nD) (t : Fin cfg0.N) (d) : (dats m 0 c).before 3 t d = iblk m c 3 t :=
  before0_3_of m (dats m 0 c) (arrays m c 3) (after_v m c) t d

/-- The branch is taken at the first column step of a row tile. -/
theorem cond_iff : ∀ t : Fin cfg0.N, k0_cond1 (grid0.coords t) = 1#1 ↔ t.val % 2 = 0 :=
  (fun t => by
    have ht : t.val < 128 := Nat.lt_of_lt_of_eq t.isLt N_0
    have e1 : (grid0.coords t 1).val = t.val / 1 % 2 := Pipeline.Grid.coords_val t 1 (by decide) rfl
    simp only [k0_cond1, e1]
    word_cmp
   : ∀ t : Fin grid0.N, k0_cond1 (grid0.coords t) = 1#1 ↔ t.val % 2 = 0)

/-- The body stores no gates at the later column steps. -/
theorem idle_iff (t : Fin cfg0.N) : cfg0.idle 5 (cfg0.grid.coords t) = !decide (t.val % 2 = 0) := by
  have h := cond_iff t
  show (!(k0_cond1 (grid0.coords t) == 1#1)) = _
  by_cases e : t.val % 2 = 0
  · simp [e, h.mpr e]
  · have k : ¬ k0_cond1 (grid0.coords t) = 1#1 := fun k => e (h.mp k)
    simp [e, k]

/-- The gates' contents are the same all through a row tile. -/
theorem gates_later (c : Dev nD) (t s : Fin cfg0.N) (h : ¬ t.val % 2 = 0) (hs : s.val = t.val - 1) : gates m c s = gates m c t := by
  unfold gates; rw [base_later t s h hs]

/-- So are the kept rows. -/
theorem kept_later (c : Dev nD) (t s : Fin cfg0.N) (h : ¬ t.val % 2 = 0) (hs : s.val = t.val - 1) : kept m c s = kept m c t := by
  unfold kept; rw [base_later t s h hs]

/-- At the second column step the gates' buffer holds the row tile's gates. -/
theorem before_og' (c : Dev nD) (t : Fin cfg0.N) (h : ¬ t.val % 2 = 0) (d) : (dats m 0 c).before 5 t d = gates m c t := by
  rw [Dat.before_of_pos _ 5 t (by omega) ((cfg0.win 5).fetch_out rfl t), if_neg (fun k => by have := (flush0_5 _).mp k; dsimp only at this; omega)]
  unfold Dat.left
  rw [idle_iff, decide_eq_true (by dsimp only; omega)]
  show Dat.kept _ _ _ _ = _
  unfold Dat.kept
  rw [Pipeline.fill_of_clip_none 5 _ (fun _ => rfl) d ((dats m 0 c).after 5 _), Window.fill_cut, after_og]
  exact gates_later m c t _ h rfl

/-- The row tile's gates are what the pipeline wants of the gates' buffer after a point. -/
theorem leave_og (c : Dev nD) (t : Fin cfg0.N) :
    owns (c : Thread nD τ) ((cfg0.win 5).stage (cfg0.slots t 5)) fullShare (gates m c t) ⊢ (dats m 0 c).leavesExact 5 t := by
  unfold Dat.leavesExact
  rw [idle_iff, ← after_og m c t]
  by_cases h : t.val % 2 = 0
  · rw [decide_eq_true h]; exact .rfl
  · rw [decide_eq_false h, (flush0_5 t).mpr (by omega)]; exact .rfl

/-! ## The body at a point -/

/-- What the pipeline calls the body with. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 4000000 in
/-- The body at any point. -/
theorem body (c : Dev nD) (t : Fin cfg0.N) :
    pre m c t ⊢ wp frame (wpE (defs₀ (F := F)) Variants.none c none) Set.univ (bodyAt0 t) (fun _ => post m c t) := by
  unfold pre post bodyAt0
  simp only [before_h, before_g, before_w, before_v]
  rw [show (dats m 0 c).owesAt () t.succ = (dats m 0 c).owesAt () t.castSucc from rfl, after_h, after_g, after_w, after_v, after_o,
    show (dats m 0 c).Φ t.succ = iprop(iprop(owns (c : Thread nD τ) keep fullShare (kept m c t)) ∗ (∃ r, prngReg c r)) from rfl, inv_at]
  have hN : t.val < 128 := lt_of_lt_of_eq t.isLt (show cfg0.N = 128 from N_0)
  by_cases h0 : t.val % 2 = 0
  · refine (sep_mono_left (inv_some m c _ _)).trans ?_
    rw [scoped_eq]
    iintro ⟨⟨HS, Hg⟩, Ho, ⟨%d0, H0⟩, ⟨%d1, H1⟩, ⟨%d2, H2⟩, ⟨%d3, H3⟩, ⟨%d4, H4⟩, ⟨%d5, H5⟩⟩
    iapply (first c (grid0.coords t) _ _ _ _ _ _ _ _ _ _ _ _ _ _ ((cond_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    rw [cols, kept, base_first t h0]
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leave_og m c t)
    rw [gates, base_first t h0]
    iexact H5
  · rw [inv_pos m c _ _ (by omega), kept_later m c t _ h0 rfl]
    simp only [before_og' m c t h0]
    iintro ⟨⟨HS, Hg⟩, Ho, ⟨%d0, H0⟩, ⟨%d1, H1⟩, ⟨%d2, H2⟩, ⟨%d3, H3⟩, ⟨%d4, H4⟩, ⟨%d5, H5⟩⟩
    iapply (later c (grid0.coords t) _ _ _ _ _ _ _ _ _ _ _ _ _ _ (fun k => h0 ((cond_iff t).mp k)) (iblk m c 2 t) (kept m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leave_og m c t)
    iexact H5

/-- The pipeline's label runs the body. -/
theorem row (t : Fin cfg0.N) : defs₀ (F := F) .tc cfg0.body (cfg0.bodyArgs t (cfg0.slots t)) = bodyAt0 t := by
  unfold defs₀; rw [Defs.onTc_tc]

/-- The body obligation of the pipeline. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-! ## The run -/

set_option backward.isDefEq.respectTransparency.types false in
/-- Every execution ends with the arrays at what the proof data say and every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun c => .rfl) (hout := fun c => inv_some m c cfg0.N le_rfl)

/-- The frame: the argument arrays end unchanged and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) ((θ_run defs _ _).mono (fun _ h => h.1) (launch m ρ)))
    ((θ_run defs _ _).mono (fun _ h => h.2) (launch m ρ))

end Cert.EvenIn.Hand

end
-- ==== Proof.EvenSame.lean ====
module
public import proofs.«01_k».proof.Proof.EvenFrame
public import proofs.«01_k».proof.Proof.Gen.EvenInIdeal

/-! # The idealised input projection of an even layer is the input projection

As for the state-space layer: no replacement is made, so the two programs are the same. -/

set_option maxRecDepth 16384

@[expose] public noncomputable section

namespace Cert.EvenIn.Hand

open Idealize Idealize.ShloMosaic Idealize.ShloMosaic.TcCoe Idealize.SL.Sem

variable {F : FTy → Type} [FloatOps F]

/-- The two programs' bodies are the same. -/
theorem bodies : Cert.EvenIn.defs₀ (F := F) = Cert.EvenInIdeal.defs₀ (F := F) := by
  unfold Cert.EvenIn.defs₀ Cert.EvenInIdeal.defs₀
  refine congrArg Defs.onTc ?_
  funext k x
  match k, x with
  | 0, (t, s) => rfl

/-- The two programs' definitions are the same. -/
theorem same : Cert.EvenIn.defs (F := F) = Cert.EvenInIdeal.defs (F := F) := by
  unfold Cert.EvenIn.defs Cert.EvenInIdeal.defs
  exact congrArg (Pipeline.defs Cert.EvenIn.pcfgs) bodies

/-- A run of the program is a run of the idealised program. -/
theorem carry (s : MemSt Cert.EvenIn.nD Cert.EvenIn.τ Cert.EvenIn.sig (Elt F))
    (post : PUnit × MemSt Cert.EvenIn.nD Cert.EvenIn.τ Cert.EvenIn.sig (Elt F) → Prop)
    (h : θ_run (Cert.EvenIn.defs (F := F)) (onTc (τ := Cert.EvenIn.τ) (Cert.EvenIn.main (F := F))) s post) :
    θ_run (Cert.EvenInIdeal.defs (F := F)) (onTc (τ := Cert.EvenInIdeal.τ) (Cert.EvenInIdeal.main (F := F))) s post := by
  rw [same] at h
  exact h

end Cert.EvenIn.Hand

end
-- ==== Proof.GatesMath.lean ====
module

public import proofs.«01_k».proof.Proof.Gen.GatesRefIdeal.Read
public import Idealize.ShloMosaic.Lib.Pointwise

/-! Sums of log-sigmoids over the positions so far, as the forgetting attention's gates need them. -/

set_option maxRecDepth 16384

@[expose] public noncomputable section

namespace Cert.Gates.Sum

open Idealize Idealize.ShloMosaic

/-- The log of the sigmoid. -/
def ls (x : EReal) : EReal := min x 0 - Ideal.log (1 + Ideal.exp (0 - max x (-x)))

/-- The log-sigmoids of the first positions, added up. -/
def run (X : ℕ → EReal) (n : ℕ) : EReal := ∑ s ∈ Finset.range n, ls (X s)

/-- One over the log of two. -/
def unit : EReal := (((Real.log 2)⁻¹ : ℝ) : EReal)

/-- A tile's positions up to one of them, after the positions before the tile. -/
theorem run_tile (X : ℕ → EReal) (o r : ℕ) (hr : r < 256) :
    (∑ k : Fin 256, if k.val ≤ r then ls (X (o + k.val)) else 0) + run X o = run X (o + r + 1) := by
  rw [Fin.sum_univ_eq_sum_range (fun k => if k ≤ r then ls (X (o + k)) else 0) 256, ← Finset.sum_filter]
  have e : (Finset.range 256).filter (fun k => k ≤ r) = Finset.range (r + 1) := by
    ext k
    simp only [Finset.mem_filter, Finset.mem_range]
    omega
  unfold run
  rw [e, add_assoc o r 1, Finset.sum_range_add _ o (r + 1), add_comm]

/-- The softplus of the opposite, negated, is the log of the sigmoid. -/
theorem ls_eq (v : EReal) : -(max (-v) 0 + Ideal.log1p (Ideal.exp (-(max (-v) (-(-v)))))) = ls v := by
  unfold ls Ideal.log1p
  rw [neg_neg, max_comm (-v) v, zero_sub]
  have h0 : Ideal.log 1 = 0 := by rw [← EReal.coe_one, Ideal.log_coe, if_neg (by norm_num), Real.log_one, EReal.coe_zero]
  have hmax : ∀ a b : ℝ, max (a : EReal) (b : EReal) = ((max a b : ℝ) : EReal) := fun a b => (EReal.coe_strictMono.monotone.map_max).symm
  have hmin : ∀ a b : ℝ, min (a : EReal) (b : EReal) = ((min a b : ℝ) : EReal) := fun a b => (EReal.coe_strictMono.monotone.map_min).symm
  induction v using EReal.rec with
  | bot => simp [h0]
  | top => simp [h0]
  | coe r =>
    have h1 : max (r : EReal) (-(r : EReal)) = ((max r (-r) : ℝ) : EReal) := by rw [← EReal.coe_neg, hmax]
    have h2 : max (-(r : EReal)) 0 = ((max (-r) 0 : ℝ) : EReal) := by rw [← EReal.coe_neg, ← EReal.coe_zero, hmax]
    have h3 : min (r : EReal) 0 = ((min r 0 : ℝ) : EReal) := by rw [← EReal.coe_zero, hmin]
    rw [h1, h2, h3, ← EReal.coe_neg, Ideal.exp_coe, ← EReal.coe_one, ← EReal.coe_add, Ideal.log_coe, if_neg (not_le.mpr (by positivity)), ← EReal.coe_add, ← EReal.coe_neg, ← EReal.coe_sub]
    congr 1
    have h4 : max (-r) 0 = -(min r 0) := by rw [← neg_zero, max_neg_neg, neg_zero]
    rw [h4]
    ring

/-- A sum in base two: over the log of two. -/
theorem div_two (v : EReal) : Ideal.div v (Ideal.log (Ideal.ofBits .f32 1073741824#32)) = v * unit := by
  have h2 : Ideal.ofBits .f32 1073741824#32 = ((2 : ℝ) : EReal) := by simp [Ideal.ofBits, Ideal.ieee, -EReal.coe_mul]; norm_num
  have hl : Real.log 2 ≠ 0 := (Real.log_pos one_lt_two).ne'
  rw [h2, Ideal.log_coe, if_neg (by norm_num), Ideal.div, if_neg (by exact_mod_cast hl), unit, EReal.coe_inv]

/-- A list's elements added one after another. -/
theorem fold_add {ι : Type} (g : ι → EReal) : ∀ (L : List ι) (a : EReal), L.foldl (fun r n => r + g n) a = a + (L.map g).sum
  | [], a => by simp
  | n :: L, a => by rw [List.foldl_cons, fold_add g L, List.map_cons, List.sum_cons, add_assoc]

/-- A window that reaches back over all positions, zero before the first one. -/
theorem window_sum (f : ℕ → EReal) (s : ℕ) (hs : s < 2048) :
    ∑ n ∈ Finset.range 2048, (if 2047 ≤ s + n then f (s + n - 2047) else 0) = ∑ k ∈ Finset.range (s + 1), f k := by
  rw [show 2048 = (2047 - s) + (s + 1) by omega, Finset.sum_range_add, Finset.sum_eq_zero, zero_add]
  · refine Finset.sum_congr rfl fun k _ => ?_
    rw [if_pos (by omega)]
    exact congrArg f (by omega)
  · intro n hn
    have := Finset.mem_range.mp hn
    rw [if_neg (by omega)]

/-- A position of the window along an axis. -/
abbrev back (k : Fin (⟨3, ![1, 2048, 1]⟩ : Shape).numel) (a : Fin 3) : ℕ := ((⟨3, ![1, 2048, 1]⟩ : Shape).rowMajor.symm k a).val

/-- The window is one position wide but along the second axis. -/
theorem window_pos (k : Fin (⟨3, ![1, 2048, 1]⟩ : Shape).numel) : back k 0 = 0 ∧ back k 1 = k.val ∧ back k 2 = 0 := by
  have h1 := Shape.rowMajor_val_three ((⟨3, ![1, 2048, 1]⟩ : Shape).rowMajor.symm k)
  rw [Equiv.apply_symm_apply] at h1
  have h0 : back k 0 < 1 := ((⟨3, ![1, 2048, 1]⟩ : Shape).rowMajor.symm k 0).isLt
  have h2 : back k 2 < 1 := ((⟨3, ![1, 2048, 1]⟩ : Shape).rowMajor.symm k 2).isLt
  change k.val = (back k 0 * 2048 + back k 1) * 1 + back k 2 at h1
  omega

/-- The cumulative sum along the second axis, at an index. -/
theorem cumsum_at (x : FVec Ideal Cert.GatesRefIdeal.S32x2048x128 .f32) (init : FVec Ideal Cert.GatesRefIdeal.S_ .f32) (hi : ∀ i, init i = 0)
    (n : Fin 32) (s : Fin 2048) (l : Fin 128) (f : ℕ → EReal) (h : ∀ k : Fin 2048, x (ix3 n k l) = f k.val) :
    (Host.reduceWindowAdd ![1, 2048, 1] ![1, 1, 1] ![0, 2047, 0] ![0, 0, 0] x init
      Cert.GatesRefIdeal.Gen.reduceWindows_S32x2048x128_S32x2048x128_w1s1p0_0_w2048s1p2047_0_w1s1p0_0 Cert.GatesRefIdeal.Gen.h_S_ :
        FVec Ideal Cert.GatesRefIdeal.S32x2048x128 .f32) (ix3 n s l) = ∑ k ∈ Finset.range (s.val + 1), f k := by
  unfold Host.reduceWindowAdd
  simp only [FloatOps.hostReduceWindowAdd, Ideal.hostReduceWindowAdd, Host.reduceWindow]
  rw [fold_add, hi, zero_add, ← Fin.sum_univ_def]
  have hN : (⟨3, ![1, 2048, 1]⟩ : Shape).numel = 2048 := by simp [Shape.numel, Fin.prod_univ_succ]
  have hR := (Fin.sum_univ_eq_sum_range (fun n => if 2047 ≤ s.val + n then f (s.val + n - 2047) else 0) (⟨3, ![1, 2048, 1]⟩ : Shape).numel).trans
    ((congrArg (fun N => ∑ n ∈ Finset.range N, if 2047 ≤ s.val + n then f (s.val + n - 2047) else 0) hN).trans (window_sum f s.val s.isLt))
  rw [← hR]
  refine Finset.sum_congr rfl fun k _ => ?_
  obtain ⟨e0, e1, e2⟩ := window_pos k
  have hlt : k.val < 2048 := lt_of_lt_of_eq k.isLt hN
  have hs := s.isLt
  have hn := n.isLt
  have hl := l.isLt
  by_cases hc : 2047 ≤ s.val + k.val
  · rw [if_pos hc, dif_pos (by
      intro a
      match a with
      | ⟨0, _⟩ => show 0 ≤ n.val * 1 + back k 0 ∧ n.val * 1 + back k 0 - 0 < 32; omega
      | ⟨1, _⟩ => show 2047 ≤ s.val * 1 + back k 1 ∧ s.val * 1 + back k 1 - 2047 < 2048; omega
      | ⟨2, _⟩ => show 0 ≤ l.val * 1 + back k 2 ∧ l.val * 1 + back k 2 - 0 < 128; omega)]
    refine Eq.trans (congrArg x ?_) (h ⟨s.val + k.val - 2047, by omega⟩)
    funext a
    match a with
    | ⟨0, _⟩ => exact Fin.ext (show n.val * 1 + back k 0 - 0 = n.val by omega)
    | ⟨1, _⟩ => exact Fin.ext (show s.val * 1 + back k 1 - 2047 = s.val + k.val - 2047 by omega)
    | ⟨2, _⟩ => exact Fin.ext (show l.val * 1 + back k 2 - 0 = l.val by omega)
  · rw [if_neg hc, dif_neg]
    intro hh
    have := (hh 1).1
    change 2047 ≤ s.val * 1 + back k 1 at this
    omega

end Cert.Gates.Sum

end
-- ==== Proof.GatesTile.lean ====
module

public import proofs.«01_k».proof.Proof.GatesMath
public import proofs.«01_k».proof.Proof.PostOps
public import proofs.«01_k».proof.Proof.Gen.GatesIdeal.Value
public import Idealize.ShloMosaic.Lib.Pointwise
public import Idealize.ShloMosaic.Lib.Pipeline.ValueKit
public import Idealize.ShloMosaic.Lib.Pipeline.ReadBack

/-! The cumulative sums of the gates, tile by tile: eight tiles of 256 positions, the last row of each carried to the next. -/

set_option maxRecDepth 16384

@[expose] public noncomputable section

namespace Cert.GatesIdeal.Val

open Idealize Idealize.ShloMosaic Idealize.ShloMosaic.TcCoe Idealize.SL.Sem Cert.GatesIdeal Cert.GatesIdeal.Gen Cert.Gates.Sum
open Cert.PostIdeal.Val (bits_zero)

/-- The named constant is one over the log of two. -/
theorem log2e_eq : (Named.named κ "log2e" 0x3FB8AA3B#32 : Ideal .f32) = unit := IdealRules.named_const.ideal_named_scalar _ _ _ _ rfl

/-- A row reaches a position that does not come after it. -/
theorem reach (r k : Fin 256) (a b : EReal) :
    Scalar.select (IntOp.cmpi .sge (BitVec.ofNat 32 r.val) (BitVec.ofNat 32 k.val)) a b = if k.val ≤ r.val then a else b := by
  rw [WordCmp.cmpi_sge_ofNat (by omega) (by omega)]
  unfold Scalar.select
  split_ifs <;> simp_all

variable (C : FVec Ideal S1x128 .f32) (x : FVec Ideal S256x128 .f32) (b : FVec Ideal S1x128 .f32) (X : ℕ → ℕ → EReal) (o : ℕ)

/-- A tile's sums, from the sums carried into it. -/
theorem tile_at (hx : ∀ (k : Fin 256) (l : Fin 128), x (ix2 k l) + b (ix2 (0 : Fin 1) l) = X l.val (o + k.val))
    (hC : ∀ l : Fin 128, C (ix2 (0 : Fin 1) l) = run (X l.val) o) (r : Fin 256) (l : Fin 128) :
    k0_pay7 C x b (ix2 r l) = run (X l.val) (o + r.val + 1) := by
  have hx' := fun k => hx k l
  pointwise [k0_pay7, hx', hC, bits_zero, reach]
  simp only [ite_mul, one_mul, zero_mul]
  exact run_tile (X l.val) o r.val r.isLt

/-- What a tile hands to the next. -/
theorem carry_at (hx : ∀ (k : Fin 256) (l : Fin 128), x (ix2 k l) + b (ix2 (0 : Fin 1) l) = X l.val (o + k.val))
    (hC : ∀ l : Fin 128, C (ix2 (0 : Fin 1) l) = run (X l.val) o) (l : Fin 128) :
    k0_pay10 C x b (ix2 (0 : Fin 1) l) = run (X l.val) (o + 256) := by
  have h := fun r => tile_at C x b X o hx hC r l
  pointwise [k0_pay10, h]

/-- A tile's sums in base two. -/
theorem scaled_at (hx : ∀ (k : Fin 256) (l : Fin 128), x (ix2 k l) + b (ix2 (0 : Fin 1) l) = X l.val (o + k.val))
    (hC : ∀ l : Fin 128, C (ix2 (0 : Fin 1) l) = run (X l.val) o) (r : Fin 256) (l : Fin 128) :
    k0_pay8 C x b (ix2 r l) = run (X l.val) (o + r.val + 1) * unit := by
  have h := tile_at C x b X o hx hC r l
  pointwise [k0_pay8, h, log2e_eq]

/-- The first eight lanes of a tile's sums, turned. -/
theorem turned_at (hx : ∀ (k : Fin 256) (l : Fin 128), x (ix2 k l) + b (ix2 (0 : Fin 1) l) = X l.val (o + k.val))
    (hC : ∀ l : Fin 128, C (ix2 (0 : Fin 1) l) = run (X l.val) o) (l : Fin 8) (r : Fin 256) :
    k0_pay9 C x b (ix3 (0 : Fin 1) l r) = run (X l.val) (o + r.val + 1) * unit := by
  have h := fun l => scaled_at C x b X o hx hC r l
  pointwise [k0_pay9, h]

/-- A tile's rows of a batch's gates. -/
def rows (n : ℕ) (x0 : Vec Ideal S2048x128 .f32) : FVec Ideal S256x128 .f32 := fun i => x0 (ix2 ⟨(256 * n + (i 0).val) % 2048, Nat.mod_lt _ (by decide)⟩ (i 1))

theorem ld_rows (n o : ℕ) (hn : n < 8) (ho : o = 256 * n) (inb) (x0 : Vec Ideal S2048x128 .f32) :
    View.ld (Val := Elt Ideal) (e' := .f32) x0 (Rect.unit (s := S2048x128) ![o, 0] S256x128.size inb) = rows n x0 := by
  subst ho
  funext z
  have z0 : (z 0).val < 256 := (z 0).isLt
  unfold rows
  refine congrArg x0 ?_
  funext a
  match a with
  | ⟨0, _⟩ => exact Fin.ext (show 256 * n + 1 * (z 0).val = (256 * n + (z 0).val) % 2048 by rw [Nat.mod_eq_of_lt (by omega)]; omega)
  | ⟨1, _⟩ => exact Fin.ext (show 0 + 1 * (z 1).val = (z 1).val by omega)

/-- The sums carried into a tile. -/
def carry (x0 : Vec Ideal S2048x128 .f32) (b : FVec Ideal S1x128 .f32) : ℕ → FVec Ideal S1x128 .f32
  | 0 => broadcast S1x128 (Scalar.ofBits .f32 0x00000000#32 : Ideal .f32)
  | n + 1 => k0_pay10 (carry x0 b n) (rows n x0) b

theorem carry_run (x0 : Vec Ideal S2048x128 .f32) (hx : ∀ (s : Fin 2048) (l : Fin 128), x0 (ix2 s l) + b (ix2 (0 : Fin 1) l) = X l.val s.val) :
    ∀ n, n < 8 → (∀ (k : Fin 256) (l : Fin 128), rows n x0 (ix2 k l) + b (ix2 (0 : Fin 1) l) = X l.val (256 * n + k.val))
      ∧ ∀ l : Fin 128, carry x0 b n (ix2 (0 : Fin 1) l) = run (X l.val) (256 * n)
  | 0, _ => ⟨fun k l => (hx _ l).trans (congrArg (X l.val) (Nat.mod_eq_of_lt (show 256 * 0 + k.val < 2048 by omega))), fun l => by
      pointwise [carry, bits_zero]
      simp [run]⟩
  | n + 1, hn => by
      obtain ⟨h1, h2⟩ := carry_run x0 hx n (by omega)
      exact ⟨fun k l => (hx _ l).trans (congrArg (X l.val) (Nat.mod_eq_of_lt (show 256 * (n + 1) + k.val < 2048 by omega))), fun l => carry_at _ _ b X (256 * n) h1 h2 l⟩

section
variable (x0 : Vec Ideal S2048x128 .f32) (x1 : Vec Ideal S1x128 .f32)

/-- The bias as the tiles read it. -/
abbrev bia : FVec Ideal S1x128 .f32 := View.ld (Val := Elt Ideal) (e' := .f32) x1 r0_1

theorem c1 : k0_pay36 (F := Ideal) x0 x1 = carry x0 (bia x1) 1 := by
  unfold k0_pay36; rw [ld_rows 0 0 (by decide) rfl]; rfl

theorem c2 : k0_pay37 (F := Ideal) x0 x1 = carry x0 (bia x1) 2 := by
  unfold k0_pay37; rw [c1, ld_rows 1 256 (by decide) rfl]; rfl

theorem c3 : k0_pay43 (F := Ideal) x0 x1 = carry x0 (bia x1) 3 := by
  unfold k0_pay43 k0_pay38 k0_pay39; rw [c2, ld_rows 2 512 (by decide) rfl]; rfl

theorem c4 : k0_pay46 (F := Ideal) x0 x1 = broadcastTo S256x128 (carry x0 (bia x1) 4) broadcasts_S1x128_S256x128 := by
  unfold k0_pay46 k0_pay44; rw [c3, ld_rows 3 768 (by decide) rfl]; rfl

theorem t4 : k0_pay25 (k0_pay45 (F := Ideal) x0 x1) (k0_pay46 x0 x1) = k0_pay7 (carry x0 (bia x1) 4) (rows 4 x0) (bia x1) := by
  unfold k0_pay45; rw [c4, ld_rows 4 1024 (by decide) rfl]; rfl

theorem t5 : k0_pay47 (F := Ideal) x0 x1 = k0_pay7 (carry x0 (bia x1) 5) (rows 5 x0) (bia x1) := by
  unfold k0_pay47 k0_pay28; rw [t4, ld_rows 5 1280 (by decide) rfl]; rfl

theorem t6 : k0_pay32 (k0_pay47 (F := Ideal) x0 x1) (View.ld x0 r0_13) (View.ld x1 r0_1) = k0_pay7 (carry x0 (bia x1) 6) (rows 6 x0) (bia x1) := by
  unfold k0_pay32; rw [t5, ld_rows 6 1536 (by decide) rfl]; rfl

theorem c7 : k0_pay48 (F := Ideal) x0 x1 = carry x0 (bia x1) 7 := by
  unfold k0_pay48 k0_pay35; rw [t6]; rfl

end

end Cert.GatesIdeal.Val

end
-- ==== Proof.GatesPoint.lean ====
module

public import proofs.«01_k».proof.Proof.GatesTile
public import proofs.«01_k».proof.Proof.SsmPoint

/-! The forgetting attention's gates: the blocks the kernel leaves, the arrays its grid points fill, and the reference at an index. -/

set_option maxRecDepth 16384

@[expose] public noncomputable section

namespace Cert.GatesIdeal.Val

open Idealize Idealize.ShloMosaic Idealize.ShloMosaic.TcCoe Idealize.SL.Sem Cert.GatesIdeal Cert.GatesIdeal.Gen Cert.Gates.Sum
open Cert.PostIdeal.Val (bits_zero)
open Cert.SsmIn.Val (pad_zero)

/-- A batch's sums in base two. -/
def blk2 (X : ℕ → ℕ → EReal) : Vec Ideal S2048x128 .f32 := fun y => run (X (y 1).val) ((y 0).val + 1) * unit

/-- A batch's sums in base two, a row for each head. -/
def blk3 (X : ℕ → ℕ → EReal) : Vec Ideal S1x8x2048 .f32 := fun y => run (X (y 1).val) ((y 2).val + 1) * unit

section
variable (x0 : Vec Ideal S2048x128 .f32) (x1 : Vec Ideal S1x128 .f32) (X : ℕ → ℕ → EReal)
  (hx : ∀ (s : Fin 2048) (l : Fin 128), x0 (ix2 s l) + x1 (ix2 (0 : Fin 1) l) = X l.val s.val)
include hx

theorem carried (n : ℕ) (hn : n < 8) : (∀ (k : Fin 256) (l : Fin 128), rows n x0 (ix2 k l) + bia x1 (ix2 (0 : Fin 1) l) = X l.val (256 * n + k.val))
      ∧ ∀ l : Fin 128, carry x0 (bia x1) n (ix2 (0 : Fin 1) l) = run (X l.val) (256 * n) := by
  have hb : bia x1 = x1 := View.ld_unit_zero (by funext a; match a with | ⟨0, _⟩ => rfl | ⟨1, _⟩ => rfl) _ x1
  rw [hb]
  exact carry_run x1 X x0 hx n hn

theorem piece2 (n o : ℕ) (hn : n < 8) (ho : o = 256 * n) (inb) (w : FVec Ideal S256x128 .f32) (hw : w = k0_pay8 (carry x0 (bia x1) n) (rows n x0) (bia x1))
    (z : S256x128.Idx) : w z = blk2 X ((Rect.unit (s := S2048x128) ![o, 0] S256x128.size inb).emb z) := by
  subst ho hw
  obtain ⟨r, l, rfl⟩ : ∃ (r : Fin 256) (l : Fin 128), z = ix2 r l := ⟨z 0, z 1, by funext a; match a with | ⟨0, _⟩ => rfl | ⟨1, _⟩ => rfl⟩
  obtain ⟨h1, h2⟩ := carried x0 x1 X hx n hn
  refine (scaled_at _ _ _ X (256 * n) h1 h2 r l).trans ?_
  show _ = run (X (0 + 1 * l.val)) (256 * n + 1 * r.val + 1) * unit
  rw [zero_add, one_mul, one_mul]

theorem piece3 (n o : ℕ) (hn : n < 8) (ho : o = 256 * n) (inb) (w : FVec Ideal S1x8x256 .f32) (hw : w = k0_pay9 (carry x0 (bia x1) n) (rows n x0) (bia x1))
    (z : S1x8x256.Idx) : w z = blk3 X ((Rect.unit (s := S1x8x2048) ![0, 0, o] S1x8x256.size inb).emb z) := by
  subst ho hw
  obtain ⟨l, r, rfl⟩ : ∃ (l : Fin 8) (r : Fin 256), z = ix3 (0 : Fin 1) l r :=
    ⟨z 1, z 2, by funext a; match a with | ⟨0, _⟩ => exact Subsingleton.elim (α := Fin 1) _ _ | ⟨1, _⟩ => rfl | ⟨2, _⟩ => rfl⟩
  obtain ⟨h1, h2⟩ := carried x0 x1 X hx n hn
  refine (turned_at _ _ _ X (256 * n) h1 h2 l r).trans ?_
  show _ = run (X (0 + 1 * l.val)) (256 * n + 1 * r.val + 1) * unit
  rw [zero_add, one_mul, one_mul]

/-- What a grid point leaves of the sums. -/
theorem out2_eq : out0_2 x0 x1 = blk2 X := by
  funext y
  unfold out0_2
  refine View.canon_apply_of_pieces (blk2 X) _ (View.PiecesOf.mem ?_) y (cover0_2 _ _ _ _ _ _ _ _ y)
  exact ⟨piece2 x0 x1 X hx 7 1792 (by decide) rfl inb_S2048x128_S256x128_1792_0 _ (by rw [c7, ld_rows 7 1792 (by decide) rfl]; rfl),
    piece2 x0 x1 X hx 6 1536 (by decide) rfl inb_S2048x128_S256x128_1536_0 _ (by unfold k0_pay33; rw [t6]; rfl),
    piece2 x0 x1 X hx 5 1280 (by decide) rfl inb_S2048x128_S256x128_1280_0 _ (by unfold k0_pay29 k0_pay28; rw [t4, ld_rows 5 1280 (by decide) rfl]; rfl),
    piece2 x0 x1 X hx 4 1024 (by decide) rfl inb_S2048x128_S256x128_1024_0 _ (by unfold k0_pay26; rw [t4]; rfl),
    piece2 x0 x1 X hx 3 768 (by decide) rfl inb_S2048x128_S256x128_768_0 _ (by unfold k0_pay44; rw [c3, ld_rows 3 768 (by decide) rfl]; rfl),
    piece2 x0 x1 X hx 2 512 (by decide) rfl inb_S2048x128_S256x128_512_0 _ (by unfold k0_pay38 k0_pay39; rw [c2, ld_rows 2 512 (by decide) rfl]; rfl),
    piece2 x0 x1 X hx 1 256 (by decide) rfl inb_S2048x128_S256x128_256_0 _ (by rw [c1, ld_rows 1 256 (by decide) rfl]),
    piece2 x0 x1 X hx 0 0 (by decide) rfl inb_S2048x128_S256x128_0_0 _ (by rw [ld_rows 0 0 (by decide) rfl]; rfl), trivial⟩

/-- What a grid point leaves of the heads' rows. -/
theorem out3_eq : out0_3 x0 x1 = blk3 X := by
  funext y
  unfold out0_3
  refine View.canon_apply_of_pieces (blk3 X) _ (View.PiecesOf.mem ?_) y (cover0_3 _ _ _ _ _ _ _ _ y)
  exact ⟨piece3 x0 x1 X hx 7 1792 (by decide) rfl inb_S1x8x2048_S1x8x256_0_0_1792 _ (by rw [c7, ld_rows 7 1792 (by decide) rfl]; rfl),
    piece3 x0 x1 X hx 6 1536 (by decide) rfl inb_S1x8x2048_S1x8x256_0_0_1536 _ (by unfold k0_pay34 k0_pay33; rw [t6]; rfl),
    piece3 x0 x1 X hx 5 1280 (by decide) rfl inb_S1x8x2048_S1x8x256_0_0_1280 _ (by unfold k0_pay31 k0_pay30 k0_pay29 k0_pay28; rw [t4, ld_rows 5 1280 (by decide) rfl]; rfl),
    piece3 x0 x1 X hx 4 1024 (by decide) rfl inb_S1x8x2048_S1x8x256_0_0_1024 _ (by unfold k0_pay27 k0_pay26; rw [t4]; rfl),
    piece3 x0 x1 X hx 3 768 (by decide) rfl inb_S1x8x2048_S1x8x256_0_0_768 _ (by unfold k0_pay44; rw [c3, ld_rows 3 768 (by decide) rfl]; rfl),
    piece3 x0 x1 X hx 2 512 (by decide) rfl inb_S1x8x2048_S1x8x256_0_0_512 _ (by unfold k0_pay38 k0_pay39; rw [c2, ld_rows 2 512 (by decide) rfl]; rfl),
    piece3 x0 x1 X hx 1 256 (by decide) rfl inb_S1x8x2048_S1x8x256_0_0_256 _ (by rw [c1, ld_rows 1 256 (by decide) rfl]),
    piece3 x0 x1 X hx 0 0 (by decide) rfl inb_S1x8x2048_S1x8x256_0_0_0 _ (by rw [ld_rows 0 0 (by decide) rfl]; rfl), trivial⟩
end

/-- Where each window's block lies at a grid point, a point being a batch. -/
theorem where_blk : ∀ t : Fin grid0.N, win0_0.index t = ![t.val, 4] ∧ win0_1.index t = ![0, 0] ∧ win0_2.index t = ![t.val, 0]
    ∧ win0_3.index t = ![t.val, 0, 0] := by decide +kernel

/-- A lane's bias: the head's, none past the last head. -/
def lane (b : FVec Ideal S8 .f32) (l : ℕ) : EReal := if h : l < 8 then b (ix1 ⟨l, h⟩) else 0

/-- A gate's argument: the projection's column and the lane's bias. -/
def arg (g : FVec Ideal S65536x640 .f32) (b : FVec Ideal S8 .f32) (n l s : ℕ) : EReal :=
  g (ix2 ⟨(2048 * n + s) % 65536, Nat.mod_lt _ (by decide)⟩ ⟨(512 + l) % 640, Nat.mod_lt _ (by decide)⟩) + lane b l

variable (m : (ℓ : Loc nD τ sig) → Buf (Elt Ideal) ℓ) (c : Dev nD)

/-- The gates' arguments in a memory. -/
abbrev args : ℕ → ℕ → ℕ → EReal := arg (m ((c : Thread nD τ).loc main_arg0)) (m ((c : Thread nD τ).loc main_arg1))

variable (t : Fin cfg0.N)

theorem blk0_at (s : Fin 2048) (l : Fin 128) : (iblk m c 0 t : Vec Ideal S2048x128 .f32) (ix2 s l)
    = (m ((c : Thread nD τ).loc main_arg0) : FVec Ideal S65536x640 .f32) (ix2 ⟨(2048 * t.val + s.val) % 65536, Nat.mod_lt _ (by decide)⟩ ⟨(512 + l.val) % 640, Nat.mod_lt _ (by decide)⟩) := by
  have ht : t.val < 32 := t.isLt
  have e : (iblk m c 0 t : Vec Ideal S2048x128 .f32) (ix2 s l) = V m c main_arg0 (ix2 ⟨(2048 * t.val + s.val) % 65536, Nat.mod_lt _ (by decide)⟩ ⟨(512 + l.val) % 640, Nat.mod_lt _ (by decide)⟩) := by blk_ext [iblk, (where_blk t).1]
  rw [e, V_main_arg0]

theorem blk1_at (l : Fin 128) : (iblk m c 1 t : Vec Ideal S1x128 .f32) (ix2 (0 : Fin 1) l) = lane (m ((c : Thread nD τ).loc main_arg1)) l.val := by
  have e : (iblk m c 1 t : Vec Ideal S1x128 .f32) (ix2 (0 : Fin 1) l) = V m c main_v1 (ix2 (0 : Fin 1) l) := by blk_ext [iblk, (where_blk t).2.1]
  rw [e]
  simp only [V, hostOps0, hostOps0_1, List.flatten_cons, List.flatten_nil, List.append_nil, List.cons_append, List.nil_append]
  after_results
  change (pad S1x128 ![0, 0] ![0, 120] ![0, 0] (shapeCast S1x8 (m ((c : Thread nD τ).loc main_arg1) : FVec Ideal S8 .f32) shapeCasts_S8_S1x8)
    (sitofp .f32 (constantI S_ 32 0#32)) pads_S1x8_S1x128_000_01200 h_S_ : FVec Ideal S1x128 .f32) (ix2 (0 : Fin 1) l) = _
  pointwise []
  unfold lane
  split_ifs
  · rfl
  · exact pad_zero

/-- A batch's gates at a grid point. -/
abbrev inG : FVec Ideal S2048x128 .f32 := iblk m c 0 t
/-- The bias at a grid point. -/
abbrev inB : FVec Ideal S1x128 .f32 := iblk m c 1 t

theorem args_at (s : Fin 2048) (l : Fin 128) :
    inG m c t (ix2 s l) + inB m c t (ix2 (0 : Fin 1) l) = args m c t.val l.val s.val :=
  congrArg₂ (fun a b : EReal => a + b) (blk0_at m c t s l) (blk1_at m c t l)

/-- The sums as an array. -/
def sumArr (A : ℕ → ℕ → ℕ → EReal) : S65536x128.Idx → EReal := fun i => run (A ((i 0).val / 2048) (i 1).val) ((i 0).val % 2048 + 1) * unit

/-- The heads' rows of sums as an array. -/
def headArr (A : ℕ → ℕ → ℕ → EReal) : S32x8x2048.Idx → EReal := fun i => run (A (i 0).val (i 1).val) ((i 2).val + 1) * unit

/-- THE SUMS the kernel leaves. -/
theorem result_sum : (dats m 0 c).arrAt 2 cfg0.N = sumArr (args m c) := by
  refine (dats m 0 c).arrAt_eq_of_covers 2 _ (by decide +kernel) fun t hf y => ?_
  blk_simp
  rw [after0_2, out2_eq (inG m c t) (inB m c t) (args m c t.val) (args_at m c t)]
  obtain ⟨s, l, rfl⟩ : ∃ (s : Fin 2048) (l : Fin 128), y = ix2 s l := ⟨y 0, y 1, by funext a; match a with | ⟨0, _⟩ => rfl | ⟨1, _⟩ => rfl⟩
  unfold sumArr blk2
  blk_simp [(where_blk t).2.2.1]
  rw [show (t.val * 2048 + s.val) / 2048 = t.val by omega, show (t.val * 2048 + s.val) % 2048 = s.val by omega]

/-- THE HEADS' ROWS the kernel leaves. -/
theorem result_head : (dats m 0 c).arrAt 3 cfg0.N = headArr (args m c) := by
  refine (dats m 0 c).arrAt_eq_of_covers 3 _ (by decide +kernel) fun t hf y => ?_
  blk_simp
  rw [after0_3, out3_eq (inG m c t) (inB m c t) (args m c t.val) (args_at m c t)]
  obtain ⟨l, s, rfl⟩ : ∃ (l : Fin 8) (s : Fin 2048), y = ix3 (0 : Fin 1) l s :=
    ⟨y 1, y 2, by funext a; match a with | ⟨0, _⟩ => exact Subsingleton.elim (α := Fin 1) _ _ | ⟨1, _⟩ => rfl | ⟨2, _⟩ => rfl⟩
  unfold headArr blk3
  blk_simp [(where_blk t).2.2.2]
  rfl

/-- The arrays every execution of the kernel leaves. -/
theorem results (ρ : Dev nD → PrngReg) : θ_run defs (onTc (τ := τ) (main (F := Ideal))) ⟨m, fun _ => 0, ρ⟩ (fun r => ∀ c : Dev nD,
      r.2.mem ((c.tc : Thread nD τ).loc main_v2_0) = sumArr (args m c)
      ∧ r.2.mem ((c.tc : Thread nD τ).loc main_v2_1) = headArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_sum m c), (h c).2.1.trans (result_head m c), (h c).2.2⟩) (Cert.GatesIdeal.Value.run_blocks m ρ)

open Cert.GatesRefIdeal.Read

section
variable (g : FVec Ideal S65536x640 .f32) (b : FVec Ideal S8 .f32)

/-- The reference's gate arguments at an index. -/
theorem ref_arg (n : Fin 32) (s : Fin 2048) (l : Fin 128) :
    (val_main_v5 (F := Ideal) g b : FVec Ideal Cert.GatesRefIdeal.S32x2048x128 .f32) (ix3 n s l) = arg g b n.val l.val s.val := by
  pointwise [val_main_v5, val_main_v1, val_main_v0, val_main_v4, val_main_v3, val_main_v2, val_main_call0_v0, val_main_c]
  unfold arg lane
  congr 1
  · refine congrArg g ?_
    congr 1
    · exact Fin.ext (show n.val * 2048 + s.val = (2048 * n.val + s.val) % 65536 by omega)
    · exact Fin.ext (show 512 + l.val = (512 + l.val) % 640 by omega)
  · split_ifs
    · rfl
    · exact pad_zero

/-- The reference's log-sigmoids at an index. -/
theorem ref_ls (n : Fin 32) (s : Fin 2048) (l : Fin 128) :
    (val_main_v6 (F := Ideal) g b : FVec Ideal Cert.GatesRefIdeal.S32x2048x128 .f32) (ix3 n s l) = ls (arg g b n.val l.val s.val) := by
  have h := ref_arg g b n s l
  pointwise [val_main_v6, val_main_call1_v1, val_main_call1_call0_v11, val_main_call1_call0_v10, val_main_call1_call0_v9, val_main_call1_call0_v8, val_main_call1_call0_v7,
    val_main_call1_call0_v6, val_main_call1_call0_v5, val_main_call1_call0_v4, val_main_call1_call0_v3, val_main_call1_call0_v2, val_main_call1_call0_v1, val_main_call1_v0,
    val_main_call1_call0_v0, val_main_call1_call0_cst, h, bits_zero]
  rw [if_neg (fun hne => hne rfl)]
  exact ls_eq _

/-- The reference's sums at an index. -/
theorem ref_sum (n : Fin 32) (s : Fin 2048) (l : Fin 128) :
    (val_main_v10 (F := Ideal) g b : FVec Ideal Cert.GatesRefIdeal.S32x2048x128 .f32) (ix3 n s l) = run (arg g b n.val l.val) (s.val + 1) * unit := by
  have h : (val_main_v7 (F := Ideal) g b : FVec Ideal Cert.GatesRefIdeal.S32x2048x128 .f32) (ix3 n s l) = run (arg g b n.val l.val) (s.val + 1) :=
    cumsum_at _ _ (fun i => by pointwise [val_main_call2_call0_v0, val_main_call2_call0_cst, bits_zero]) n s l _ (fun k => ref_ls g b n k l)
  pointwise [val_main_v10, h, val_main_v9, val_main_v8, val_main_cst]
  exact div_two _

/-- The reference's sums as an array. -/
theorem ref_sumArr : (val_main_v11 (F := Ideal) g b : FVec Ideal S65536x128 .f32) = sumArr (arg g b) := by
  funext i
  obtain ⟨r, l, rfl⟩ : ∃ (r : Fin 65536) (l : Fin 128), i = ix2 r l := ⟨i 0, i 1, by funext a; match a with | ⟨0, _⟩ => rfl | ⟨1, _⟩ => rfl⟩
  have h := fun n s l => ref_sum g b n s l
  pointwise [val_main_v11, h]
  rfl

/-- The reference's heads' rows as an array. -/
theorem ref_headArr : (val_main_v13 (F := Ideal) g b : FVec Ideal S32x8x2048 .f32) = headArr (arg g b) := by
  funext i
  obtain ⟨n, l, s, rfl⟩ : ∃ (n : Fin 32) (l : Fin 8) (s : Fin 2048), i = ix3 n l s :=
    ⟨i 0, i 1, i 2, by funext a; match a with | ⟨0, _⟩ => rfl | ⟨1, _⟩ => rfl | ⟨2, _⟩ => rfl⟩
  have h := fun n s l => ref_sum g b n s l
  pointwise [val_main_v13, val_main_v12, h]
  rfl
end

end Cert.GatesIdeal.Val

end
-- ==== Proof.EvenPoint.lean ====
module

public import proofs.«01_k».proof.Proof.SsmPoint
public import proofs.«01_k».proof.Proof.EvenFrame
public import proofs.«01_k».proof.Proof.Gen.EvenInRefIdeal.Read
public import Idealize.ShloMosaic.Lib.Pointwise
public import Idealize.ShloMosaic.Lib.Pipeline.ValueKit
public import Idealize.ShloMosaic.Lib.Pipeline.ReadBack

/-! An even layer's input projection: the blocks the kernel reads, the arrays its grid points fill, and the reference at an
index.  Its columns are the weights' columns in another order, given by `pick` and `gatePick`. -/

set_option maxRecDepth 16384

@[expose] public noncomputable section

namespace Cert.EvenIn.Val

open Idealize Idealize.ShloMosaic Idealize.ShloMosaic.TcCoe Idealize.SL.Sem Cert.EvenIn Cert.EvenIn.Gen Cert.EvenIn.Hand Cert.Post
open Cert.PostIdeal.Val (bits_zero)
open Cert.SsmIn.Val (pad_zero tab2_past proj_past)

/-- Where each window's block lies at a grid point, a point being a row tile and a column tile. -/
theorem where_blk : ∀ t : Fin grid0.N, win0_0.index t = ![t.val / 2, 0] ∧ win0_1.index t = ![0, 0] ∧ win0_2.index t = ![0, t.val % 2]
    ∧ win0_3.index t = ![0, 0] ∧ win0_4.index t = ![t.val / 2, t.val % 2] ∧ win0_5.index t = ![t.val / 2, 0] := by decide +kernel

/-- The weights' column that a main column is made with: the forget gates and the decay's columns are passed over. -/
def pick (j : ℕ) : ℕ := if j < 1536 then j else if j < 2048 then j + 8 else j + 520

/-- The weights' column that a gate column is made with: the decay, then the forget gates, then columns past the last one. -/
def gatePick (j : ℕ) : ℕ := if j < 512 then 2056 + j else if j < 520 then 1024 + j else 3592

variable (m : (ℓ : Loc nD τ sig) → Buf (Elt Ideal) ℓ) (c : Dev nD)

/-- The tokens. -/
abbrev tok : ℕ → ℕ → EReal := tab2 (M := 65536) (N := 1024) (m ((c : Thread nD τ).loc main_arg0))
/-- The gain. -/
abbrev gain : ℕ → EReal := tab1 (M := 1024) (m ((c : Thread nD τ).loc main_arg1))
/-- The weights. -/
abbrev wts : ℕ → ℕ → EReal := tab2 (M := 1024) (N := 3592) (m ((c : Thread nD τ).loc main_arg2))

/-- The main columns as an array. -/
def mainArr : S65536x3072.Idx → EReal := fun i => proj (tok m c) (gain m c) (wts m c) (i 0).val (pick (i 1).val)

/-- The decay and the gates as an array, zero past the last gate. -/
def gateArr : S65536x640.Idx → EReal := fun i => proj (tok m c) (gain m c) (wts m c) (i 0).val (gatePick (i 1).val)

variable (t : Fin cfg0.N)

theorem blk0_at (i k : Fin 1024) : (iblk m c 0 t : Vec Ideal S1024x1024 .f32) (ix2 i k) = tok m c (1024 * (t.val / 2) + i.val) k.val := by
  have ht : t.val < 128 := t.isLt
  have e : (iblk m c 0 t : Vec Ideal S1024x1024 .f32) (ix2 i k) = V m c main_arg0 (ix2 ⟨1024 * (t.val / 2) + i.val, by omega⟩ k) := by blk_ext [iblk, (where_blk t).1]
  rw [e, V_main_arg0]
  exact tab2_at _ _ _

theorem blk1_at (k : Fin 1024) : (iblk m c 1 t : Vec Ideal S1x1024 .f32) (ix2 (0 : Fin 1) k) = gain m c k.val := by
  have e : (iblk m c 1 t : Vec Ideal S1x1024 .f32) (ix2 (0 : Fin 1) k) = V m c main_v13 (ix2 (0 : Fin 1) k) := by blk_ext [iblk, (where_blk t).2.1]
  rw [e]
  simp only [V, hostOps0, hostOps0_1, hostOps0_2, List.flatten_cons, List.flatten_nil, List.append_nil, List.cons_append, List.nil_append]
  after_results
  pointwise []
  exact tab1_at _ k

/-- 512 of the weights' columns, from one of them on. -/
def part (o : ℕ) (h : S1024x3592.Slices ![0, o] S1024x512) : FVec Ideal S1024x512 .f32 :=
  extractStridedSlice S1024x512 ![0, o] (m ((c : Thread nD τ).loc main_arg2) : FVec Ideal S1024x3592 .f32) h

theorem blk2_at (i : Fin 1024) (k : Fin 1536) : (iblk m c 2 t : Vec Ideal S1024x1536 .bf16) (ix2 i k) = wts m c i.val (pick (1536 * (t.val % 2) + k.val)) := by
  have e : (iblk m c 2 t : Vec Ideal S1024x1536 .bf16) (ix2 i k) = V m c main_v9 (ix2 i ⟨1536 * (t.val % 2) + k.val, by omega⟩) := by blk_ext [iblk, (where_blk t).2.2.1]
  rw [e]
  simp only [V, hostOps0, hostOps0_1, hostOps0_2, List.flatten_cons, List.flatten_nil, List.append_nil, List.cons_append, List.nil_append]
  after_results
  have hw := fun i k => tab2_at (M := 1024) (N := 3592) (m ((c : Thread nD τ).loc main_arg2)) i k
  change (truncf .bf16 (concatenate S1024x3072 1 [⟨S1024x512, part m c 0 slices_S1024x3592_S1024x512_0_0⟩, ⟨S1024x512, part m c 512 slices_S1024x3592_S1024x512_0_512⟩,
    ⟨S1024x512, part m c 1024 slices_S1024x3592_S1024x512_0_1024⟩, ⟨S1024x512, part m c 1544 slices_S1024x3592_S1024x512_0_1544⟩,
    ⟨S1024x512, part m c 2568 slices_S1024x3592_S1024x512_0_2568⟩, ⟨S1024x512, part m c 3080 slices_S1024x3592_S1024x512_0_3080⟩]
    concatenates_S1024x512_S1024x512_S1024x512_S1024x512_S1024x512_S1024x512_S1024x3072_d1) bitsLt_bf16_f32 : FVec Ideal S1024x3072 .bf16) (ix2 i ⟨1536 * (t.val % 2) + k.val, by omega⟩) = _
  pointwise [part, hw]
  unfold pick
  split_ifs <;> first | omega | exact congrArg (wts m c i.val) (by omega)

theorem blk3_at (i : Fin 1024) (k : Fin 640) : (iblk m c 3 t : Vec Ideal S1024x640 .bf16) (ix2 i k) = wts m c i.val (gatePick k.val) := by
  have e : (iblk m c 3 t : Vec Ideal S1024x640 .bf16) (ix2 i k) = V m c main_v12 (ix2 i k) := by blk_ext [iblk, (where_blk t).2.2.2.1]
  rw [e]
  simp only [V, hostOps0, hostOps0_1, hostOps0_2, List.flatten_cons, List.flatten_nil, List.append_nil, List.cons_append, List.nil_append]
  after_results
  have hw := fun i k => tab2_at (M := 1024) (N := 3592) (m ((c : Thread nD τ).loc main_arg2)) i k
  change (truncf .bf16 (concatenate S1024x640 1 [⟨S1024x512, part m c 2056 slices_S1024x3592_S1024x512_0_2056⟩, ⟨S1024x128,
    pad S1024x128 ![0, 0] ![0, 120] ![0, 0] (extractStridedSlice S1024x8 ![0, 1536] (m ((c : Thread nD τ).loc main_arg2) : FVec Ideal S1024x3592 .f32) slices_S1024x3592_S1024x8_0_1536)
      (sitofp .f32 (constantI S_ 32 0#32)) pads_S1024x8_S1024x128_000_01200 h_S_⟩] concatenates_S1024x512_S1024x128_S1024x640_d1) bitsLt_bf16_f32 : FVec Ideal S1024x640 .bf16) (ix2 i k) = _
  pointwise [part, hw]
  unfold gatePick
  split_ifs <;> first | omega | exact congrArg (wts m c i.val) (by omega) | exact pad_zero.trans (tab2_past _ _ _ (by omega)).symm

/-- The reference's columns at an index. -/
theorem ref_col (x : FVec Ideal S65536x1024 .f32) (g : FVec Ideal S1024 .f32) (w : FVec Ideal S1024x3592 .f32) (r : Fin 65536) (j : Fin 3592) :
    (Cert.EvenInRefIdeal.Read.val_main_v13 (F := Ideal) x g w : FVec Ideal Cert.EvenInRefIdeal.S65536x3592 .f32) (ix2 r j) = proj (tab2 x) (tab1 g) (tab2 w) r.val j.val := by
  have hx := fun i k => tab2_at x i k
  have hg := fun k => tab1_at g k
  have hw := fun i k => tab2_at w i k
  have hn : ∀ k : Fin 1024, (Cert.EvenInRefIdeal.Read.val_main_v12 (F := Ideal) x g : FVec Ideal S65536x1024 .f32) (ix2 r k) = rms (tab2 x r.val) (tab1 g) k.val :=
    Cert.SsmIn.Val.ref_norm x g r
  pointwise [Cert.EvenInRefIdeal.Read.val_main_v13, hn, hw]
  rfl

/-- The reference's main columns at an index. -/
theorem ref_main (x : FVec Ideal S65536x1024 .f32) (g : FVec Ideal S1024 .f32) (w : FVec Ideal S1024x3592 .f32) (r : Fin 65536) (j : Fin 3072) :
    (Cert.EvenInRefIdeal.Read.val_main_v20 (F := Ideal) x g w : FVec Ideal S65536x3072 .bf16) (ix2 r j) = proj (tab2 x) (tab1 g) (tab2 w) r.val (pick j.val) := by
  have h := fun r j => ref_col x g w r j
  pointwise [Cert.EvenInRefIdeal.Read.val_main_v20, Cert.EvenInRefIdeal.Read.val_main_v19, Cert.EvenInRefIdeal.Read.val_main_v18,
    Cert.EvenInRefIdeal.Read.val_main_v16, Cert.EvenInRefIdeal.Read.val_main_v14, h]
  unfold pick
  split_ifs <;> first | omega | exact congrArg (proj (tab2 x) (tab1 g) (tab2 w) r.val) (by omega)

/-- The reference's decay and gates at an index. -/
theorem ref_gate (x : FVec Ideal S65536x1024 .f32) (g : FVec Ideal S1024 .f32) (w : FVec Ideal S1024x3592 .f32) (r : Fin 65536) (j : Fin 640) :
    (Cert.EvenInRefIdeal.Read.val_main_v22 (F := Ideal) x g w : FVec Ideal S65536x640 .f32) (ix2 r j) = proj (tab2 x) (tab1 g) (tab2 w) r.val (gatePick j.val) := by
  have h := fun r j => ref_col x g w r j
  pointwise [Cert.EvenInRefIdeal.Read.val_main_v22, Cert.EvenInRefIdeal.Read.val_main_v21, Cert.EvenInRefIdeal.Read.val_main_cst_2, Cert.EvenInRefIdeal.Read.val_main_v17,
    Cert.EvenInRefIdeal.Read.val_main_v15, h, bits_zero]
  unfold gatePick
  split_ifs <;> first | omega | exact congrArg (proj (tab2 x) (tab1 g) (tab2 w) r.val) (by omega) | exact (proj_past (tab2 x) (tab1 g) w r.val 3592 le_rfl).symm

/-- The normalised rows of a point's row tile. -/
theorem rows_at (r k : Fin 1024) :
    (k0_pay1 (iblk m c 0 (base t)) (iblk m c 1 (base t)) : FVec Ideal S1024x1024 .bf16) (ix2 r k) = rms (tok m c (1024 * (t.val / 2) + r.val)) (gain m c) k.val := by
  have e : (base t).val / 2 = t.val / 2 := by simp only [base]; omega
  rw [← e]
  exact Cert.SsmIn.Val.norm_at (iblk m c 0 (base t)) (iblk m c 1 (base t)) r k _ _ (blk0_at m c (base t) r) (blk1_at m c (base t))

/-- THE MAIN COLUMNS the kernel leaves. -/
theorem result_main : (dats m 0 c).arrAt 4 cfg0.N = mainArr m c := by
  refine (dats m 0 c).arrAt_eq_of_covers 4 _ (by decide +kernel) fun t hf y => ?_
  blk_simp
  rw [after_o]
  obtain ⟨r, j, rfl⟩ : ∃ (r : Fin 1024) (j : Fin 1536), y = ix2 r j := ⟨y 0, y 1, by funext a; match a with | ⟨0, _⟩ => rfl | ⟨1, _⟩ => rfl⟩
  have hn := fun k => rows_at m c t r k
  have hp : (cols m c t : FVec Ideal S1024x1536 .bf16) (ix2 r j)
      = proj (tok m c) (gain m c) (wts m c) (1024 * (t.val / 2) + r.val) (pick (1536 * (t.val % 2) + j.val)) := by
    pointwise [cols, kept, k0_pay2, k0_pay4, hn, blk2_at]
    rfl
  refine hp.trans ?_
  unfold mainArr
  blk_simp [(where_blk t).2.2.2.2.1]
  simp only [mul_comm]

/-- THE DECAY AND THE GATES the kernel leaves. -/
theorem result_gate : (dats m 0 c).arrAt 5 cfg0.N = gateArr m c := by
  refine (dats m 0 c).arrAt_eq_of_covers 5 _ (by decide +kernel) fun t hf y => ?_
  blk_simp
  rw [after_og]
  obtain ⟨r, j, rfl⟩ : ∃ (r : Fin 1024) (j : Fin 640), y = ix2 r j := ⟨y 0, y 1, by funext a; match a with | ⟨0, _⟩ => rfl | ⟨1, _⟩ => rfl⟩
  have hn := fun k => rows_at m c t r k
  have hp : (gates m c t : FVec Ideal S1024x640 .f32) (ix2 r j)
      = proj (tok m c) (gain m c) (wts m c) (1024 * (t.val / 2) + r.val) (gatePick j.val) := by
    pointwise [gates, k0_pay3, hn, blk3_at]
    rfl
  refine hp.trans ?_
  unfold gateArr
  blk_simp [(where_blk t).2.2.2.2.2]
  simp only [mul_comm]

/-- The arrays every execution of the kernel leaves. -/
theorem results (ρ : Dev nD → PrngReg) : θ_run defs (onTc (τ := τ) (main (F := Ideal))) ⟨m, fun _ => 0, ρ⟩ (fun r => ∀ c : Dev nD,
      r.2.mem ((c.tc : Thread nD τ).loc main_v14_0) = mainArr m c
      ∧ r.2.mem ((c.tc : Thread nD τ).loc main_v14_1) = gateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 4).trans (result_main m c), ((h.1.1 c).1 5).trans (result_gate m c), h.2.1 c⟩)
    (θ_run_and (launch m ρ) (run m ρ))

end Cert.EvenIn.Val

end
-- ==== Proof.lean ====
/- The certificate's proof: the frames of the kernel, of its idealization and of the reference are read off the generated runs,
   the named constant is the rule's own statement, and the value claim is that the kernel's result and the reference's are both
   the forgetting attention of the arguments (Proof/Whole.lean, Proof/RefAt.lean). -/
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Pre_finite
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_finite2
public import proofs.«01_k».proof.Proof.Gen.PostIdeal.Value
public import proofs.«01_k».proof.Proof.Gen.PostRefIdeal.Run
public import proofs.«01_k».proof.Proof.Gen.PostRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.OddIdeal.Value
public import proofs.«01_k».proof.Proof.Gen.OddRefIdeal
public import proofs.«01_k».proof.Proof.Gen.OddRefIdeal.Run
public import proofs.«01_k».proof.Proof.Gen.OddRefIdeal.Read
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInRefIdeal
public import proofs.«01_k».proof.Proof.Gen.SsmInRefIdeal.Run
public import proofs.«01_k».proof.Proof.Gen.SsmInRefIdeal.Read
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.MemIn
public import proofs.«01_k».proof.Proof.Gen.MemIn.Skeleton
public import proofs.«01_k».proof.Proof.Gen.MemIn.Launch
public import proofs.«01_k».proof.Proof.Gen.MemIn.Points
public import proofs.«01_k».proof.Proof.Gen.MemIn.Frame
public import proofs.«01_k».proof.Proof.Gen.MemInIdeal
public import proofs.«01_k».proof.Proof.Gen.MemInIdeal.Skeleton
public import proofs.«01_k».proof.Proof.Gen.MemInIdeal.Launch
public import proofs.«01_k».proof.Proof.Gen.MemInIdeal.Points
public import proofs.«01_k».proof.Proof.Gen.MemInIdeal.Frame
public import proofs.«01_k».proof.Proof.Gen.MemInIdeal.Value
public import proofs.«01_k».proof.Proof.Gen.MemInRefIdeal
public import proofs.«01_k».proof.Proof.Gen.MemInRefIdeal.Run
public import proofs.«01_k».proof.Proof.Gen.MemInRefIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Pre_finite3
public import proofs.«01_k».proof.Proof.Whole
public import proofs.«01_k».proof.Proof.RefAt
public import proofs.«01_k».proof.Proof.Real
public import proofs.«01_k».proof.Proof.PostPoint
public import proofs.«01_k».proof.Proof.PostRef
public import proofs.«01_k».proof.Proof.LastPoint
public import proofs.«01_k».proof.Proof.OddPoint
public import proofs.«01_k».proof.Proof.OddRef
public import proofs.«01_k».proof.Proof.MemPoint
public import proofs.«01_k».proof.Proof.SsmSame
public import proofs.«01_k».proof.Proof.SsmPoint
public import proofs.«01_k».proof.Proof.EvenSame
public import proofs.«01_k».proof.Proof.GatesPoint
public import proofs.«01_k».proof.Proof.EvenPoint
public import Idealize.ShloMosaic.Adequacy
public import Idealize.ShloMosaic.Init

@[expose] public section

noncomputable section

namespace Cert.Proof

open Idealize.ShloMosaic Idealize.SL.Sem Cert.Fox

/-- The kernel runs, leaves its arguments and ends with its counters at zero. -/
theorem frame_p : Cert.quiescent_Fox := fun m ρ _ => Cert.Fox.Gen.frame m ρ

/-- So does its idealization. -/
theorem frame_pi : Cert.quiescent_FoxIdeal := fun m ρ _ => Cert.FoxIdeal.Gen.frame m ρ

/-- The reference runs, leaves its arguments and has no counters. -/
theorem frame_ref (m : (ℓ : Loc Cert.FoxRefIdeal.nD Cert.FoxRefIdeal.τ Cert.FoxRefIdeal.sig) → Buf (Elt Ideal) ℓ) (ρ : Dev Cert.FoxRefIdeal.nD → PrngReg) :
    θ_run (Cert.FoxRefIdeal.defs (F := Ideal)) (onTc (τ := Cert.FoxRefIdeal.τ) (Cert.FoxRefIdeal.main (F := Ideal))) ⟨m, fun _ => 0, ρ⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0) :=
  (θ_run Cert.FoxRefIdeal.defs _ _).mono (fun r h => ⟨fun c => (h c).2, sem_eq_zero_of_no_sems (by decide) r.2⟩)
    (Cert.FoxRefIdeal.Value.run (F := Ideal) m ρ)

/-- Each rewrite names the mask's constant, which stands for minus infinity. -/
theorem preserves : Cert.preserves_Fox_FoxIdeal := IdealRules.named_const.statement Cert.FoxIdeal.κ "mask" .f32 0xF149F2CA#32 ⊥ rfl

/-- The projections in a memory, as extended reals. -/
def projOf (m : (ℓ : Loc Cert.FoxIdeal.nD Cert.FoxIdeal.τ Cert.FoxIdeal.sig) → Buf (Elt Ideal) ℓ) (c : Dev Cert.FoxIdeal.nD) : Shape.Idx ⟨2, ![65536, 3072]⟩ → EReal :=
  m ((c.tc : Thread Cert.FoxIdeal.nD Cert.FoxIdeal.τ).loc Cert.FoxIdeal.main_arg0)

/-- The cumulative gates in a memory, as extended reals. -/
def gateOf (m : (ℓ : Loc Cert.FoxIdeal.nD Cert.FoxIdeal.τ Cert.FoxIdeal.sig) → Buf (Elt Ideal) ℓ) (c : Dev Cert.FoxIdeal.nD) : Shape.Idx ⟨2, ![65536, 8]⟩ → EReal :=
  m ((c.tc : Thread Cert.FoxIdeal.nD Cert.FoxIdeal.τ).loc Cert.FoxIdeal.main_arg1)

/-- From finite arguments the idealized kernel and the reference both end with the forgetting attention of the arguments. -/
theorem algebraic : Cert.algebraic_FoxIdeal_FoxRefIdeal_pre_finite := by
  intro m ρ m' ρ' hpre hagree
  have t0 : ∀ c j, projOf m c j = (Cert.Online.table (projOf m c) (j 0).val (j 1).val : EReal) := fun c =>
    Cert.Online.table_at _ fun j => Cert.Online.real_of_abs_lt _ (lt_of_lt_of_eq (Cert.Online.of_cmp_lt _ _ (congrFun (hpre c).1 j)) Cert.Online.top_bits)
  have t1 : ∀ c j, gateOf m c j = (Cert.Online.table (gateOf m c) (j 0).val (j 1).val : EReal) := fun c =>
    Cert.Online.table_at _ fun j => Cert.Online.real_of_abs_lt _ (lt_of_lt_of_eq (Cert.Online.of_cmp_lt _ _ (congrFun (hpre c).2 j)) Cert.Online.top_bits)
  refine ⟨fun c => Cert.FoxIdeal.Val.attArr (Cert.Online.table (projOf m c)) (Cert.Online.table (gateOf m c)), ?_, ?_⟩
  · exact (θ_run Cert.FoxIdeal.defs _ _).mono
      (fun r h c => ⟨(h c).1.trans (Cert.FoxIdeal.Val.result m c _ _ (fun i k => t0 c (ix2 i k)) (fun i k => t1 c (ix2 i k))), (h c).2⟩)
      (Cert.FoxIdeal.Value.run_blocks (F := Ideal) m ρ)
  · refine (θ_run Cert.FoxRefIdeal.defs _ _).mono (fun r h c => ⟨(h c).1.trans ?_, (h c).2⟩) (Cert.FoxRefIdeal.Value.run (F := Ideal) m' ρ')
    rw [Cert.FoxRefIdeal.Read.val_main_v39_eq, (hagree c).1, (hagree c).2]
    funext j
    exact Cert.FoxRefIdeal.Val.result (projOf m c) (gateOf m c) _ _ (t0 c) (t1 c) j

/-- The reference of the part after the mixer runs, leaves its arguments and has no counters. -/
theorem frame_ref2 : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- Each rewrite names the scores' constant, which stands for one over the square root of a head's width. -/
theorem preserves2 : Cert.preserves_Post_PostIdeal := IdealRules.named_const.statement Cert.PostIdeal.κ "scale" .f32 0x3DB504F3#32 (((Real.sqrt 128)⁻¹ : ℝ) : EReal) rfl

/-- From finite arguments the idealized kernel and the reference both end with the layer's part after the mixer. -/
theorem algebraic2 : Cert.algebraic_PostIdeal_PostRefIdeal_pre_finite2 := by
  intro m ρ m' ρ' hpre hagree
  refine ⟨fun c => Cert.PostIdeal.Val.layerArr m c, ?_, ?_⟩
  · exact (θ_run Cert.PostIdeal.defs _ _).mono (fun r h c => ⟨(h c).1.trans (Cert.PostIdeal.Val.result m c), (h c).2⟩)
      (Cert.PostIdeal.Value.run_blocks (F := Ideal) m ρ)
  · refine (θ_run Cert.PostRefIdeal.defs _ _).mono (fun r h c => ⟨(h c).1.trans ?_, (h c).2⟩) (Cert.PostRefIdeal.Value.run (F := Ideal) m' ρ')
    obtain ⟨a0, a1, a2, a3, a4, a5, a6, a7, a8, a9, a10, -⟩ := hagree c
    obtain ⟨p0, p1, p2, p3, p4, p5, p6⟩ := hpre c
    rw [Cert.PostRefIdeal.Read.val_main_v59_eq, a0, a1, a2, a3, a4, a5, a6, a7, a8, a9, a10]
    have fin := fun {x y : EReal} (h : Ideal.cmp .olt x y = 1#1) (e : y = ⊤) => lt_of_lt_of_eq (Cert.Online.of_cmp_lt _ _ h) e
    have r0 := Cert.Post.tab2_real _ fun j => Cert.Post.real_of_lt (fin (congrFun p0 j) Cert.Online.top_bits)
    have r1 := Cert.Post.tab2_real _ fun j => Cert.Post.real_of_lt (fin (congrFun p1 j) Cert.Online.top_bits)
    have r2 := Cert.Post.tab2_real _ fun j => Cert.Post.real_of_lt (fin (congrFun p2 j) Cert.Online.top_bits)
    have r3 := Cert.Post.tab2_real _ fun j => Cert.Post.real_of_lt (fin (congrFun p3 j) Cert.Online.top_bits)
    have r4 := Cert.Post.tab1_real _ fun j => Cert.Post.real_of_lt (fin (congrFun p4 j) Cert.Online.top_bits)
    have r5 := Cert.Post.tab2_real _ fun j => Cert.Post.real_of_lt (fin (congrFun p5 j) Cert.Online.top_bits)
    have r6 := Cert.Post.tab2_real _ fun j => Cert.Post.real_of_lt (fin (congrFun p6 j) Cert.Online.top_bits)
    rw [Cert.PostRefIdeal.Val.val_eq]
    funext i
    obtain ⟨r, j, rfl⟩ : ∃ (r : Fin 65536) (j : Fin 1024), i = ix2 r j := ⟨i 0, i 1, eq_ix2 i⟩
    exact Cert.PostRefIdeal.Val.layerR_at _ _ _ _ _ _ _ _ r j _ _ _ _ _ _ _ _
      (fun r j => Cert.PostRefIdeal.Val.mix_at _ _ _ _ r j _ _ _ _ (Cert.Post.tab2_at _) (Cert.Post.tab2_at _) (Cert.Post.tab2_at _) (Cert.Post.tab2_at _))
      (Cert.Post.tab1_at _) (Cert.Post.tab2_at _) (Cert.Post.tab2_at _) (Cert.Post.tab2_at _) (Cert.Post.tab1_at _) (Cert.Post.tab2_at _) (Cert.Post.tab2_at _)
      (fun j _ => Cert.Post.mix2_real r0 r1 r2 r3 r.val j) r4 r5 r6

/-- The reference of the last layer's part after the mixer runs, leaves its arguments and has no counters. -/
theorem frame_ref3 : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- Each rewrite names the scores' constant, as in an even layer. -/
theorem preserves3 : Cert.preserves_Last_LastIdeal := IdealRules.named_const.statement Cert.LastIdeal.κ "scale" .f32 0x3DB504F3#32 (((Real.sqrt 128)⁻¹ : ℝ) : EReal) rfl

/-- From finite arguments the idealized kernel and the reference both end with the last layer's part after the mixer, normalised. -/
theorem algebraic3 : Cert.algebraic_LastIdeal_LastRefIdeal_pre_finite3 := by
  intro m ρ m' ρ' hpre hagree
  refine ⟨fun c => Cert.LastIdeal.Val.layerArr m c, ?_, ?_⟩
  · exact (θ_run Cert.LastIdeal.defs _ _).mono (fun r h c => ⟨(h c).1.trans (Cert.LastIdeal.Val.result m c), (h c).2⟩)
      (Cert.LastIdeal.Value.run_blocks (F := Ideal) m ρ)
  · refine (θ_run Cert.LastRefIdeal.defs _ _).mono (fun r h c => ⟨(h c).1.trans ?_, (h c).2⟩) (Cert.LastRefIdeal.Value.run (F := Ideal) m' ρ')
    obtain ⟨a0, a1, a2, a3, a4, a5, a6, a7, a8, a9, a10⟩ := hagree c
    obtain ⟨p0, p1, p2, p3, p4, p5⟩ := hpre c
    have fin := fun {x y : EReal} (h : Ideal.cmp .olt x y = 1#1) (e : y = ⊤) => lt_of_lt_of_eq (Cert.Online.of_cmp_lt _ _ h) e
    rw [Cert.LastRefIdeal.Read.val_main_v71_eq]
    simp only [a0, a1, a2, a3, a4, a5, a6, a7, a8, a9, a10]
    rw [Cert.OddRefIdeal.Val.last_eq]
    funext i
    obtain ⟨r, j, rfl⟩ : ∃ (r : Fin 65536) (j : Fin 1024), i = ix2 r j := ⟨i 0, i 1, eq_ix2 i⟩
    exact Cert.OddRefIdeal.Val.last_at _ _ _ _ _ _ _ _ _ _ _ (fun j => Cert.Post.real_of_lt (fin (congrFun p0 j) Cert.Online.top_bits)) (fun j => Cert.Post.real_of_lt (fin (congrFun p1 j) Cert.Online.top_bits))
      (fun j => Cert.Post.real_of_lt (fin (congrFun p2 j) Cert.Online.top_bits)) (fun j => Cert.Post.real_of_lt (fin (congrFun p3 j) Cert.Online.top_bits)) (fun j => Cert.Post.real_of_lt (fin (congrFun p4 j) Cert.Online.top_bits))
      (fun j => Cert.Post.real_of_lt (fin (congrFun p5 j) Cert.Online.top_bits)) r j

/-- The reference of an odd layer's part after the mixer runs, leaves its arguments and has no counters. -/
theorem frame_ref4 : Cert.quiescent_OddRefIdeal := fun m ρ _ =>
  (θ_run Cert.OddRefIdeal.defs _ _).mono (fun r h => ⟨fun c => (h c).2, sem_eq_zero_of_no_sems (by decide) r.2⟩)
    (Cert.OddRefIdeal.Value.run (F := Ideal) m ρ)

/-- Each rewrite names the scores' constant, as in an even layer. -/
theorem preserves4 : Cert.preserves_Odd_OddIdeal := IdealRules.named_const.statement Cert.OddIdeal.κ "scale" .f32 0x3DB504F3#32 (((Real.sqrt 128)⁻¹ : ℝ) : EReal) rfl

/-- From finite arguments the idealized kernel and the reference both end with an odd layer's part after the mixer. -/
theorem algebraic4 : Cert.algebraic_OddIdeal_OddRefIdeal_pre_finite3 := by
  intro m ρ m' ρ' hpre hagree
  refine ⟨fun c => Cert.OddIdeal.Val.layerArr m c, ?_, ?_⟩
  · exact (θ_run Cert.OddIdeal.defs _ _).mono (fun r h c => ⟨(h c).1.trans (Cert.OddIdeal.Val.result m c), (h c).2⟩)
      (Cert.OddIdeal.Value.run_blocks (F := Ideal) m ρ)
  · refine (θ_run Cert.OddRefIdeal.defs _ _).mono (fun r h c => ⟨(h c).1.trans ?_, (h c).2⟩) (Cert.OddRefIdeal.Value.run (F := Ideal) m' ρ')
    obtain ⟨a0, a1, a2, a3, a4, a5, a6, a7, a8, a9, -⟩ := hagree c
    obtain ⟨p0, p1, p2, p3, p4, p5⟩ := hpre c
    have fin := fun {x y : EReal} (h : Ideal.cmp .olt x y = 1#1) (e : y = ⊤) => lt_of_lt_of_eq (Cert.Online.of_cmp_lt _ _ h) e
    rw [Cert.OddRefIdeal.Read.val_main_v58_eq, a0, a1, a2, a3, a4, a5, a6, a7, a8, a9, Cert.OddRefIdeal.Val.odd_eq]
    funext i
    obtain ⟨r, j, rfl⟩ : ∃ (r : Fin 65536) (j : Fin 1024), i = ix2 r j := ⟨i 0, i 1, eq_ix2 i⟩
    exact Cert.OddRefIdeal.Val.odd_at _ _ _ _ _ _ _ _ _ _ (fun j => Cert.Post.real_of_lt (fin (congrFun p0 j) Cert.Online.top_bits)) (fun j => Cert.Post.real_of_lt (fin (congrFun p1 j) Cert.Online.top_bits))
      (fun j => Cert.Post.real_of_lt (fin (congrFun p2 j) Cert.Online.top_bits)) (fun j => Cert.Post.real_of_lt (fin (congrFun p3 j) Cert.Online.top_bits)) (fun j => Cert.Post.real_of_lt (fin (congrFun p4 j) Cert.Online.top_bits))
      (fun j => Cert.Post.real_of_lt (fin (congrFun p5 j) Cert.Online.top_bits)) r j

/-- The reference of the state-space layer's input projection runs, leaves its arguments and has no counters. -/
theorem frame_ref5 : Cert.quiescent_SsmInRefIdeal := fun m ρ _ =>
  (θ_run Cert.SsmInRefIdeal.defs _ _).mono (fun r h => ⟨fun c => (h c).2.2, sem_eq_zero_of_no_sems (by decide) r.2⟩)
    (Cert.SsmInRefIdeal.Value.run (F := Ideal) m ρ)

/-- The idealized kernel and the reference both end with the state-space layer's projections and its gates. -/
theorem algebraic5 : Cert.algebraic_SsmInIdeal_SsmInRefIdeal := by
  intro m ρ m' ρ' _ hagree
  refine ⟨fun c => Cert.SsmIn.Val.mainArr m c, fun c => Cert.SsmIn.Val.gateArr m c, ?_, ?_⟩
  · exact Cert.SsmIn.Hand.carry _ _ (Cert.SsmIn.Val.results m ρ)
  · refine (θ_run Cert.SsmInRefIdeal.defs _ _).mono (fun r h c => ⟨(h c).1.trans ?_, (h c).2.1.trans ?_, (h c).2.2⟩) (Cert.SsmInRefIdeal.Value.run (F := Ideal) m' ρ')
    all_goals obtain ⟨a0, a1, a2⟩ := hagree c
    · rw [Cert.SsmInRefIdeal.Read.val_main_v15_eq, a0, a1, a2]
      funext i
      obtain ⟨r, j, rfl⟩ : ∃ (r : Fin 65536) (j : Fin 6144), i = ix2 r j := ⟨i 0, i 1, eq_ix2 i⟩
      exact Cert.SsmIn.Val.ref_main _ _ _ r j
    · rw [Cert.SsmInRefIdeal.Read.val_main_v17_eq, a0, a1, a2]
      funext i
      obtain ⟨r, j, rfl⟩ : ∃ (r : Fin 65536) (j : Fin 128), i = ix2 r j := ⟨i 0, i 1, eq_ix2 i⟩
      exact Cert.SsmIn.Val.ref_gate _ _ _ r j

/-- The reference of an even layer's input projection runs, leaves its arguments and has no counters. -/
theorem frame_ref6 : Cert.quiescent_EvenInRefIdeal := fun m ρ _ =>
  (θ_run Cert.EvenInRefIdeal.defs _ _).mono (fun r h => ⟨fun c => (h c).2.2, sem_eq_zero_of_no_sems (by decide) r.2⟩)
    (Cert.EvenInRefIdeal.Value.run (F := Ideal) m ρ)

/-- The idealized kernel and the reference both end with an even layer's projections and its gates. -/
theorem algebraic6 : Cert.algebraic_EvenInIdeal_EvenInRefIdeal := by
  intro m ρ m' ρ' _ hagree
  refine ⟨fun c => Cert.EvenIn.Val.mainArr m c, fun c => Cert.EvenIn.Val.gateArr m c, ?_, ?_⟩
  · exact Cert.EvenIn.Hand.carry _ _ (Cert.EvenIn.Val.results m ρ)
  · refine (θ_run Cert.EvenInRefIdeal.defs _ _).mono (fun r h c => ⟨(h c).1.trans ?_, (h c).2.1.trans ?_, (h c).2.2⟩) (Cert.EvenInRefIdeal.Value.run (F := Ideal) m' ρ')
    all_goals obtain ⟨a0, a1, a2⟩ := hagree c
    · rw [Cert.EvenInRefIdeal.Read.val_main_v20_eq, a0, a1, a2]
      funext i
      obtain ⟨r, j, rfl⟩ : ∃ (r : Fin 65536) (j : Fin 3072), i = ix2 r j := ⟨i 0, i 1, eq_ix2 i⟩
      exact Cert.EvenIn.Val.ref_main _ _ _ r j
    · rw [Cert.EvenInRefIdeal.Read.val_main_v22_eq, a0, a1, a2]
      funext i
      obtain ⟨r, j, rfl⟩ : ∃ (r : Fin 65536) (j : Fin 640), i = ix2 r j := ⟨i 0, i 1, eq_ix2 i⟩
      exact Cert.EvenIn.Val.ref_gate _ _ _ r j

/-- The reference of the memory's keys and values runs, leaves its arguments and has no counters. -/
theorem frame_ref7 : Cert.quiescent_MemInRefIdeal := fun m ρ _ =>
  (θ_run Cert.MemInRefIdeal.defs _ _).mono (fun r h => ⟨fun c => (h c).2, sem_eq_zero_of_no_sems (by decide) r.2⟩)
    (Cert.MemInRefIdeal.Value.run (F := Ideal) m ρ)

/-- The idealized kernel and the reference both end with the memory's keys and values. -/
theorem algebraic7 : Cert.algebraic_MemInIdeal_MemInRefIdeal := by
  intro m ρ m' ρ' _ hagree
  refine ⟨fun c => Cert.MemInIdeal.Val.projArr m c, ?_, ?_⟩
  · exact (θ_run Cert.MemInIdeal.defs _ _).mono (fun r h c => ⟨(h c).1.trans (Cert.MemInIdeal.Val.result m c), (h c).2⟩)
      (Cert.MemInIdeal.Value.run_blocks (F := Ideal) m ρ)
  · refine (θ_run Cert.MemInRefIdeal.defs _ _).mono (fun r h c => ⟨(h c).1.trans ?_, (h c).2⟩) (Cert.MemInRefIdeal.Value.run (F := Ideal) m' ρ')
    obtain ⟨a0, a1, a2⟩ := hagree c
    rw [Cert.MemInRefIdeal.Read.val_main_v14_eq, a0, a1, a2]
    funext i
    obtain ⟨r, j, rfl⟩ : ∃ (r : Fin 8192) (j : Fin 1024), i = ix2 r j := ⟨i 0, i 1, eq_ix2 i⟩
    exact Cert.MemInIdeal.Val.ref_at _ _ _ r j

/-- The reference of the gates' sums runs, leaves its arguments and has no counters. -/
theorem frame_ref8 : Cert.quiescent_GatesRefIdeal := fun m ρ _ =>
  (θ_run Cert.GatesRefIdeal.defs _ _).mono (fun r h => ⟨fun c => (h c).2.2, sem_eq_zero_of_no_sems (by decide) r.2⟩)
    (Cert.GatesRefIdeal.Value.run (F := Ideal) m ρ)

/-- Each rewrite names the constant that turns a sum into base two. -/
theorem preserves8 : Cert.preserves_Gates_GatesIdeal := IdealRules.named_const.statement Cert.GatesIdeal.κ "log2e" .f32 0x3FB8AA3B#32 (((Real.log 2)⁻¹ : ℝ) : EReal) rfl

/-- The idealized kernel and the reference both end with the gates' cumulative sums and the heads' rows of them. -/
theorem algebraic8 : Cert.algebraic_GatesIdeal_GatesRefIdeal := by
  intro m ρ m' ρ' _ hagree
  refine ⟨fun c => Cert.GatesIdeal.Val.sumArr (Cert.GatesIdeal.Val.args m c), fun c => Cert.GatesIdeal.Val.headArr (Cert.GatesIdeal.Val.args m c), Cert.GatesIdeal.Val.results m ρ, ?_⟩
  refine (θ_run Cert.GatesRefIdeal.defs _ _).mono (fun r h c => ⟨(h c).1.trans ?_, (h c).2.1.trans ?_, (h c).2.2⟩) (Cert.GatesRefIdeal.Value.run (F := Ideal) m' ρ')
  all_goals obtain ⟨a0, a1⟩ := hagree c
  · rw [Cert.GatesRefIdeal.Read.val_main_v11_eq, a0, a1]
    exact Cert.GatesIdeal.Val.ref_sumArr _ _
  · rw [Cert.GatesRefIdeal.Read.val_main_v13_eq, a0, a1]
    exact Cert.GatesIdeal.Val.ref_headArr _ _

/-- Everything the certificate claims. -/
theorem claim : Cert.Claim := ⟨Cert.Fox.Gen.facts, Cert.FoxIdeal.Gen.facts, Cert.FoxRefIdeal.Gen.facts, Cert.Post.Gen.facts, Cert.PostIdeal.Gen.facts, Cert.PostRefIdeal.Gen.facts,
  Cert.Last.Gen.facts, Cert.LastIdeal.Gen.facts, Cert.LastRefIdeal.Gen.facts, Cert.Odd.Gen.facts, Cert.OddIdeal.Gen.facts, Cert.OddRefIdeal.Gen.facts,
  Cert.SsmIn.Gen.facts, Cert.SsmInIdeal.Gen.facts, Cert.SsmInRefIdeal.Gen.facts, Cert.EvenIn.Gen.facts, Cert.EvenInIdeal.Gen.facts, Cert.EvenInRefIdeal.Gen.facts,
  Cert.MemIn.Gen.facts, Cert.MemInIdeal.Gen.facts, Cert.MemInRefIdeal.Gen.facts,
  Cert.Gates.Gen.facts, Cert.GatesIdeal.Gen.facts, Cert.GatesRefIdeal.Gen.facts,
  Cert.Pre_finite.Gen.facts, Cert.Pre_finite2.Gen.facts, Cert.Pre_finite3.Gen.facts,
  frame_p, frame_pi, fun m ρ _ => Cert.FoxIdeal.Gen.frame m ρ, fun m ρ _ => frame_ref m ρ, fun m ρ _ => frame_ref m ρ,
  fun m ρ _ => Cert.Post.Gen.frame m ρ, fun m ρ _ => Cert.PostIdeal.Gen.frame m ρ, fun m ρ _ => Cert.PostIdeal.Gen.frame m ρ, frame_ref2, fun m ρ _ => frame_ref2 m ρ trivial,
  fun m ρ _ => Cert.Last.Gen.frame m ρ, fun m ρ _ => Cert.LastIdeal.Gen.frame m ρ, fun m ρ _ => Cert.LastIdeal.Gen.frame m ρ, frame_ref3, fun m ρ _ => frame_ref3 m ρ trivial,
  fun m ρ _ => Cert.Odd.Gen.frame m ρ, fun m ρ _ => Cert.OddIdeal.Gen.frame m ρ, fun m ρ _ => Cert.OddIdeal.Gen.frame m ρ, frame_ref4, fun m ρ _ => frame_ref4 m ρ trivial,
  fun m ρ _ => Cert.SsmIn.Hand.run (F := Bits) m ρ, fun m ρ _ => Cert.SsmIn.Hand.carry _ _ (Cert.SsmIn.Hand.run (F := Ideal) m ρ), frame_ref5,
  fun m ρ _ => Cert.EvenIn.Hand.run (F := Bits) m ρ, fun m ρ _ => Cert.EvenIn.Hand.carry _ _ (Cert.EvenIn.Hand.run (F := Ideal) m ρ), frame_ref6,
  fun m ρ _ => Cert.MemIn.Gen.frame m ρ, fun m ρ _ => Cert.MemInIdeal.Gen.frame m ρ, frame_ref7,
  fun m ρ _ => Cert.Gates.Gen.frame m ρ, fun m ρ _ => Cert.GatesIdeal.Gen.frame m ρ, frame_ref8,
  preserves, algebraic, preserves2, algebraic2, preserves3, algebraic3, preserves4, algebraic4, trivial, algebraic5, trivial, algebraic6, trivial, algebraic7, preserves8, algebraic8⟩

end Cert.Proof

end
